-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v575) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S4096x480 : Shape := ⟨2, ![4096, 480]⟩
abbrev S256x480 : Shape := ⟨2, ![256, 480]⟩
abbrev S256 : Shape := ⟨1, ![256]⟩
abbrev S5x1024x256 : Shape := ⟨3, ![5, 1024, 256]⟩
abbrev S5x512x1x4 : Shape := ⟨4, ![5, 512, 1, 4]⟩
abbrev S5x512 : Shape := ⟨2, ![5, 512]⟩
abbrev S5x48x512 : Shape := ⟨3, ![5, 48, 512]⟩
abbrev S5x512x16 : Shape := ⟨3, ![5, 512, 16]⟩
abbrev S5x256x512 : Shape := ⟨3, ![5, 256, 512]⟩
abbrev S8x256 : Shape := ⟨2, ![8, 256]⟩
abbrev S8 : Shape := ⟨1, ![8]⟩
abbrev S_ : Shape := ⟨0, ![]⟩
abbrev S4096x256 : Shape := ⟨2, ![4096, 256]⟩
abbrev S1x256 : Shape := ⟨2, ![1, 256]⟩
abbrev S1x1024x256 : Shape := ⟨3, ![1, 1024, 256]⟩
abbrev S1024x256 : Shape := ⟨2, ![1024, 256]⟩
abbrev S4096x1024 : Shape := ⟨2, ![4096, 1024]⟩
abbrev S4096x512 : Shape := ⟨2, ![4096, 512]⟩
abbrev S1x512x1x1 : Shape := ⟨4, ![1, 512, 1, 1]⟩
abbrev S512 : Shape := ⟨1, ![512]⟩
abbrev S1x512 : Shape := ⟨2, ![1, 512]⟩
abbrev S1x48x512 : Shape := ⟨3, ![1, 48, 512]⟩
abbrev S48x512 : Shape := ⟨2, ![48, 512]⟩
abbrev S4096x48 : Shape := ⟨2, ![4096, 48]⟩
abbrev S4096x16 : Shape := ⟨2, ![4096, 16]⟩
abbrev S1x512x16 : Shape := ⟨3, ![1, 512, 16]⟩
abbrev S512x16 : Shape := ⟨2, ![512, 16]⟩
abbrev S4096 : Shape := ⟨1, ![4096]⟩
abbrev S4096x1 : Shape := ⟨2, ![4096, 1]⟩
abbrev S1x256x512 : Shape := ⟨3, ![1, 256, 512]⟩
abbrev S256x512 : Shape := ⟨2, ![256, 512]⟩

class Facts : Prop where
  bcast_S_S4096x480 : S_.BroadcastsInDim S4096x480 (![] : Fin 0 → Fin S4096x480.rank)
  bcast_S_S256x480 : S_.BroadcastsInDim S256x480 (![] : Fin 0 → Fin S256x480.rank)
  bcast_S_S5x1024x256 : S_.BroadcastsInDim S5x1024x256 (![] : Fin 0 → Fin S5x1024x256.rank)
  bcast_S_S5x512x1x4 : S_.BroadcastsInDim S5x512x1x4 (![] : Fin 0 → Fin S5x512x1x4.rank)
  bcast_S_S5x48x512 : S_.BroadcastsInDim S5x48x512 (![] : Fin 0 → Fin S5x48x512.rank)
  bcast_S_S5x512x16 : S_.BroadcastsInDim S5x512x16 (![] : Fin 0 → Fin S5x512x16.rank)
  bcast_S_S5x256x512 : S_.BroadcastsInDim S5x256x512 (![] : Fin 0 → Fin S5x256x512.rank)
  bcast_S_S8x256 : S_.BroadcastsInDim S8x256 (![] : Fin 0 → Fin S8x256.rank)
  bcast_S_S256 : S_.BroadcastsInDim S256 (![] : Fin 0 → Fin S256.rank)
  bcast_S_S5x512 : S_.BroadcastsInDim S5x512 (![] : Fin 0 → Fin S5x512.rank)
  bcast_S_S8 : S_.BroadcastsInDim S8 (![] : Fin 0 → Fin S8.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  slices_S5x1024x256_S1x1024x256_0_0_0 : S5x1024x256.Slices ![0, 0, 0] S1x1024x256
  shapeCasts_S1x1024x256_S1024x256 : S1x1024x256.ShapeCasts S1024x256
  slices_S4096x1024_S4096x512_0_0 : S4096x1024.Slices ![0, 0] S4096x512
  slices_S5x512x1x4_S1x512x1x1_0_0_0_3 : S5x512x1x4.Slices ![0, 0, 0, 3] S1x512x1x1
  shapeCasts_S1x512x1x1_S512 : S1x512x1x1.ShapeCasts S512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  slices_S5x512_S1x512_0_0 : S5x512.Slices ![0, 0] S1x512
  shapeCasts_S1x512_S512 : S1x512.ShapeCasts S512
  slices_S4096x1024_S4096x512_0_512 : S4096x1024.Slices ![0, 512] S4096x512
  bcast_S_S4096x512 : S_.BroadcastsInDim S4096x512 (![] : Fin 0 → Fin S4096x512.rank)
  slices_S5x48x512_S1x48x512_0_0_0 : S5x48x512.Slices ![0, 0, 0] S1x48x512
  shapeCasts_S1x48x512_S48x512 : S1x48x512.ShapeCasts S48x512
  slices_S4096x48_S4096x16_0_0 : S4096x48.Slices ![0, 0] S4096x16
  slices_S5x512x16_S1x512x16_0_0_0 : S5x512x16.Slices ![0, 0, 0] S1x512x16
  shapeCasts_S1x512x16_S512x16 : S1x512x16.ShapeCasts S512x16
  slices_S4096x48_S4096x16_0_16 : S4096x48.Slices ![0, 16] S4096x16
  slices_S4096x48_S4096x16_0_32 : S4096x48.Slices ![0, 32] S4096x16
  reducesTo_S4096x16_S4096_d1 : S4096x16.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  slices_S5x256x512_S1x256x512_0_0_0 : S5x256x512.Slices ![0, 0, 0] S1x256x512
  shapeCasts_S1x256x512_S256x512 : S1x256x512.ShapeCasts S256x512
  slices_S5x1024x256_S1x1024x256_1_0_0 : S5x1024x256.Slices ![1, 0, 0] S1x1024x256
  slices_S5x512x1x4_S1x512x1x1_1_0_0_3 : S5x512x1x4.Slices ![1, 0, 0, 3] S1x512x1x1
  slices_S5x512_S1x512_1_0 : S5x512.Slices ![1, 0] S1x512
  slices_S5x48x512_S1x48x512_1_0_0 : S5x48x512.Slices ![1, 0, 0] S1x48x512
  slices_S5x512x16_S1x512x16_1_0_0 : S5x512x16.Slices ![1, 0, 0] S1x512x16
  slices_S5x256x512_S1x256x512_1_0_0 : S5x256x512.Slices ![1, 0, 0] S1x256x512
  slices_S5x1024x256_S1x1024x256_2_0_0 : S5x1024x256.Slices ![2, 0, 0] S1x1024x256
  slices_S5x512x1x4_S1x512x1x1_2_0_0_3 : S5x512x1x4.Slices ![2, 0, 0, 3] S1x512x1x1
  slices_S5x512_S1x512_2_0 : S5x512.Slices ![2, 0] S1x512
  slices_S5x48x512_S1x48x512_2_0_0 : S5x48x512.Slices ![2, 0, 0] S1x48x512
  slices_S5x512x16_S1x512x16_2_0_0 : S5x512x16.Slices ![2, 0, 0] S1x512x16
  slices_S5x256x512_S1x256x512_2_0_0 : S5x256x512.Slices ![2, 0, 0] S1x256x512
  slices_S5x1024x256_S1x1024x256_3_0_0 : S5x1024x256.Slices ![3, 0, 0] S1x1024x256
  slices_S5x512x1x4_S1x512x1x1_3_0_0_3 : S5x512x1x4.Slices ![3, 0, 0, 3] S1x512x1x1
  slices_S5x512_S1x512_3_0 : S5x512.Slices ![3, 0] S1x512
  slices_S5x48x512_S1x48x512_3_0_0 : S5x48x512.Slices ![3, 0, 0] S1x48x512
  slices_S5x512x16_S1x512x16_3_0_0 : S5x512x16.Slices ![3, 0, 0] S1x512x16
  slices_S5x256x512_S1x256x512_3_0_0 : S5x256x512.Slices ![3, 0, 0] S1x256x512
  slices_S5x1024x256_S1x1024x256_4_0_0 : S5x1024x256.Slices ![4, 0, 0] S1x1024x256
  slices_S5x512x1x4_S1x512x1x1_4_0_0_3 : S5x512x1x4.Slices ![4, 0, 0, 3] S1x512x1x1
  slices_S5x512_S1x512_4_0 : S5x512.Slices ![4, 0] S1x512
  slices_S5x48x512_S1x48x512_4_0_0 : S5x48x512.Slices ![4, 0, 0] S1x48x512
  slices_S5x512x16_S1x512x16_4_0_0 : S5x512x16.Slices ![4, 0, 0] S1x512x16
  dot_S4096x480_S256x480_S4096x256_1_1_0_0_n_n_wf : DotDims.WF S4096x480 S256x480 S4096x256 [1] [1] [0] [0] [] []
  dot_S4096x256_S1024x256_S4096x1024_1_1_0_0_n_n_wf : DotDims.WF S4096x256 S1024x256 S4096x1024 [1] [1] [0] [0] [] []
  dot_S4096x512_S48x512_S4096x48_1_1_0_0_n_n_wf : DotDims.WF S4096x512 S48x512 S4096x48 [1] [1] [0] [0] [] []
  dot_S4096x16_S512x16_S4096x512_1_1_0_0_n_n_wf : DotDims.WF S4096x16 S512x16 S4096x512 [1] [1] [0] [0] [] []
  dot_S4096x512_S256x512_S4096x256_1_1_0_0_n_n_wf : DotDims.WF S4096x512 S256x512 S4096x256 [1] [1] [0] [0] [] []

variable [Facts]

def dot_S4096x480_S256x480_S4096x256_1_1_0_0_n_n : DotDims S4096x480 S256x480 S4096x256 where
  lhsContracting := [1]
  rhsContracting := [1]
  lhsNonContracting := [0]
  rhsNonContracting := [0]
  lhsBatch := []
  rhsBatch := []
  wf := dot_S4096x480_S256x480_S4096x256_1_1_0_0_n_n_wf
def dot_S4096x256_S1024x256_S4096x1024_1_1_0_0_n_n : DotDims S4096x256 S1024x256 S4096x1024 where
  lhsContracting := [1]
  rhsContracting := [1]
  lhsNonContracting := [0]
  rhsNonContracting := [0]
  lhsBatch := []
  rhsBatch := []
  wf := dot_S4096x256_S1024x256_S4096x1024_1_1_0_0_n_n_wf
def dot_S4096x512_S48x512_S4096x48_1_1_0_0_n_n : DotDims S4096x512 S48x512 S4096x48 where
  lhsContracting := [1]
  rhsContracting := [1]
  lhsNonContracting := [0]
  rhsNonContracting := [0]
  lhsBatch := []
  rhsBatch := []
  wf := dot_S4096x512_S48x512_S4096x48_1_1_0_0_n_n_wf
def dot_S4096x16_S512x16_S4096x512_1_1_0_0_n_n : DotDims S4096x16 S512x16 S4096x512 where
  lhsContracting := [1]
  rhsContracting := [1]
  lhsNonContracting := [0]
  rhsNonContracting := [0]
  lhsBatch := []
  rhsBatch := []
  wf := dot_S4096x16_S512x16_S4096x512_1_1_0_0_n_n_wf
def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf
def fn_part15 {F : FTy → Type} [FloatOps F] (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v136 : FVec F S4096x512 .f32) (main_v197 : FVec F S4096x512 .f32) (main_v258 : FVec F S4096x512 .f32) (main_v319 : FVec F S4096x512 .f32) (main_v321 : IVec S4096x512 1) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_cst_37 : FVec F S_ .f32 := constant S_ .f32 0x41F00000#32
  let main_v322 : FVec F S4096x512 .f32 := broadcastInDim S4096x512 ![] bcast_S_S4096x512 main_cst_37
  let main_v323 : IVec S4096x512 1 := cmpf .ole main_v136 main_v322
  let main_cst_38 : FVec F S_ .f32 := constant S_ .f32 0x41F00000#32
  let main_v324 : FVec F S4096x512 .f32 := broadcastInDim S4096x512 ![] bcast_S_S4096x512 main_cst_38
  let main_v325 : IVec S4096x512 1 := cmpf .ole main_v197 main_v324
  let main_cst_39 : FVec F S_ .f32 := constant S_ .f32 0x41F00000#32
  let main_v326 : FVec F S4096x512 .f32 := broadcastInDim S4096x512 ![] bcast_S_S4096x512 main_cst_39
  let main_v327 : IVec S4096x512 1 := cmpf .ole main_v258 main_v326
  let main_cst_40 : FVec F S_ .f32 := constant S_ .f32 0x41F00000#32
  let main_v328 : FVec F S4096x512 .f32 := broadcastInDim S4096x512 ![] bcast_S_S4096x512 main_cst_40
  let main_v329 : IVec S4096x512 1 := cmpf .ole main_v319 main_v328
  (main_v2, main_v5, main_v8, main_v11, main_v14, main_v17, main_v20, main_v23, main_v25, main_v27, main_v29, main_v31, main_v33, main_v35, main_v37, main_v321, main_v323, main_v325, main_v327, main_v329)

def fn_part14 {F : FTy → Type} [FloatOps F] (main_arg6 : FVec F S5x48x512 .f32) (main_arg7 : FVec F S5x512x16 .f32) (main_arg8 : FVec F S5x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v75 : FVec F S4096x512 .f32) (main_v136 : FVec F S4096x512 .f32) (main_v197 : FVec F S4096x512 .f32) (main_v258 : FVec F S4096x512 .f32) (main_v299 : FVec F S4096x512 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v301 : FVec F S4096x512 .f32 := Host.negf main_v299
  let main_v302 : FVec F S4096x512 .f32 := Host.exp main_v301
  let main_cst_34 : FVec F S_ .f32 := constant S_ .f32 0x3F800000#32
  let main_v303 : FVec F S4096x512 .f32 := broadcastInDim S4096x512 ![] bcast_S_S4096x512 main_cst_34
  let main_v304 : FVec F S4096x512 .f32 := addf main_v303 main_v302
  let main_cst_35 : FVec F S_ .f32 := constant S_ .f32 0x3F800000#32
  let main_v305 : FVec F S4096x512 .f32 := broadcastInDim S4096x512 ![] bcast_S_S4096x512 main_cst_35
  let main_v306 : FVec F S4096x512 .f32 := Host.divf main_v305 main_v304
  let main_v307 : FVec F S4096x512 .f32 := mulf main_v299 main_v306
  let main_v308 : FVec F S1x48x512 .f32 := (extractStridedSlice S1x48x512 ![4, 0, 0] · slices_S5x48x512_S1x48x512_4_0_0) main_arg6
  let main_v309 : FVec F S48x512 .f32 := shapeCast S48x512 main_v308 shapeCasts_S1x48x512_S48x512
  let main_v310 : FVec F S4096x48 .f32 := (fun l r => Host.dotGeneral dot_S4096x512_S48x512_S4096x48_1_1_0_0_n_n none l r) main_v307 main_v309
  let main_v311 : FVec F S4096x16 .f32 := (extractStridedSlice S4096x16 ![0, 0] · slices_S4096x48_S4096x16_0_0) main_v310
  let main_v312 : FVec F S1x512x16 .f32 := (extractStridedSlice S1x512x16 ![4, 0, 0] · slices_S5x512x16_S1x512x16_4_0_0) main_arg7
  let main_v313 : FVec F S512x16 .f32 := shapeCast S512x16 main_v312 shapeCasts_S1x512x16_S512x16
  let main_v314 : FVec F S4096x512 .f32 := (fun l r => Host.dotGeneral dot_S4096x16_S512x16_S4096x512_1_1_0_0_n_n none l r) main_v311 main_v313
  let main_v315 : FVec F S1x512 .f32 := (extractStridedSlice S1x512 ![4, 0] · slices_S5x512_S1x512_4_0) main_arg8
  let main_v316 : FVec F S512 .f32 := shapeCast S512 main_v315 shapeCasts_S1x512_S512
  let main_v317 : FVec F S1x512 .f32 := broadcastInDim S1x512 ![1] bcast_S512_S1x512_1 main_v316
  let main_v318 : FVec F S4096x512 .f32 := broadcastInDim S4096x512 ![0, 1] bcast_S1x512_S4096x512_0_1 main_v317
  let main_v319 : FVec F S4096x512 .f32 := addf main_v314 main_v318
  let main_cst_36 : FVec F S_ .f32 := constant S_ .f32 0x41F00000#32
  let main_v320 : FVec F S4096x512 .f32 := broadcastInDim S4096x512 ![] bcast_S_S4096x512 main_cst_36
  let main_v321 : IVec S4096x512 1 := cmpf .ole main_v75 main_v320
  fn_part15 (F := F) main_v2 main_v5 main_v8 main_v11 main_v14 main_v17 main_v20 main_v23 main_v25 main_v27 main_v29 main_v31 main_v33 main_v35 main_v37 main_v136 main_v197 main_v258 main_v319 main_v321

def fn_part13 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v75 : FVec F S4096x512 .f32) (main_v136 : FVec F S4096x512 .f32) (main_v197 : FVec F S4096x512 .f32) (main_v224 : FVec F S4096x256 .f32) (main_v239 : FVec F S4096x512 .f32) (main_v258 : FVec F S4096x512 .f32) (main_v273 : FVec F S4096x512 .f32) (main_v277 : FVec F S4096x512 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_cst_33 : FVec F S_ .f32 := constant S_ .f32 0x3F800000#32
  let main_v278 : FVec F S4096x512 .f32 := broadcastInDim S4096x512 ![] bcast_S_S4096x512 main_cst_33
  let main_v279 : FVec F S4096x512 .f32 := Host.divf main_v278 main_v277
  let main_v280 : FVec F S4096x512 .f32 := mulf main_v239 main_v279
  let main_v281 : FVec F S4096x512 .f32 := mulf main_v273 main_v280
  let main_v282 : FVec F S1x256x512 .f32 := (extractStridedSlice S1x256x512 ![3, 0, 0] · slices_S5x256x512_S1x256x512_3_0_0) main_arg11
  let main_v283 : FVec F S256x512 .f32 := shapeCast S256x512 main_v282 shapeCasts_S1x256x512_S256x512
  let main_v284 : FVec F S4096x256 .f32 := (fun l r => Host.dotGeneral dot_S4096x512_S256x512_S4096x256_1_1_0_0_n_n none l r) main_v281 main_v283
  let main_v285 : FVec F S4096x256 .f32 := addf main_v224 main_v284
  let main_v286 : FVec F S1x1024x256 .f32 := (extractStridedSlice S1x1024x256 ![4, 0, 0] · slices_S5x1024x256_S1x1024x256_4_0_0) main_arg3
  let main_v287 : FVec F S1024x256 .f32 := shapeCast S1024x256 main_v286 shapeCasts_S1x1024x256_S1024x256
  let main_v288 : FVec F S4096x1024 .f32 := (fun l r => Host.dotGeneral dot_S4096x256_S1024x256_S4096x1024_1_1_0_0_n_n none l r) main_v285 main_v287
  let main_v289 : FVec F S4096x512 .f32 := (extractStridedSlice S4096x512 ![0, 0] · slices_S4096x1024_S4096x512_0_0) main_v288
  let main_v290 : FVec F S1x512x1x1 .f32 := (extractStridedSlice S1x512x1x1 ![4, 0, 0, 3] · slices_S5x512x1x4_S1x512x1x1_4_0_0_3) main_arg4
  let main_v291 : FVec F S512 .f32 := shapeCast S512 main_v290 shapeCasts_S1x512x1x1_S512
  let main_v292 : FVec F S1x512 .f32 := broadcastInDim S1x512 ![1] bcast_S512_S1x512_1 main_v291
  let main_v293 : FVec F S4096x512 .f32 := broadcastInDim S4096x512 ![0, 1] bcast_S1x512_S4096x512_0_1 main_v292
  let main_v294 : FVec F S4096x512 .f32 := mulf main_v289 main_v293
  let main_v295 : FVec F S1x512 .f32 := (extractStridedSlice S1x512 ![4, 0] · slices_S5x512_S1x512_4_0) main_arg5
  let main_v296 : FVec F S512 .f32 := shapeCast S512 main_v295 shapeCasts_S1x512_S512
  let main_v297 : FVec F S1x512 .f32 := broadcastInDim S1x512 ![1] bcast_S512_S1x512_1 main_v296
  let main_v298 : FVec F S4096x512 .f32 := broadcastInDim S4096x512 ![0, 1] bcast_S1x512_S4096x512_0_1 main_v297
  let main_v299 : FVec F S4096x512 .f32 := addf main_v294 main_v298
  let main_v300 : FVec F S4096x512 .f32 := (extractStridedSlice S4096x512 ![0, 512] · slices_S4096x1024_S4096x512_0_512) main_v288
  fn_part14 (F := F) main_arg6 main_arg7 main_arg8 main_v2 main_v5 main_v8 main_v11 main_v14 main_v17 main_v20 main_v23 main_v25 main_v27 main_v29 main_v31 main_v33 main_v35 main_v37 main_v75 main_v136 main_v197 main_v258 main_v299

def fn_part12 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v75 : FVec F S4096x512 .f32) (main_v136 : FVec F S4096x512 .f32) (main_v197 : FVec F S4096x512 .f32) (main_v224 : FVec F S4096x256 .f32) (main_v239 : FVec F S4096x512 .f32) (main_v246 : FVec F S4096x512 .f32) (main_v249 : FVec F S4096x48 .f32) (main_v253 : FVec F S4096x512 .f32) (main_v255 : FVec F S512 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v256 : FVec F S1x512 .f32 := broadcastInDim S1x512 ![1] bcast_S512_S1x512_1 main_v255
  let main_v257 : FVec F S4096x512 .f32 := broadcastInDim S4096x512 ![0, 1] bcast_S1x512_S4096x512_0_1 main_v256
  let main_v258 : FVec F S4096x512 .f32 := addf main_v253 main_v257
  let main_v259 : FVec F S4096x16 .f32 := (extractStridedSlice S4096x16 ![0, 16] · slices_S4096x48_S4096x16_0_16) main_v249
  let main_v260 : FVec F S4096x16 .f32 := (extractStridedSlice S4096x16 ![0, 32] · slices_S4096x48_S4096x16_0_32) main_v249
  let main_v261 : FVec F S4096x16 .f32 := mulf main_v259 main_v260
  let main_cst_31 : FVec F S_ .f32 := constant S_ .f32 0x00000000#32
  let main_v262 : FVec F S4096 .f32 := (fun x v => Host.reduceAdd x v reducesTo_S4096x16_S4096_d1 h_S_) main_v261 main_cst_31
  let main_v263 : FVec F S4096x512 .f32 := Host.exp main_v258
  let main_v264 : FVec F S4096x512 .f32 := Host.log1p main_v263
  let main_v265 : FVec F S4096x1 .f32 := broadcastInDim S4096x1 ![0] bcast_S4096_S4096x1_0 main_v262
  let main_v266 : FVec F S4096x512 .f32 := broadcastInDim S4096x512 ![0, 1] bcast_S4096x1_S4096x512_0_1 main_v265
  let main_v267 : FVec F S4096x512 .f32 := mulf main_v264 main_v266
  let main_v268 : FVec F S1x512 .f32 := (extractStridedSlice S1x512 ![3, 0] · slices_S5x512_S1x512_3_0) main_arg10
  let main_v269 : FVec F S512 .f32 := shapeCast S512 main_v268 shapeCasts_S1x512_S512
  let main_v270 : FVec F S1x512 .f32 := broadcastInDim S1x512 ![1] bcast_S512_S1x512_1 main_v269
  let main_v271 : FVec F S4096x512 .f32 := broadcastInDim S4096x512 ![0, 1] bcast_S1x512_S4096x512_0_1 main_v270
  let main_v272 : FVec F S4096x512 .f32 := addf main_v267 main_v271
  let main_v273 : FVec F S4096x512 .f32 := mulf main_v246 main_v272
  let main_v274 : FVec F S4096x512 .f32 := Host.negf main_v239
  let main_v275 : FVec F S4096x512 .f32 := Host.exp main_v274
  let main_cst_32 : FVec F S_ .f32 := constant S_ .f32 0x3F800000#32
  let main_v276 : FVec F S4096x512 .f32 := broadcastInDim S4096x512 ![] bcast_S_S4096x512 main_cst_32
  let main_v277 : FVec F S4096x512 .f32 := addf main_v276 main_v275
  fn_part13 (F := F) main_arg3 main_arg4 main_arg5 main_arg6 main_arg7 main_arg8 main_arg11 main_v2 main_v5 main_v8 main_v11 main_v14 main_v17 main_v20 main_v23 main_v25 main_v27 main_v29 main_v31 main_v33 main_v35 main_v37 main_v75 main_v136 main_v197 main_v224 main_v239 main_v258 main_v273 main_v277

def fn_part11 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v75 : FVec F S4096x512 .f32) (main_v136 : FVec F S4096x512 .f32) (main_v197 : FVec F S4096x512 .f32) (main_v224 : FVec F S4096x256 .f32) (main_v227 : FVec F S4096x1024 .f32) (main_v233 : FVec F S4096x512 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v234 : FVec F S1x512 .f32 := (extractStridedSlice S1x512 ![3, 0] · slices_S5x512_S1x512_3_0) main_arg5
  let main_v235 : FVec F S512 .f32 := shapeCast S512 main_v234 shapeCasts_S1x512_S512
  let main_v236 : FVec F S1x512 .f32 := broadcastInDim S1x512 ![1] bcast_S512_S1x512_1 main_v235
  let main_v237 : FVec F S4096x512 .f32 := broadcastInDim S4096x512 ![0, 1] bcast_S1x512_S4096x512_0_1 main_v236
  let main_v238 : FVec F S4096x512 .f32 := addf main_v233 main_v237
  let main_v239 : FVec F S4096x512 .f32 := (extractStridedSlice S4096x512 ![0, 512] · slices_S4096x1024_S4096x512_0_512) main_v227
  let main_v240 : FVec F S4096x512 .f32 := Host.negf main_v238
  let main_v241 : FVec F S4096x512 .f32 := Host.exp main_v240
  let main_cst_29 : FVec F S_ .f32 := constant S_ .f32 0x3F800000#32
  let main_v242 : FVec F S4096x512 .f32 := broadcastInDim S4096x512 ![] bcast_S_S4096x512 main_cst_29
  let main_v243 : FVec F S4096x512 .f32 := addf main_v242 main_v241
  let main_cst_30 : FVec F S_ .f32 := constant S_ .f32 0x3F800000#32
  let main_v244 : FVec F S4096x512 .f32 := broadcastInDim S4096x512 ![] bcast_S_S4096x512 main_cst_30
  let main_v245 : FVec F S4096x512 .f32 := Host.divf main_v244 main_v243
  let main_v246 : FVec F S4096x512 .f32 := mulf main_v238 main_v245
  let main_v247 : FVec F S1x48x512 .f32 := (extractStridedSlice S1x48x512 ![3, 0, 0] · slices_S5x48x512_S1x48x512_3_0_0) main_arg6
  let main_v248 : FVec F S48x512 .f32 := shapeCast S48x512 main_v247 shapeCasts_S1x48x512_S48x512
  let main_v249 : FVec F S4096x48 .f32 := (fun l r => Host.dotGeneral dot_S4096x512_S48x512_S4096x48_1_1_0_0_n_n none l r) main_v246 main_v248
  let main_v250 : FVec F S4096x16 .f32 := (extractStridedSlice S4096x16 ![0, 0] · slices_S4096x48_S4096x16_0_0) main_v249
  let main_v251 : FVec F S1x512x16 .f32 := (extractStridedSlice S1x512x16 ![3, 0, 0] · slices_S5x512x16_S1x512x16_3_0_0) main_arg7
  let main_v252 : FVec F S512x16 .f32 := shapeCast S512x16 main_v251 shapeCasts_S1x512x16_S512x16
  let main_v253 : FVec F S4096x512 .f32 := (fun l r => Host.dotGeneral dot_S4096x16_S512x16_S4096x512_1_1_0_0_n_n none l r) main_v250 main_v252
  let main_v254 : FVec F S1x512 .f32 := (extractStridedSlice S1x512 ![3, 0] · slices_S5x512_S1x512_3_0) main_arg8
  let main_v255 : FVec F S512 .f32 := shapeCast S512 main_v254 shapeCasts_S1x512_S512
  fn_part12 (F := F) main_arg3 main_arg4 main_arg5 main_arg6 main_arg7 main_arg8 main_arg10 main_arg11 main_v2 main_v5 main_v8 main_v11 main_v14 main_v17 main_v20 main_v23 main_v25 main_v27 main_v29 main_v31 main_v33 main_v35 main_v37 main_v75 main_v136 main_v197 main_v224 main_v239 main_v246 main_v249 main_v253 main_v255

def fn_part10 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v75 : FVec F S4096x512 .f32) (main_v136 : FVec F S4096x512 .f32) (main_v163 : FVec F S4096x256 .f32) (main_v178 : FVec F S4096x512 .f32) (main_v185 : FVec F S4096x512 .f32) (main_v197 : FVec F S4096x512 .f32) (main_v211 : FVec F S4096x512 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v212 : FVec F S4096x512 .f32 := mulf main_v185 main_v211
  let main_v213 : FVec F S4096x512 .f32 := Host.negf main_v178
  let main_v214 : FVec F S4096x512 .f32 := Host.exp main_v213
  let main_cst_27 : FVec F S_ .f32 := constant S_ .f32 0x3F800000#32
  let main_v215 : FVec F S4096x512 .f32 := broadcastInDim S4096x512 ![] bcast_S_S4096x512 main_cst_27
  let main_v216 : FVec F S4096x512 .f32 := addf main_v215 main_v214
  let main_cst_28 : FVec F S_ .f32 := constant S_ .f32 0x3F800000#32
  let main_v217 : FVec F S4096x512 .f32 := broadcastInDim S4096x512 ![] bcast_S_S4096x512 main_cst_28
  let main_v218 : FVec F S4096x512 .f32 := Host.divf main_v217 main_v216
  let main_v219 : FVec F S4096x512 .f32 := mulf main_v178 main_v218
  let main_v220 : FVec F S4096x512 .f32 := mulf main_v212 main_v219
  let main_v221 : FVec F S1x256x512 .f32 := (extractStridedSlice S1x256x512 ![2, 0, 0] · slices_S5x256x512_S1x256x512_2_0_0) main_arg11
  let main_v222 : FVec F S256x512 .f32 := shapeCast S256x512 main_v221 shapeCasts_S1x256x512_S256x512
  let main_v223 : FVec F S4096x256 .f32 := (fun l r => Host.dotGeneral dot_S4096x512_S256x512_S4096x256_1_1_0_0_n_n none l r) main_v220 main_v222
  let main_v224 : FVec F S4096x256 .f32 := addf main_v163 main_v223
  let main_v225 : FVec F S1x1024x256 .f32 := (extractStridedSlice S1x1024x256 ![3, 0, 0] · slices_S5x1024x256_S1x1024x256_3_0_0) main_arg3
  let main_v226 : FVec F S1024x256 .f32 := shapeCast S1024x256 main_v225 shapeCasts_S1x1024x256_S1024x256
  let main_v227 : FVec F S4096x1024 .f32 := (fun l r => Host.dotGeneral dot_S4096x256_S1024x256_S4096x1024_1_1_0_0_n_n none l r) main_v224 main_v226
  let main_v228 : FVec F S4096x512 .f32 := (extractStridedSlice S4096x512 ![0, 0] · slices_S4096x1024_S4096x512_0_0) main_v227
  let main_v229 : FVec F S1x512x1x1 .f32 := (extractStridedSlice S1x512x1x1 ![3, 0, 0, 3] · slices_S5x512x1x4_S1x512x1x1_3_0_0_3) main_arg4
  let main_v230 : FVec F S512 .f32 := shapeCast S512 main_v229 shapeCasts_S1x512x1x1_S512
  let main_v231 : FVec F S1x512 .f32 := broadcastInDim S1x512 ![1] bcast_S512_S1x512_1 main_v230
  let main_v232 : FVec F S4096x512 .f32 := broadcastInDim S4096x512 ![0, 1] bcast_S1x512_S4096x512_0_1 main_v231
  let main_v233 : FVec F S4096x512 .f32 := mulf main_v228 main_v232
  fn_part11 (F := F) main_arg3 main_arg4 main_arg5 main_arg6 main_arg7 main_arg8 main_arg10 main_arg11 main_v2 main_v5 main_v8 main_v11 main_v14 main_v17 main_v20 main_v23 main_v25 main_v27 main_v29 main_v31 main_v33 main_v35 main_v37 main_v75 main_v136 main_v197 main_v224 main_v227 main_v233

def fn_part9 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v75 : FVec F S4096x512 .f32) (main_v136 : FVec F S4096x512 .f32) (main_v163 : FVec F S4096x256 .f32) (main_v178 : FVec F S4096x512 .f32) (main_v185 : FVec F S4096x512 .f32) (main_v188 : FVec F S4096x48 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v189 : FVec F S4096x16 .f32 := (extractStridedSlice S4096x16 ![0, 0] · slices_S4096x48_S4096x16_0_0) main_v188
  let main_v190 : FVec F S1x512x16 .f32 := (extractStridedSlice S1x512x16 ![2, 0, 0] · slices_S5x512x16_S1x512x16_2_0_0) main_arg7
  let main_v191 : FVec F S512x16 .f32 := shapeCast S512x16 main_v190 shapeCasts_S1x512x16_S512x16
  let main_v192 : FVec F S4096x512 .f32 := (fun l r => Host.dotGeneral dot_S4096x16_S512x16_S4096x512_1_1_0_0_n_n none l r) main_v189 main_v191
  let main_v193 : FVec F S1x512 .f32 := (extractStridedSlice S1x512 ![2, 0] · slices_S5x512_S1x512_2_0) main_arg8
  let main_v194 : FVec F S512 .f32 := shapeCast S512 main_v193 shapeCasts_S1x512_S512
  let main_v195 : FVec F S1x512 .f32 := broadcastInDim S1x512 ![1] bcast_S512_S1x512_1 main_v194
  let main_v196 : FVec F S4096x512 .f32 := broadcastInDim S4096x512 ![0, 1] bcast_S1x512_S4096x512_0_1 main_v195
  let main_v197 : FVec F S4096x512 .f32 := addf main_v192 main_v196
  let main_v198 : FVec F S4096x16 .f32 := (extractStridedSlice S4096x16 ![0, 16] · slices_S4096x48_S4096x16_0_16) main_v188
  let main_v199 : FVec F S4096x16 .f32 := (extractStridedSlice S4096x16 ![0, 32] · slices_S4096x48_S4096x16_0_32) main_v188
  let main_v200 : FVec F S4096x16 .f32 := mulf main_v198 main_v199
  let main_cst_26 : FVec F S_ .f32 := constant S_ .f32 0x00000000#32
  let main_v201 : FVec F S4096 .f32 := (fun x v => Host.reduceAdd x v reducesTo_S4096x16_S4096_d1 h_S_) main_v200 main_cst_26
  let main_v202 : FVec F S4096x512 .f32 := Host.exp main_v197
  let main_v203 : FVec F S4096x512 .f32 := Host.log1p main_v202
  let main_v204 : FVec F S4096x1 .f32 := broadcastInDim S4096x1 ![0] bcast_S4096_S4096x1_0 main_v201
  let main_v205 : FVec F S4096x512 .f32 := broadcastInDim S4096x512 ![0, 1] bcast_S4096x1_S4096x512_0_1 main_v204
  let main_v206 : FVec F S4096x512 .f32 := mulf main_v203 main_v205
  let main_v207 : FVec F S1x512 .f32 := (extractStridedSlice S1x512 ![2, 0] · slices_S5x512_S1x512_2_0) main_arg10
  let main_v208 : FVec F S512 .f32 := shapeCast S512 main_v207 shapeCasts_S1x512_S512
  let main_v209 : FVec F S1x512 .f32 := broadcastInDim S1x512 ![1] bcast_S512_S1x512_1 main_v208
  let main_v210 : FVec F S4096x512 .f32 := broadcastInDim S4096x512 ![0, 1] bcast_S1x512_S4096x512_0_1 main_v209
  let main_v211 : FVec F S4096x512 .f32 := addf main_v206 main_v210
  fn_part10 (F := F) main_arg3 main_arg4 main_arg5 main_arg6 main_arg7 main_arg8 main_arg10 main_arg11 main_v2 main_v5 main_v8 main_v11 main_v14 main_v17 main_v20 main_v23 main_v25 main_v27 main_v29 main_v31 main_v33 main_v35 main_v37 main_v75 main_v136 main_v163 main_v178 main_v185 main_v197 main_v211

def fn_part8 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v75 : FVec F S4096x512 .f32) (main_v136 : FVec F S4096x512 .f32) (main_v163 : FVec F S4096x256 .f32) (main_v166 : FVec F S4096x1024 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v167 : FVec F S4096x512 .f32 := (extractStridedSlice S4096x512 ![0, 0] · slices_S4096x1024_S4096x512_0_0) main_v166
  let main_v168 : FVec F S1x512x1x1 .f32 := (extractStridedSlice S1x512x1x1 ![2, 0, 0, 3] · slices_S5x512x1x4_S1x512x1x1_2_0_0_3) main_arg4
  let main_v169 : FVec F S512 .f32 := shapeCast S512 main_v168 shapeCasts_S1x512x1x1_S512
  let main_v170 : FVec F S1x512 .f32 := broadcastInDim S1x512 ![1] bcast_S512_S1x512_1 main_v169
  let main_v171 : FVec F S4096x512 .f32 := broadcastInDim S4096x512 ![0, 1] bcast_S1x512_S4096x512_0_1 main_v170
  let main_v172 : FVec F S4096x512 .f32 := mulf main_v167 main_v171
  let main_v173 : FVec F S1x512 .f32 := (extractStridedSlice S1x512 ![2, 0] · slices_S5x512_S1x512_2_0) main_arg5
  let main_v174 : FVec F S512 .f32 := shapeCast S512 main_v173 shapeCasts_S1x512_S512
  let main_v175 : FVec F S1x512 .f32 := broadcastInDim S1x512 ![1] bcast_S512_S1x512_1 main_v174
  let main_v176 : FVec F S4096x512 .f32 := broadcastInDim S4096x512 ![0, 1] bcast_S1x512_S4096x512_0_1 main_v175
  let main_v177 : FVec F S4096x512 .f32 := addf main_v172 main_v176
  let main_v178 : FVec F S4096x512 .f32 := (extractStridedSlice S4096x512 ![0, 512] · slices_S4096x1024_S4096x512_0_512) main_v166
  let main_v179 : FVec F S4096x512 .f32 := Host.negf main_v177
  let main_v180 : FVec F S4096x512 .f32 := Host.exp main_v179
  let main_cst_24 : FVec F S_ .f32 := constant S_ .f32 0x3F800000#32
  let main_v181 : FVec F S4096x512 .f32 := broadcastInDim S4096x512 ![] bcast_S_S4096x512 main_cst_24
  let main_v182 : FVec F S4096x512 .f32 := addf main_v181 main_v180
  let main_cst_25 : FVec F S_ .f32 := constant S_ .f32 0x3F800000#32
  let main_v183 : FVec F S4096x512 .f32 := broadcastInDim S4096x512 ![] bcast_S_S4096x512 main_cst_25
  let main_v184 : FVec F S4096x512 .f32 := Host.divf main_v183 main_v182
  let main_v185 : FVec F S4096x512 .f32 := mulf main_v177 main_v184
  let main_v186 : FVec F S1x48x512 .f32 := (extractStridedSlice S1x48x512 ![2, 0, 0] · slices_S5x48x512_S1x48x512_2_0_0) main_arg6
  let main_v187 : FVec F S48x512 .f32 := shapeCast S48x512 main_v186 shapeCasts_S1x48x512_S48x512
  let main_v188 : FVec F S4096x48 .f32 := (fun l r => Host.dotGeneral dot_S4096x512_S48x512_S4096x48_1_1_0_0_n_n none l r) main_v185 main_v187
  fn_part9 (F := F) main_arg3 main_arg4 main_arg5 main_arg6 main_arg7 main_arg8 main_arg10 main_arg11 main_v2 main_v5 main_v8 main_v11 main_v14 main_v17 main_v20 main_v23 main_v25 main_v27 main_v29 main_v31 main_v33 main_v35 main_v37 main_v75 main_v136 main_v163 main_v178 main_v185 main_v188

def fn_part7 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v75 : FVec F S4096x512 .f32) (main_v102 : FVec F S4096x256 .f32) (main_v117 : FVec F S4096x512 .f32) (main_v124 : FVec F S4096x512 .f32) (main_v136 : FVec F S4096x512 .f32) (main_v142 : FVec F S4096x512 .f32) (main_v144 : FVec F S4096x512 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v145 : FVec F S4096x512 .f32 := mulf main_v142 main_v144
  let main_v146 : FVec F S1x512 .f32 := (extractStridedSlice S1x512 ![1, 0] · slices_S5x512_S1x512_1_0) main_arg10
  let main_v147 : FVec F S512 .f32 := shapeCast S512 main_v146 shapeCasts_S1x512_S512
  let main_v148 : FVec F S1x512 .f32 := broadcastInDim S1x512 ![1] bcast_S512_S1x512_1 main_v147
  let main_v149 : FVec F S4096x512 .f32 := broadcastInDim S4096x512 ![0, 1] bcast_S1x512_S4096x512_0_1 main_v148
  let main_v150 : FVec F S4096x512 .f32 := addf main_v145 main_v149
  let main_v151 : FVec F S4096x512 .f32 := mulf main_v124 main_v150
  let main_v152 : FVec F S4096x512 .f32 := Host.negf main_v117
  let main_v153 : FVec F S4096x512 .f32 := Host.exp main_v152
  let main_cst_22 : FVec F S_ .f32 := constant S_ .f32 0x3F800000#32
  let main_v154 : FVec F S4096x512 .f32 := broadcastInDim S4096x512 ![] bcast_S_S4096x512 main_cst_22
  let main_v155 : FVec F S4096x512 .f32 := addf main_v154 main_v153
  let main_cst_23 : FVec F S_ .f32 := constant S_ .f32 0x3F800000#32
  let main_v156 : FVec F S4096x512 .f32 := broadcastInDim S4096x512 ![] bcast_S_S4096x512 main_cst_23
  let main_v157 : FVec F S4096x512 .f32 := Host.divf main_v156 main_v155
  let main_v158 : FVec F S4096x512 .f32 := mulf main_v117 main_v157
  let main_v159 : FVec F S4096x512 .f32 := mulf main_v151 main_v158
  let main_v160 : FVec F S1x256x512 .f32 := (extractStridedSlice S1x256x512 ![1, 0, 0] · slices_S5x256x512_S1x256x512_1_0_0) main_arg11
  let main_v161 : FVec F S256x512 .f32 := shapeCast S256x512 main_v160 shapeCasts_S1x256x512_S256x512
  let main_v162 : FVec F S4096x256 .f32 := (fun l r => Host.dotGeneral dot_S4096x512_S256x512_S4096x256_1_1_0_0_n_n none l r) main_v159 main_v161
  let main_v163 : FVec F S4096x256 .f32 := addf main_v102 main_v162
  let main_v164 : FVec F S1x1024x256 .f32 := (extractStridedSlice S1x1024x256 ![2, 0, 0] · slices_S5x1024x256_S1x1024x256_2_0_0) main_arg3
  let main_v165 : FVec F S1024x256 .f32 := shapeCast S1024x256 main_v164 shapeCasts_S1x1024x256_S1024x256
  let main_v166 : FVec F S4096x1024 .f32 := (fun l r => Host.dotGeneral dot_S4096x256_S1024x256_S4096x1024_1_1_0_0_n_n none l r) main_v163 main_v165
  fn_part8 (F := F) main_arg3 main_arg4 main_arg5 main_arg6 main_arg7 main_arg8 main_arg10 main_arg11 main_v2 main_v5 main_v8 main_v11 main_v14 main_v17 main_v20 main_v23 main_v25 main_v27 main_v29 main_v31 main_v33 main_v35 main_v37 main_v75 main_v136 main_v163 main_v166

def fn_part6 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v75 : FVec F S4096x512 .f32) (main_v102 : FVec F S4096x256 .f32) (main_v116 : FVec F S4096x512 .f32) (main_v117 : FVec F S4096x512 .f32) (main_v121 : FVec F S4096x512 .f32) (main_cst_20 : FVec F S_ .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v122 : FVec F S4096x512 .f32 := broadcastInDim S4096x512 ![] bcast_S_S4096x512 main_cst_20
  let main_v123 : FVec F S4096x512 .f32 := Host.divf main_v122 main_v121
  let main_v124 : FVec F S4096x512 .f32 := mulf main_v116 main_v123
  let main_v125 : FVec F S1x48x512 .f32 := (extractStridedSlice S1x48x512 ![1, 0, 0] · slices_S5x48x512_S1x48x512_1_0_0) main_arg6
  let main_v126 : FVec F S48x512 .f32 := shapeCast S48x512 main_v125 shapeCasts_S1x48x512_S48x512
  let main_v127 : FVec F S4096x48 .f32 := (fun l r => Host.dotGeneral dot_S4096x512_S48x512_S4096x48_1_1_0_0_n_n none l r) main_v124 main_v126
  let main_v128 : FVec F S4096x16 .f32 := (extractStridedSlice S4096x16 ![0, 0] · slices_S4096x48_S4096x16_0_0) main_v127
  let main_v129 : FVec F S1x512x16 .f32 := (extractStridedSlice S1x512x16 ![1, 0, 0] · slices_S5x512x16_S1x512x16_1_0_0) main_arg7
  let main_v130 : FVec F S512x16 .f32 := shapeCast S512x16 main_v129 shapeCasts_S1x512x16_S512x16
  let main_v131 : FVec F S4096x512 .f32 := (fun l r => Host.dotGeneral dot_S4096x16_S512x16_S4096x512_1_1_0_0_n_n none l r) main_v128 main_v130
  let main_v132 : FVec F S1x512 .f32 := (extractStridedSlice S1x512 ![1, 0] · slices_S5x512_S1x512_1_0) main_arg8
  let main_v133 : FVec F S512 .f32 := shapeCast S512 main_v132 shapeCasts_S1x512_S512
  let main_v134 : FVec F S1x512 .f32 := broadcastInDim S1x512 ![1] bcast_S512_S1x512_1 main_v133
  let main_v135 : FVec F S4096x512 .f32 := broadcastInDim S4096x512 ![0, 1] bcast_S1x512_S4096x512_0_1 main_v134
  let main_v136 : FVec F S4096x512 .f32 := addf main_v131 main_v135
  let main_v137 : FVec F S4096x16 .f32 := (extractStridedSlice S4096x16 ![0, 16] · slices_S4096x48_S4096x16_0_16) main_v127
  let main_v138 : FVec F S4096x16 .f32 := (extractStridedSlice S4096x16 ![0, 32] · slices_S4096x48_S4096x16_0_32) main_v127
  let main_v139 : FVec F S4096x16 .f32 := mulf main_v137 main_v138
  let main_cst_21 : FVec F S_ .f32 := constant S_ .f32 0x00000000#32
  let main_v140 : FVec F S4096 .f32 := (fun x v => Host.reduceAdd x v reducesTo_S4096x16_S4096_d1 h_S_) main_v139 main_cst_21
  let main_v141 : FVec F S4096x512 .f32 := Host.exp main_v136
  let main_v142 : FVec F S4096x512 .f32 := Host.log1p main_v141
  let main_v143 : FVec F S4096x1 .f32 := broadcastInDim S4096x1 ![0] bcast_S4096_S4096x1_0 main_v140
  let main_v144 : FVec F S4096x512 .f32 := broadcastInDim S4096x512 ![0, 1] bcast_S4096x1_S4096x512_0_1 main_v143
  fn_part7 (F := F) main_arg3 main_arg4 main_arg5 main_arg6 main_arg7 main_arg8 main_arg10 main_arg11 main_v2 main_v5 main_v8 main_v11 main_v14 main_v17 main_v20 main_v23 main_v25 main_v27 main_v29 main_v31 main_v33 main_v35 main_v37 main_v75 main_v102 main_v117 main_v124 main_v136 main_v142 main_v144

def fn_part5 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v41 : FVec F S4096x256 .f32) (main_v75 : FVec F S4096x512 .f32) (main_v98 : FVec F S4096x512 .f32) (main_v99 : FVec F S1x256x512 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v100 : FVec F S256x512 .f32 := shapeCast S256x512 main_v99 shapeCasts_S1x256x512_S256x512
  let main_v101 : FVec F S4096x256 .f32 := (fun l r => Host.dotGeneral dot_S4096x512_S256x512_S4096x256_1_1_0_0_n_n none l r) main_v98 main_v100
  let main_v102 : FVec F S4096x256 .f32 := addf main_v41 main_v101
  let main_v103 : FVec F S1x1024x256 .f32 := (extractStridedSlice S1x1024x256 ![1, 0, 0] · slices_S5x1024x256_S1x1024x256_1_0_0) main_arg3
  let main_v104 : FVec F S1024x256 .f32 := shapeCast S1024x256 main_v103 shapeCasts_S1x1024x256_S1024x256
  let main_v105 : FVec F S4096x1024 .f32 := (fun l r => Host.dotGeneral dot_S4096x256_S1024x256_S4096x1024_1_1_0_0_n_n none l r) main_v102 main_v104
  let main_v106 : FVec F S4096x512 .f32 := (extractStridedSlice S4096x512 ![0, 0] · slices_S4096x1024_S4096x512_0_0) main_v105
  let main_v107 : FVec F S1x512x1x1 .f32 := (extractStridedSlice S1x512x1x1 ![1, 0, 0, 3] · slices_S5x512x1x4_S1x512x1x1_1_0_0_3) main_arg4
  let main_v108 : FVec F S512 .f32 := shapeCast S512 main_v107 shapeCasts_S1x512x1x1_S512
  let main_v109 : FVec F S1x512 .f32 := broadcastInDim S1x512 ![1] bcast_S512_S1x512_1 main_v108
  let main_v110 : FVec F S4096x512 .f32 := broadcastInDim S4096x512 ![0, 1] bcast_S1x512_S4096x512_0_1 main_v109
  let main_v111 : FVec F S4096x512 .f32 := mulf main_v106 main_v110
  let main_v112 : FVec F S1x512 .f32 := (extractStridedSlice S1x512 ![1, 0] · slices_S5x512_S1x512_1_0) main_arg5
  let main_v113 : FVec F S512 .f32 := shapeCast S512 main_v112 shapeCasts_S1x512_S512
  let main_v114 : FVec F S1x512 .f32 := broadcastInDim S1x512 ![1] bcast_S512_S1x512_1 main_v113
  let main_v115 : FVec F S4096x512 .f32 := broadcastInDim S4096x512 ![0, 1] bcast_S1x512_S4096x512_0_1 main_v114
  let main_v116 : FVec F S4096x512 .f32 := addf main_v111 main_v115
  let main_v117 : FVec F S4096x512 .f32 := (extractStridedSlice S4096x512 ![0, 512] · slices_S4096x1024_S4096x512_0_512) main_v105
  let main_v118 : FVec F S4096x512 .f32 := Host.negf main_v116
  let main_v119 : FVec F S4096x512 .f32 := Host.exp main_v118
  let main_cst_19 : FVec F S_ .f32 := constant S_ .f32 0x3F800000#32
  let main_v120 : FVec F S4096x512 .f32 := broadcastInDim S4096x512 ![] bcast_S_S4096x512 main_cst_19
  let main_v121 : FVec F S4096x512 .f32 := addf main_v120 main_v119
  let main_cst_20 : FVec F S_ .f32 := constant S_ .f32 0x3F800000#32
  fn_part6 (F := F) main_arg3 main_arg4 main_arg5 main_arg6 main_arg7 main_arg8 main_arg10 main_arg11 main_v2 main_v5 main_v8 main_v11 main_v14 main_v17 main_v20 main_v23 main_v25 main_v27 main_v29 main_v31 main_v33 main_v35 main_v37 main_v75 main_v102 main_v116 main_v117 main_v121 main_cst_20

def fn_part4 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v41 : FVec F S4096x256 .f32) (main_v56 : FVec F S4096x512 .f32) (main_v63 : FVec F S4096x512 .f32) (main_v75 : FVec F S4096x512 .f32) (main_v78 : FVec F S4096x16 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_cst_16 : FVec F S_ .f32 := constant S_ .f32 0x00000000#32
  let main_v79 : FVec F S4096 .f32 := (fun x v => Host.reduceAdd x v reducesTo_S4096x16_S4096_d1 h_S_) main_v78 main_cst_16
  let main_v80 : FVec F S4096x512 .f32 := Host.exp main_v75
  let main_v81 : FVec F S4096x512 .f32 := Host.log1p main_v80
  let main_v82 : FVec F S4096x1 .f32 := broadcastInDim S4096x1 ![0] bcast_S4096_S4096x1_0 main_v79
  let main_v83 : FVec F S4096x512 .f32 := broadcastInDim S4096x512 ![0, 1] bcast_S4096x1_S4096x512_0_1 main_v82
  let main_v84 : FVec F S4096x512 .f32 := mulf main_v81 main_v83
  let main_v85 : FVec F S1x512 .f32 := (extractStridedSlice S1x512 ![0, 0] · slices_S5x512_S1x512_0_0) main_arg10
  let main_v86 : FVec F S512 .f32 := shapeCast S512 main_v85 shapeCasts_S1x512_S512
  let main_v87 : FVec F S1x512 .f32 := broadcastInDim S1x512 ![1] bcast_S512_S1x512_1 main_v86
  let main_v88 : FVec F S4096x512 .f32 := broadcastInDim S4096x512 ![0, 1] bcast_S1x512_S4096x512_0_1 main_v87
  let main_v89 : FVec F S4096x512 .f32 := addf main_v84 main_v88
  let main_v90 : FVec F S4096x512 .f32 := mulf main_v63 main_v89
  let main_v91 : FVec F S4096x512 .f32 := Host.negf main_v56
  let main_v92 : FVec F S4096x512 .f32 := Host.exp main_v91
  let main_cst_17 : FVec F S_ .f32 := constant S_ .f32 0x3F800000#32
  let main_v93 : FVec F S4096x512 .f32 := broadcastInDim S4096x512 ![] bcast_S_S4096x512 main_cst_17
  let main_v94 : FVec F S4096x512 .f32 := addf main_v93 main_v92
  let main_cst_18 : FVec F S_ .f32 := constant S_ .f32 0x3F800000#32
  let main_v95 : FVec F S4096x512 .f32 := broadcastInDim S4096x512 ![] bcast_S_S4096x512 main_cst_18
  let main_v96 : FVec F S4096x512 .f32 := Host.divf main_v95 main_v94
  let main_v97 : FVec F S4096x512 .f32 := mulf main_v56 main_v96
  let main_v98 : FVec F S4096x512 .f32 := mulf main_v90 main_v97
  let main_v99 : FVec F S1x256x512 .f32 := (extractStridedSlice S1x256x512 ![0, 0, 0] · slices_S5x256x512_S1x256x512_0_0_0) main_arg11
  fn_part5 (F := F) main_arg3 main_arg4 main_arg5 main_arg6 main_arg7 main_arg8 main_arg10 main_arg11 main_v2 main_v5 main_v8 main_v11 main_v14 main_v17 main_v20 main_v23 main_v25 main_v27 main_v29 main_v31 main_v33 main_v35 main_v37 main_v41 main_v75 main_v98 main_v99

def fn_part3 {F : FTy → Type} [FloatOps F] (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_v35 : IVec S256 1) (main_v37 : IVec S8 1) (main_v41 : FVec F S4096x256 .f32) (main_v55 : FVec F S4096x512 .f32) (main_v56 : FVec F S4096x512 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v57 : FVec F S4096x512 .f32 := Host.negf main_v55
  let main_v58 : FVec F S4096x512 .f32 := Host.exp main_v57
  let main_cst_14 : FVec F S_ .f32 := constant S_ .f32 0x3F800000#32
  let main_v59 : FVec F S4096x512 .f32 := broadcastInDim S4096x512 ![] bcast_S_S4096x512 main_cst_14
  let main_v60 : FVec F S4096x512 .f32 := addf main_v59 main_v58
  let main_cst_15 : FVec F S_ .f32 := constant S_ .f32 0x3F800000#32
  let main_v61 : FVec F S4096x512 .f32 := broadcastInDim S4096x512 ![] bcast_S_S4096x512 main_cst_15
  let main_v62 : FVec F S4096x512 .f32 := Host.divf main_v61 main_v60
  let main_v63 : FVec F S4096x512 .f32 := mulf main_v55 main_v62
  let main_v64 : FVec F S1x48x512 .f32 := (extractStridedSlice S1x48x512 ![0, 0, 0] · slices_S5x48x512_S1x48x512_0_0_0) main_arg6
  let main_v65 : FVec F S48x512 .f32 := shapeCast S48x512 main_v64 shapeCasts_S1x48x512_S48x512
  let main_v66 : FVec F S4096x48 .f32 := (fun l r => Host.dotGeneral dot_S4096x512_S48x512_S4096x48_1_1_0_0_n_n none l r) main_v63 main_v65
  let main_v67 : FVec F S4096x16 .f32 := (extractStridedSlice S4096x16 ![0, 0] · slices_S4096x48_S4096x16_0_0) main_v66
  let main_v68 : FVec F S1x512x16 .f32 := (extractStridedSlice S1x512x16 ![0, 0, 0] · slices_S5x512x16_S1x512x16_0_0_0) main_arg7
  let main_v69 : FVec F S512x16 .f32 := shapeCast S512x16 main_v68 shapeCasts_S1x512x16_S512x16
  let main_v70 : FVec F S4096x512 .f32 := (fun l r => Host.dotGeneral dot_S4096x16_S512x16_S4096x512_1_1_0_0_n_n none l r) main_v67 main_v69
  let main_v71 : FVec F S1x512 .f32 := (extractStridedSlice S1x512 ![0, 0] · slices_S5x512_S1x512_0_0) main_arg8
  let main_v72 : FVec F S512 .f32 := shapeCast S512 main_v71 shapeCasts_S1x512_S512
  let main_v73 : FVec F S1x512 .f32 := broadcastInDim S1x512 ![1] bcast_S512_S1x512_1 main_v72
  let main_v74 : FVec F S4096x512 .f32 := broadcastInDim S4096x512 ![0, 1] bcast_S1x512_S4096x512_0_1 main_v73
  let main_v75 : FVec F S4096x512 .f32 := addf main_v70 main_v74
  let main_v76 : FVec F S4096x16 .f32 := (extractStridedSlice S4096x16 ![0, 16] · slices_S4096x48_S4096x16_0_16) main_v66
  let main_v77 : FVec F S4096x16 .f32 := (extractStridedSlice S4096x16 ![0, 32] · slices_S4096x48_S4096x16_0_32) main_v66
  let main_v78 : FVec F S4096x16 .f32 := mulf main_v76 main_v77
  fn_part4 (F := F) main_arg3 main_arg4 main_arg5 main_arg6 main_arg7 main_arg8 main_arg10 main_arg11 main_v2 main_v5 main_v8 main_v11 main_v14 main_v17 main_v20 main_v23 main_v25 main_v27 main_v29 main_v31 main_v33 main_v35 main_v37 main_v41 main_v56 main_v63 main_v75 main_v78

def fn_part2 {F : FTy → Type} [FloatOps F] (main_arg0 : FVec F S4096x480 .f32) (main_arg1 : FVec F S256x480 .f32) (main_arg2 : FVec F S256 .f32) (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_arg13 : FVec F S256 .f32) (main_arg15 : FVec F S8 .f32) (main_v2 : IVec S4096x480 1) (main_v5 : IVec S256x480 1) (main_v8 : IVec S5x1024x256 1) (main_v11 : IVec S5x512x1x4 1) (main_v14 : IVec S5x48x512 1) (main_v17 : IVec S5x512x16 1) (main_v20 : IVec S5x256x512 1) (main_v23 : IVec S8x256 1) (main_v25 : IVec S256 1) (main_v27 : IVec S5x512 1) (main_v29 : IVec S5x512 1) (main_v31 : IVec S5x512 1) (main_v33 : IVec S256 1) (main_cst_12 : FVec F S_ .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v34 : FVec F S256 .f32 := broadcastInDim S256 ![] bcast_S_S256 main_cst_12
  let main_v35 : IVec S256 1 := cmpf .oeq main_arg13 main_v34
  let main_cst_13 : FVec F S_ .f32 := constant S_ .f32 0x00000000#32
  let main_v36 : FVec F S8 .f32 := broadcastInDim S8 ![] bcast_S_S8 main_cst_13
  let main_v37 : IVec S8 1 := cmpf .oeq main_arg15 main_v36
  let main_v38 : FVec F S4096x256 .f32 := (fun l r => Host.dotGeneral dot_S4096x480_S256x480_S4096x256_1_1_0_0_n_n none l r) main_arg0 main_arg1
  let main_v39 : FVec F S1x256 .f32 := broadcastInDim S1x256 ![1] bcast_S256_S1x256_1 main_arg2
  let main_v40 : FVec F S4096x256 .f32 := broadcastInDim S4096x256 ![0, 1] bcast_S1x256_S4096x256_0_1 main_v39
  let main_v41 : FVec F S4096x256 .f32 := addf main_v38 main_v40
  let main_v42 : FVec F S1x1024x256 .f32 := (extractStridedSlice S1x1024x256 ![0, 0, 0] · slices_S5x1024x256_S1x1024x256_0_0_0) main_arg3
  let main_v43 : FVec F S1024x256 .f32 := shapeCast S1024x256 main_v42 shapeCasts_S1x1024x256_S1024x256
  let main_v44 : FVec F S4096x1024 .f32 := (fun l r => Host.dotGeneral dot_S4096x256_S1024x256_S4096x1024_1_1_0_0_n_n none l r) main_v41 main_v43
  let main_v45 : FVec F S4096x512 .f32 := (extractStridedSlice S4096x512 ![0, 0] · slices_S4096x1024_S4096x512_0_0) main_v44
  let main_v46 : FVec F S1x512x1x1 .f32 := (extractStridedSlice S1x512x1x1 ![0, 0, 0, 3] · slices_S5x512x1x4_S1x512x1x1_0_0_0_3) main_arg4
  let main_v47 : FVec F S512 .f32 := shapeCast S512 main_v46 shapeCasts_S1x512x1x1_S512
  let main_v48 : FVec F S1x512 .f32 := broadcastInDim S1x512 ![1] bcast_S512_S1x512_1 main_v47
  let main_v49 : FVec F S4096x512 .f32 := broadcastInDim S4096x512 ![0, 1] bcast_S1x512_S4096x512_0_1 main_v48
  let main_v50 : FVec F S4096x512 .f32 := mulf main_v45 main_v49
  let main_v51 : FVec F S1x512 .f32 := (extractStridedSlice S1x512 ![0, 0] · slices_S5x512_S1x512_0_0) main_arg5
  let main_v52 : FVec F S512 .f32 := shapeCast S512 main_v51 shapeCasts_S1x512_S512
  let main_v53 : FVec F S1x512 .f32 := broadcastInDim S1x512 ![1] bcast_S512_S1x512_1 main_v52
  let main_v54 : FVec F S4096x512 .f32 := broadcastInDim S4096x512 ![0, 1] bcast_S1x512_S4096x512_0_1 main_v53
  let main_v55 : FVec F S4096x512 .f32 := addf main_v50 main_v54
  let main_v56 : FVec F S4096x512 .f32 := (extractStridedSlice S4096x512 ![0, 512] · slices_S4096x1024_S4096x512_0_512) main_v44
  fn_part3 (F := F) main_arg3 main_arg4 main_arg5 main_arg6 main_arg7 main_arg8 main_arg10 main_arg11 main_v2 main_v5 main_v8 main_v11 main_v14 main_v17 main_v20 main_v23 main_v25 main_v27 main_v29 main_v31 main_v33 main_v35 main_v37 main_v41 main_v55 main_v56

def fn_part1 {F : FTy → Type} [FloatOps F] (main_arg0 : FVec F S4096x480 .f32) (main_arg1 : FVec F S256x480 .f32) (main_arg2 : FVec F S256 .f32) (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg10 : FVec F S5x512 .f32) (main_arg11 : FVec F S5x256x512 .f32) (main_arg12 : FVec F S256 .f32) (main_arg13 : FVec F S256 .f32) (main_arg14 : FVec F S8x256 .f32) (main_arg15 : FVec F S8 .f32) (main_v2 : IVec S4096x480 1) (main_v5 : IVec S256x480 1) (main_v8 : IVec S5x1024x256 1) (main_v11 : IVec S5x512x1x4 1) (main_v14 : IVec S5x48x512 1) (main_v17 : IVec S5x512x16 1) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v18 : FVec F S5x256x512 .f32 := Host.absf main_arg11
  let main_cst_5 : FVec F S_ .f32 := constant S_ .f32 0x7F800000#32
  let main_v19 : FVec F S5x256x512 .f32 := broadcastInDim S5x256x512 ![] bcast_S_S5x256x512 main_cst_5
  let main_v20 : IVec S5x256x512 1 := cmpf .olt main_v18 main_v19
  let main_v21 : FVec F S8x256 .f32 := Host.absf main_arg14
  let main_cst_6 : FVec F S_ .f32 := constant S_ .f32 0x7F800000#32
  let main_v22 : FVec F S8x256 .f32 := broadcastInDim S8x256 ![] bcast_S_S8x256 main_cst_6
  let main_v23 : IVec S8x256 1 := cmpf .olt main_v21 main_v22
  let main_cst_7 : FVec F S_ .f32 := constant S_ .f32 0x00000000#32
  let main_v24 : FVec F S256 .f32 := broadcastInDim S256 ![] bcast_S_S256 main_cst_7
  let main_v25 : IVec S256 1 := cmpf .oeq main_arg2 main_v24
  let main_cst_8 : FVec F S_ .f32 := constant S_ .f32 0x00000000#32
  let main_v26 : FVec F S5x512 .f32 := broadcastInDim S5x512 ![] bcast_S_S5x512 main_cst_8
  let main_v27 : IVec S5x512 1 := cmpf .oeq main_arg5 main_v26
  let main_cst_9 : FVec F S_ .f32 := constant S_ .f32 0xC0933333#32
  let main_v28 : FVec F S5x512 .f32 := broadcastInDim S5x512 ![] bcast_S_S5x512 main_cst_9
  let main_v29 : IVec S5x512 1 := cmpf .oeq main_arg8 main_v28
  let main_cst_10 : FVec F S_ .f32 := constant S_ .f32 0x3F800000#32
  let main_v30 : FVec F S5x512 .f32 := broadcastInDim S5x512 ![] bcast_S_S5x512 main_cst_10
  let main_v31 : IVec S5x512 1 := cmpf .oeq main_arg10 main_v30
  let main_cst_11 : FVec F S_ .f32 := constant S_ .f32 0x3F800000#32
  let main_v32 : FVec F S256 .f32 := broadcastInDim S256 ![] bcast_S_S256 main_cst_11
  let main_v33 : IVec S256 1 := cmpf .oeq main_arg12 main_v32
  let main_cst_12 : FVec F S_ .f32 := constant S_ .f32 0x00000000#32
  fn_part2 (F := F) main_arg0 main_arg1 main_arg2 main_arg3 main_arg4 main_arg5 main_arg6 main_arg7 main_arg8 main_arg10 main_arg11 main_arg13 main_arg15 main_v2 main_v5 main_v8 main_v11 main_v14 main_v17 main_v20 main_v23 main_v25 main_v27 main_v29 main_v31 main_v33 main_cst_12

def fn {F : FTy → Type} [FloatOps F] (main_arg0 : FVec F S4096x480 .f32) (main_arg1 : FVec F S256x480 .f32) (main_arg2 : FVec F S256 .f32) (main_arg3 : FVec F S5x1024x256 .f32) (main_arg4 : FVec F S5x512x1x4 .f32) (main_arg5 : FVec F S5x512 .f32) (main_arg6 : FVec F S5x48x512 .f32) (main_arg7 : FVec F S5x512x16 .f32) (main_arg8 : FVec F S5x512 .f32) (main_arg9 : FVec F S5x512x16 .f32) (main_arg10 : FVec F S5x512 .f32) (main_arg11 : FVec F S5x256x512 .f32) (main_arg12 : FVec F S256 .f32) (main_arg13 : FVec F S256 .f32) (main_arg14 : FVec F S8x256 .f32) (main_arg15 : FVec F S8 .f32) : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1 :=
  let main_v0 : FVec F S4096x480 .f32 := Host.absf main_arg0
  let main_cst : FVec F S_ .f32 := constant S_ .f32 0x7F800000#32
  let main_v1 : FVec F S4096x480 .f32 := broadcastInDim S4096x480 ![] bcast_S_S4096x480 main_cst
  let main_v2 : IVec S4096x480 1 := cmpf .olt main_v0 main_v1
  let main_v3 : FVec F S256x480 .f32 := Host.absf main_arg1
  let main_cst_0 : FVec F S_ .f32 := constant S_ .f32 0x7F800000#32
  let main_v4 : FVec F S256x480 .f32 := broadcastInDim S256x480 ![] bcast_S_S256x480 main_cst_0
  let main_v5 : IVec S256x480 1 := cmpf .olt main_v3 main_v4
  let main_v6 : FVec F S5x1024x256 .f32 := Host.absf main_arg3
  let main_cst_1 : FVec F S_ .f32 := constant S_ .f32 0x7F800000#32
  let main_v7 : FVec F S5x1024x256 .f32 := broadcastInDim S5x1024x256 ![] bcast_S_S5x1024x256 main_cst_1
  let main_v8 : IVec S5x1024x256 1 := cmpf .olt main_v6 main_v7
  let main_v9 : FVec F S5x512x1x4 .f32 := Host.absf main_arg4
  let main_cst_2 : FVec F S_ .f32 := constant S_ .f32 0x7F800000#32
  let main_v10 : FVec F S5x512x1x4 .f32 := broadcastInDim S5x512x1x4 ![] bcast_S_S5x512x1x4 main_cst_2
  let main_v11 : IVec S5x512x1x4 1 := cmpf .olt main_v9 main_v10
  let main_v12 : FVec F S5x48x512 .f32 := Host.absf main_arg6
  let main_cst_3 : FVec F S_ .f32 := constant S_ .f32 0x7F800000#32
  let main_v13 : FVec F S5x48x512 .f32 := broadcastInDim S5x48x512 ![] bcast_S_S5x48x512 main_cst_3
  let main_v14 : IVec S5x48x512 1 := cmpf .olt main_v12 main_v13
  let main_v15 : FVec F S5x512x16 .f32 := Host.absf main_arg7
  let main_cst_4 : FVec F S_ .f32 := constant S_ .f32 0x7F800000#32
  let main_v16 : FVec F S5x512x16 .f32 := broadcastInDim S5x512x16 ![] bcast_S_S5x512x16 main_cst_4
  let main_v17 : IVec S5x512x16 1 := cmpf .olt main_v15 main_v16
  fn_part1 (F := F) main_arg0 main_arg1 main_arg2 main_arg3 main_arg4 main_arg5 main_arg6 main_arg7 main_arg8 main_arg10 main_arg11 main_arg12 main_arg13 main_arg14 main_arg15 main_v2 main_v5 main_v8 main_v11 main_v14 main_v17
-- ==== Kernel.lean ====
abbrev S4096x480 : Shape := ⟨2, ![4096, 480]⟩
abbrev S256x480 : Shape := ⟨2, ![256, 480]⟩
abbrev S256 : Shape := ⟨1, ![256]⟩
abbrev S5x1024x256 : Shape := ⟨3, ![5, 1024, 256]⟩
abbrev S5x512x1x4 : Shape := ⟨4, ![5, 512, 1, 4]⟩
abbrev S5x512 : Shape := ⟨2, ![5, 512]⟩
abbrev S5x48x512 : Shape := ⟨3, ![5, 48, 512]⟩
abbrev S5x512x16 : Shape := ⟨3, ![5, 512, 16]⟩
abbrev S5x256x512 : Shape := ⟨3, ![5, 256, 512]⟩
abbrev S8x256 : Shape := ⟨2, ![8, 256]⟩
abbrev S8 : Shape := ⟨1, ![8]⟩
abbrev S5x512x4 : Shape := ⟨3, ![5, 512, 4]⟩
abbrev S4096x8 : Shape := ⟨2, ![4096, 8]⟩
abbrev S2048x480 : Shape := ⟨2, ![2048, 480]⟩
abbrev S256x512 : Shape := ⟨2, ![256, 512]⟩
abbrev S128x256 : Shape := ⟨2, ![128, 256]⟩
abbrev S2048x8 : Shape := ⟨2, ![2048, 8]⟩
abbrev S512x256 : Shape := ⟨2, ![512, 256]⟩
abbrev S256x128 : Shape := ⟨2, ![256, 128]⟩
abbrev S1x512x4 : Shape := ⟨3, ![1, 512, 4]⟩
abbrev S512x4 : Shape := ⟨2, ![512, 4]⟩
abbrev S512x1 : Shape := ⟨2, ![512, 1]⟩
abbrev S1x512x256 : Shape := ⟨3, ![1, 512, 256]⟩
abbrev S1x48x512 : Shape := ⟨3, ![1, 48, 512]⟩
abbrev S48x512 : Shape := ⟨2, ![48, 512]⟩
abbrev S1x512x16 : Shape := ⟨3, ![1, 512, 16]⟩
abbrev S512x16 : Shape := ⟨2, ![512, 16]⟩
abbrev S1x256x512 : Shape := ⟨3, ![1, 256, 512]⟩
abbrev S480x256 : Shape := ⟨2, ![480, 256]⟩
abbrev S2048x256 : Shape := ⟨2, ![2048, 256]⟩
abbrev S256x2048 : Shape := ⟨2, ![256, 2048]⟩
abbrev S1x1024x256 : Shape := ⟨3, ![1, 1024, 256]⟩
abbrev S1024x256 : Shape := ⟨2, ![1024, 256]⟩
abbrev S1024x2048 : Shape := ⟨2, ![1024, 2048]⟩
abbrev S512x2048 : Shape := ⟨2, ![512, 2048]⟩
abbrev S48x2048 : Shape := ⟨2, ![48, 2048]⟩
abbrev S16x2048 : Shape := ⟨2, ![16, 2048]⟩
abbrev S2048 : Shape := ⟨1, ![2048]⟩
abbrev S1x2048 : Shape := ⟨2, ![1, 2048]⟩
abbrev S2048x1 : Shape := ⟨2, ![2048, 1]⟩
abbrev S2048x128 : Shape := ⟨2, ![2048, 128]⟩

abbrev nBuf : Space → Nat
  | .hbm => 18
  | .vmem => 17
  | .smem => 0
  | _ => 0

abbrev bufTy : (tb : Table) → Fin (tcTables nBuf tb) → BufTy
  | .hbm, ⟨0, _⟩ => ⟨S4096x480, .f32⟩
  | .hbm, ⟨1, _⟩ => ⟨S256x480, .f32⟩
  | .hbm, ⟨2, _⟩ => ⟨S256, .f32⟩
  | .hbm, ⟨3, _⟩ => ⟨S5x1024x256, .f32⟩
  | .hbm, ⟨4, _⟩ => ⟨S5x512x1x4, .f32⟩
  | .hbm, ⟨5, _⟩ => ⟨S5x512, .f32⟩
  | .hbm, ⟨6, _⟩ => ⟨S5x48x512, .f32⟩
  | .hbm, ⟨7, _⟩ => ⟨S5x512x16, .f32⟩
  | .hbm, ⟨8, _⟩ => ⟨S5x512, .f32⟩
  | .hbm, ⟨9, _⟩ => ⟨S5x512x16, .f32⟩
  | .hbm, ⟨10, _⟩ => ⟨S5x512, .f32⟩
  | .hbm, ⟨11, _⟩ => ⟨S5x256x512, .f32⟩
  | .hbm, ⟨12, _⟩ => ⟨S256, .f32⟩
  | .hbm, ⟨13, _⟩ => ⟨S256, .f32⟩
  | .hbm, ⟨14, _⟩ => ⟨S8x256, .f32⟩
  | .hbm, ⟨15, _⟩ => ⟨S8, .f32⟩
  | .hbm, ⟨16, _⟩ => ⟨S5x512x4, .f32⟩
  | .hbm, ⟨17, _⟩ => ⟨S4096x8, .f32⟩
  | .local _ .vmem, ⟨0, _⟩ => ⟨S2048x480, .f32⟩
  | .local _ .vmem, ⟨1, _⟩ => ⟨S2048x480, .f32⟩
  | .local _ .vmem, ⟨2, _⟩ => ⟨S256x512, .f32⟩
  | .local _ .vmem, ⟨3, _⟩ => ⟨S5x1024x256, .f32⟩
  | .local _ .vmem, ⟨4, _⟩ => ⟨S5x512x4, .f32⟩
  | .local _ .vmem, ⟨5, _⟩ => ⟨S5x48x512, .f32⟩
  | .local _ .vmem, ⟨6, _⟩ => ⟨S5x512x16, .f32⟩
  | .local _ .vmem, ⟨7, _⟩ => ⟨S5x256x512, .f32⟩
  | .local _ .vmem, ⟨8, _⟩ => ⟨S128x256, .f32⟩
  | .local _ .vmem, ⟨9, _⟩ => ⟨S2048x8, .f32⟩
  | .local _ .vmem, ⟨10, _⟩ => ⟨S2048x8, .f32⟩
  | .local _ .vmem, ⟨11, _⟩ => ⟨S5x1024x256, .bf16⟩
  | .local _ .vmem, ⟨12, _⟩ => ⟨S5x48x512, .bf16⟩
  | .local _ .vmem, ⟨13, _⟩ => ⟨S5x512x16, .bf16⟩
  | .local _ .vmem, ⟨14, _⟩ => ⟨S5x256x512, .bf16⟩
  | .local _ .vmem, ⟨15, _⟩ => ⟨S512x256, .bf16⟩
  | .local _ .vmem, ⟨16, _⟩ => ⟨S256x128, .bf16⟩
  | _, _ => ⟨S4096x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x512x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x48x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x512x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x480 : Shape := ⟨2, ![4096, 480]⟩
abbrev S256x480 : Shape := ⟨2, ![256, 480]⟩
abbrev S256 : Shape := ⟨1, ![256]⟩
abbrev S5x1024x256 : Shape := ⟨3, ![5, 1024, 256]⟩
abbrev S5x512x1x4 : Shape := ⟨4, ![5, 512, 1, 4]⟩
abbrev S5x512 : Shape := ⟨2, ![5, 512]⟩
abbrev S5x48x512 : Shape := ⟨3, ![5, 48, 512]⟩
abbrev S5x512x16 : Shape := ⟨3, ![5, 512, 16]⟩
abbrev S5x256x512 : Shape := ⟨3, ![5, 256, 512]⟩
abbrev S8x256 : Shape := ⟨2, ![8, 256]⟩
abbrev S8 : Shape := ⟨1, ![8]⟩
abbrev S480x256 : Shape := ⟨2, ![480, 256]⟩
abbrev S4096x256 : Shape := ⟨2, ![4096, 256]⟩
abbrev S1x256 : Shape := ⟨2, ![1, 256]⟩
abbrev S4096x1x256 : Shape := ⟨3, ![4096, 1, 256]⟩
abbrev S1x1024x256 : Shape := ⟨3, ![1, 1024, 256]⟩
abbrev S1024x256 : Shape := ⟨2, ![1024, 256]⟩
abbrev S1x512x1x4 : Shape := ⟨4, ![1, 512, 1, 4]⟩
abbrev S512x1x4 : Shape := ⟨3, ![512, 1, 4]⟩
abbrev S1x512 : Shape := ⟨2, ![1, 512]⟩
abbrev S512 : Shape := ⟨1, ![512]⟩
abbrev S1x48x512 : Shape := ⟨3, ![1, 48, 512]⟩
abbrev S48x512 : Shape := ⟨2, ![48, 512]⟩
abbrev S1x512x16 : Shape := ⟨3, ![1, 512, 16]⟩
abbrev S512x16 : Shape := ⟨2, ![512, 16]⟩
abbrev S1x256x512 : Shape := ⟨3, ![1, 256, 512]⟩
abbrev S256x512 : Shape := ⟨2, ![256, 512]⟩
abbrev S4096x1x1024 : Shape := ⟨3, ![4096, 1, 1024]⟩
abbrev S4096x1x512 : Shape := ⟨3, ![4096, 1, 512]⟩
abbrev S_ : Shape := ⟨0, ![]⟩
abbrev S4096x4x512 : Shape := ⟨3, ![4096, 4, 512]⟩
abbrev S512x1x1 : Shape := ⟨3, ![512, 1, 1]⟩
abbrev S1x1x512 : Shape := ⟨3, ![1, 1, 512]⟩
abbrev S4096x1x48 : Shape := ⟨3, ![4096, 1, 48]⟩
abbrev S4096x1x16 : Shape := ⟨3, ![4096, 1, 16]⟩
abbrev S4096x1x512x1 : Shape := ⟨4, ![4096, 1, 512, 1]⟩
abbrev S1x1x512x16 : Shape := ⟨4, ![1, 1, 512, 16]⟩
abbrev S4096x1x512x16 : Shape := ⟨4, ![4096, 1, 512, 16]⟩
abbrev S4096x1x1x16 : Shape := ⟨4, ![4096, 1, 1, 16]⟩
abbrev S4096x512x16 : Shape := ⟨3, ![4096, 512, 16]⟩
abbrev S4096x16 : Shape := ⟨2, ![4096, 16]⟩
abbrev S4096x512 : Shape := ⟨2, ![4096, 512]⟩
abbrev S4096x1 : Shape := ⟨2, ![4096, 1]⟩
abbrev S4096x1x1 : Shape := ⟨3, ![4096, 1, 1]⟩
abbrev S1x1x256 : Shape := ⟨3, ![1, 1, 256]⟩
abbrev S256x8 : Shape := ⟨2, ![256, 8]⟩
abbrev S4096x8 : Shape := ⟨2, ![4096, 8]⟩
abbrev S1x8 : Shape := ⟨2, ![1, 8]⟩

abbrev nBuf : Space → Nat
  | .hbm => 702
  | .vmem => 0
  | .smem => 0
  | _ => 0

abbrev hbmTy0_0 (i : Nat) : BufTy := match i % 128 with
  | 0 => ⟨S4096x480, .f32⟩
  | 1 => ⟨S256x480, .f32⟩
  | 2 => ⟨S256, .f32⟩
  | 3 => ⟨S5x1024x256, .f32⟩
  | 4 => ⟨S5x512x1x4, .f32⟩
  | 5 => ⟨S5x512, .f32⟩
  | 6 => ⟨S5x48x512, .f32⟩
  | 7 => ⟨S5x512x16, .f32⟩
  | 8 => ⟨S5x512, .f32⟩
  | 9 => ⟨S5x512x16, .f32⟩
  | 10 => ⟨S5x512, .f32⟩
  | 11 => ⟨S5x256x512, .f32⟩
  | 12 => ⟨S256, .f32⟩
  | 13 => ⟨S256, .f32⟩
  | 14 => ⟨S8x256, .f32⟩
  | 15 => ⟨S8, .f32⟩
  | 16 => ⟨S480x256, .f32⟩
  | 17 => ⟨S4096x256, .f32⟩
  | 18 => ⟨S1x256, .f32⟩
  | 19 => ⟨S4096x256, .f32⟩
  | 20 => ⟨S4096x256, .f32⟩
  | 21 => ⟨S4096x1x256, .f32⟩
  | 22 => ⟨S1x1024x256, .f32⟩
  | 23 => ⟨S1024x256, .f32⟩
  | 24 => ⟨S1x512x1x4, .f32⟩
  | 25 => ⟨S512x1x4, .f32⟩
  | 26 => ⟨S1x512, .f32⟩
  | 27 => ⟨S512, .f32⟩
  | 28 => ⟨S1x48x512, .f32⟩
  | 29 => ⟨S48x512, .f32⟩
  | 30 => ⟨S1x512x16, .f32⟩
  | 31 => ⟨S512x16, .f32⟩
  | 32 => ⟨S1x512, .f32⟩
  | 33 => ⟨S512, .f32⟩
  | 34 => ⟨S1x512x16, .f32⟩
  | 35 => ⟨S512x16, .f32⟩
  | 36 => ⟨S1x512, .f32⟩
  | 37 => ⟨S512, .f32⟩
  | 38 => ⟨S1x256x512, .f32⟩
  | 39 => ⟨S256x512, .f32⟩
  | 40 => ⟨S4096x1x1024, .f32⟩
  | 41 => ⟨S4096x1x512, .f32⟩
  | 42 => ⟨S4096x1x512, .f32⟩
  | 43 => ⟨S_, .i32⟩
  | 44 => ⟨S_, .f32⟩
  | 45 => ⟨S4096x4x512, .f32⟩
  | 46 => ⟨S4096x1x512, .f32⟩
  | 47 => ⟨S512x1x1, .f32⟩
  | 48 => ⟨S512, .f32⟩
  | 49 => ⟨S1x1x512, .f32⟩
  | 50 => ⟨S4096x1x512, .f32⟩
  | 51 => ⟨S4096x1x512, .f32⟩
  | 52 => ⟨S_, .f32⟩
  | 53 => ⟨S4096x1x512, .f32⟩
  | 54 => ⟨S4096x1x512, .f32⟩
  | 55 => ⟨S4096x1x512, .f32⟩
  | 56 => ⟨S512x1x1, .f32⟩
  | 57 => ⟨S512, .f32⟩
  | 58 => ⟨S1x1x512, .f32⟩
  | 59 => ⟨S4096x1x512, .f32⟩
  | 60 => ⟨S4096x1x512, .f32⟩
  | 61 => ⟨S4096x1x512, .f32⟩
  | 62 => ⟨S4096x1x512, .f32⟩
  | 63 => ⟨S512x1x1, .f32⟩
  | 64 => ⟨S512, .f32⟩
  | 65 => ⟨S1x1x512, .f32⟩
  | 66 => ⟨S4096x1x512, .f32⟩
  | 67 => ⟨S4096x1x512, .f32⟩
  | 68 => ⟨S4096x1x512, .f32⟩
  | 69 => ⟨S4096x1x512, .f32⟩
  | 70 => ⟨S512x1x1, .f32⟩
  | 71 => ⟨S512, .f32⟩
  | 72 => ⟨S1x1x512, .f32⟩
  | 73 => ⟨S4096x1x512, .f32⟩
  | 74 => ⟨S4096x1x512, .f32⟩
  | 75 => ⟨S4096x1x512, .f32⟩
  | 76 => ⟨S1x1x512, .f32⟩
  | 77 => ⟨S4096x1x512, .f32⟩
  | 78 => ⟨S4096x1x512, .f32⟩
  | 79 => ⟨S4096x1x512, .f32⟩
  | 80 => ⟨S4096x1x512, .f32⟩
  | 81 => ⟨S_, .f32⟩
  | 82 => ⟨S4096x1x512, .f32⟩
  | 83 => ⟨S4096x1x512, .f32⟩
  | 84 => ⟨S_, .f32⟩
  | 85 => ⟨S4096x1x512, .f32⟩
  | 86 => ⟨S4096x1x512, .f32⟩
  | 87 => ⟨S4096x1x512, .f32⟩
  | 88 => ⟨S4096x1x48, .f32⟩
  | 89 => ⟨S4096x1x16, .f32⟩
  | 90 => ⟨S4096x1x16, .f32⟩
  | 91 => ⟨S4096x1x16, .f32⟩
  | 92 => ⟨S4096x1x512, .f32⟩
  | 93 => ⟨S1x1x512, .f32⟩
  | 94 => ⟨S4096x1x512, .f32⟩
  | 95 => ⟨S4096x1x512, .f32⟩
  | 96 => ⟨S_, .f32⟩
  | 97 => ⟨S4096x1x512, .f32⟩
  | 98 => ⟨S4096x1x512, .f32⟩
  | 99 => ⟨S4096x1x512, .f32⟩
  | 100 => ⟨S4096x1x512, .f32⟩
  | 101 => ⟨S4096x1x512, .i1⟩
  | 102 => ⟨S4096x1x512, .f32⟩
  | 103 => ⟨S4096x1x512, .f32⟩
  | 104 => ⟨S4096x1x512, .f32⟩
  | 105 => ⟨S4096x1x512, .f32⟩
  | 106 => ⟨S4096x1x512, .f32⟩
  | 107 => ⟨S4096x1x512, .f32⟩
  | 108 => ⟨S4096x1x512, .f32⟩
  | 109 => ⟨S4096x1x512, .f32⟩
  | 110 => ⟨S512x16, .f32⟩
  | 111 => ⟨S512x16, .f32⟩
  | 112 => ⟨S4096x1x512x1, .f32⟩
  | 113 => ⟨S1x1x512x16, .f32⟩
  | 114 => ⟨S4096x1x512x16, .f32⟩
  | 115 => ⟨S4096x1x512x16, .f32⟩
  | 116 => ⟨S4096x1x512x16, .f32⟩
  | 117 => ⟨S4096x1x512x16, .f32⟩
  | 118 => ⟨S4096x1x512x1, .f32⟩
  | 119 => ⟨S4096x1x1x16, .f32⟩
  | 120 => ⟨S4096x1x512x16, .f32⟩
  | 121 => ⟨S4096x1x512x16, .f32⟩
  | 122 => ⟨S4096x1x512x16, .f32⟩
  | 123 => ⟨S4096x1x512x1, .f32⟩
  | 124 => ⟨S4096x1x512x16, .f32⟩
  | 125 => ⟨S4096x1x512x16, .f32⟩
  | 126 => ⟨S_, .f32⟩
  | 127 => ⟨S4096x512x16, .f32⟩
  | _ => ⟨S4096x480, .f32⟩

abbrev hbmTy0_1 (i : Nat) : BufTy := match i % 128 with
  | 0 => ⟨S4096x512x16, .f32⟩
  | 1 => ⟨S4096x512x16, .f32⟩
  | 2 => ⟨S4096x512x16, .f32⟩
  | 3 => ⟨S4096x512x16, .f32⟩
  | 4 => ⟨S4096x16, .f32⟩
  | 5 => ⟨S4096x512, .f32⟩
  | 6 => ⟨S4096x1x512, .f32⟩
  | 7 => ⟨S1x1x512, .f32⟩
  | 8 => ⟨S4096x1x512, .f32⟩
  | 9 => ⟨S4096x1x512, .f32⟩
  | 10 => ⟨S4096x1x512, .f32⟩
  | 11 => ⟨S4096x1x512, .f32⟩
  | 12 => ⟨S4096x1x512, .f32⟩
  | 13 => ⟨S_, .f32⟩
  | 14 => ⟨S4096x1x512, .f32⟩
  | 15 => ⟨S4096x1x512, .f32⟩
  | 16 => ⟨S_, .f32⟩
  | 17 => ⟨S4096x1x512, .f32⟩
  | 18 => ⟨S4096x1x512, .f32⟩
  | 19 => ⟨S4096x1x512, .f32⟩
  | 20 => ⟨S4096x1x512, .f32⟩
  | 21 => ⟨S4096x1x256, .f32⟩
  | 22 => ⟨S4096x1x256, .f32⟩
  | 23 => ⟨S1x1024x256, .f32⟩
  | 24 => ⟨S1024x256, .f32⟩
  | 25 => ⟨S1x512x1x4, .f32⟩
  | 26 => ⟨S512x1x4, .f32⟩
  | 27 => ⟨S1x512, .f32⟩
  | 28 => ⟨S512, .f32⟩
  | 29 => ⟨S1x48x512, .f32⟩
  | 30 => ⟨S48x512, .f32⟩
  | 31 => ⟨S1x512x16, .f32⟩
  | 32 => ⟨S512x16, .f32⟩
  | 33 => ⟨S1x512, .f32⟩
  | 34 => ⟨S512, .f32⟩
  | 35 => ⟨S1x512x16, .f32⟩
  | 36 => ⟨S512x16, .f32⟩
  | 37 => ⟨S1x512, .f32⟩
  | 38 => ⟨S512, .f32⟩
  | 39 => ⟨S1x256x512, .f32⟩
  | 40 => ⟨S256x512, .f32⟩
  | 41 => ⟨S4096x1x1024, .f32⟩
  | 42 => ⟨S4096x1x512, .f32⟩
  | 43 => ⟨S4096x1x512, .f32⟩
  | 44 => ⟨S_, .i32⟩
  | 45 => ⟨S_, .f32⟩
  | 46 => ⟨S4096x4x512, .f32⟩
  | 47 => ⟨S4096x1x512, .f32⟩
  | 48 => ⟨S512x1x1, .f32⟩
  | 49 => ⟨S512, .f32⟩
  | 50 => ⟨S1x1x512, .f32⟩
  | 51 => ⟨S4096x1x512, .f32⟩
  | 52 => ⟨S4096x1x512, .f32⟩
  | 53 => ⟨S_, .f32⟩
  | 54 => ⟨S4096x1x512, .f32⟩
  | 55 => ⟨S4096x1x512, .f32⟩
  | 56 => ⟨S4096x1x512, .f32⟩
  | 57 => ⟨S512x1x1, .f32⟩
  | 58 => ⟨S512, .f32⟩
  | 59 => ⟨S1x1x512, .f32⟩
  | 60 => ⟨S4096x1x512, .f32⟩
  | 61 => ⟨S4096x1x512, .f32⟩
  | 62 => ⟨S4096x1x512, .f32⟩
  | 63 => ⟨S4096x1x512, .f32⟩
  | 64 => ⟨S512x1x1, .f32⟩
  | 65 => ⟨S512, .f32⟩
  | 66 => ⟨S1x1x512, .f32⟩
  | 67 => ⟨S4096x1x512, .f32⟩
  | 68 => ⟨S4096x1x512, .f32⟩
  | 69 => ⟨S4096x1x512, .f32⟩
  | 70 => ⟨S4096x1x512, .f32⟩
  | 71 => ⟨S512x1x1, .f32⟩
  | 72 => ⟨S512, .f32⟩
  | 73 => ⟨S1x1x512, .f32⟩
  | 74 => ⟨S4096x1x512, .f32⟩
  | 75 => ⟨S4096x1x512, .f32⟩
  | 76 => ⟨S4096x1x512, .f32⟩
  | 77 => ⟨S1x1x512, .f32⟩
  | 78 => ⟨S4096x1x512, .f32⟩
  | 79 => ⟨S4096x1x512, .f32⟩
  | 80 => ⟨S4096x1x512, .f32⟩
  | 81 => ⟨S4096x1x512, .f32⟩
  | 82 => ⟨S_, .f32⟩
  | 83 => ⟨S4096x1x512, .f32⟩
  | 84 => ⟨S4096x1x512, .f32⟩
  | 85 => ⟨S_, .f32⟩
  | 86 => ⟨S4096x1x512, .f32⟩
  | 87 => ⟨S4096x1x512, .f32⟩
  | 88 => ⟨S4096x1x512, .f32⟩
  | 89 => ⟨S4096x1x48, .f32⟩
  | 90 => ⟨S4096x1x16, .f32⟩
  | 91 => ⟨S4096x1x16, .f32⟩
  | 92 => ⟨S4096x1x16, .f32⟩
  | 93 => ⟨S4096x1x512, .f32⟩
  | 94 => ⟨S1x1x512, .f32⟩
  | 95 => ⟨S4096x1x512, .f32⟩
  | 96 => ⟨S4096x1x512, .f32⟩
  | 97 => ⟨S_, .f32⟩
  | 98 => ⟨S4096x1x512, .f32⟩
  | 99 => ⟨S4096x1x512, .f32⟩
  | 100 => ⟨S4096x1x512, .f32⟩
  | 101 => ⟨S4096x1x512, .f32⟩
  | 102 => ⟨S4096x1x512, .i1⟩
  | 103 => ⟨S4096x1x512, .f32⟩
  | 104 => ⟨S4096x1x512, .f32⟩
  | 105 => ⟨S4096x1x512, .f32⟩
  | 106 => ⟨S4096x1x512, .f32⟩
  | 107 => ⟨S4096x1x512, .f32⟩
  | 108 => ⟨S4096x1x512, .f32⟩
  | 109 => ⟨S4096x1x512, .f32⟩
  | 110 => ⟨S4096x1x512, .f32⟩
  | 111 => ⟨S512x16, .f32⟩
  | 112 => ⟨S512x16, .f32⟩
  | 113 => ⟨S4096x1x512x1, .f32⟩
  | 114 => ⟨S1x1x512x16, .f32⟩
  | 115 => ⟨S4096x1x512x16, .f32⟩
  | 116 => ⟨S4096x1x512x16, .f32⟩
  | 117 => ⟨S4096x1x512x16, .f32⟩
  | 118 => ⟨S4096x1x512x16, .f32⟩
  | 119 => ⟨S4096x1x512x1, .f32⟩
  | 120 => ⟨S4096x1x1x16, .f32⟩
  | 121 => ⟨S4096x1x512x16, .f32⟩
  | 122 => ⟨S4096x1x512x16, .f32⟩
  | 123 => ⟨S4096x1x512x16, .f32⟩
  | 124 => ⟨S4096x1x512x1, .f32⟩
  | 125 => ⟨S4096x1x512x16, .f32⟩
  | 126 => ⟨S4096x1x512x16, .f32⟩
  | 127 => ⟨S_, .f32⟩
  | _ => ⟨S4096x480, .f32⟩

abbrev hbmTy0_2 (i : Nat) : BufTy := match i % 128 with
  | 0 => ⟨S4096x512x16, .f32⟩
  | 1 => ⟨S4096x512x16, .f32⟩
  | 2 => ⟨S4096x512x16, .f32⟩
  | 3 => ⟨S4096x512x16, .f32⟩
  | 4 => ⟨S4096x512x16, .f32⟩
  | 5 => ⟨S4096x16, .f32⟩
  | 6 => ⟨S4096x512, .f32⟩
  | 7 => ⟨S4096x1x512, .f32⟩
  | 8 => ⟨S1x1x512, .f32⟩
  | 9 => ⟨S4096x1x512, .f32⟩
  | 10 => ⟨S4096x1x512, .f32⟩
  | 11 => ⟨S4096x1x512, .f32⟩
  | 12 => ⟨S4096x1x512, .f32⟩
  | 13 => ⟨S4096x1x512, .f32⟩
  | 14 => ⟨S_, .f32⟩
  | 15 => ⟨S4096x1x512, .f32⟩
  | 16 => ⟨S4096x1x512, .f32⟩
  | 17 => ⟨S_, .f32⟩
  | 18 => ⟨S4096x1x512, .f32⟩
  | 19 => ⟨S4096x1x512, .f32⟩
  | 20 => ⟨S4096x1x512, .f32⟩
  | 21 => ⟨S4096x1x512, .f32⟩
  | 22 => ⟨S4096x1x256, .f32⟩
  | 23 => ⟨S4096x1x256, .f32⟩
  | 24 => ⟨S1x1024x256, .f32⟩
  | 25 => ⟨S1024x256, .f32⟩
  | 26 => ⟨S1x512x1x4, .f32⟩
  | 27 => ⟨S512x1x4, .f32⟩
  | 28 => ⟨S1x512, .f32⟩
  | 29 => ⟨S512, .f32⟩
  | 30 => ⟨S1x48x512, .f32⟩
  | 31 => ⟨S48x512, .f32⟩
  | 32 => ⟨S1x512x16, .f32⟩
  | 33 => ⟨S512x16, .f32⟩
  | 34 => ⟨S1x512, .f32⟩
  | 35 => ⟨S512, .f32⟩
  | 36 => ⟨S1x512x16, .f32⟩
  | 37 => ⟨S512x16, .f32⟩
  | 38 => ⟨S1x512, .f32⟩
  | 39 => ⟨S512, .f32⟩
  | 40 => ⟨S1x256x512, .f32⟩
  | 41 => ⟨S256x512, .f32⟩
  | 42 => ⟨S4096x1x1024, .f32⟩
  | 43 => ⟨S4096x1x512, .f32⟩
  | 44 => ⟨S4096x1x512, .f32⟩
  | 45 => ⟨S_, .i32⟩
  | 46 => ⟨S_, .f32⟩
  | 47 => ⟨S4096x4x512, .f32⟩
  | 48 => ⟨S4096x1x512, .f32⟩
  | 49 => ⟨S512x1x1, .f32⟩
  | 50 => ⟨S512, .f32⟩
  | 51 => ⟨S1x1x512, .f32⟩
  | 52 => ⟨S4096x1x512, .f32⟩
  | 53 => ⟨S4096x1x512, .f32⟩
  | 54 => ⟨S_, .f32⟩
  | 55 => ⟨S4096x1x512, .f32⟩
  | 56 => ⟨S4096x1x512, .f32⟩
  | 57 => ⟨S4096x1x512, .f32⟩
  | 58 => ⟨S512x1x1, .f32⟩
  | 59 => ⟨S512, .f32⟩
  | 60 => ⟨S1x1x512, .f32⟩
  | 61 => ⟨S4096x1x512, .f32⟩
  | 62 => ⟨S4096x1x512, .f32⟩
  | 63 => ⟨S4096x1x512, .f32⟩
  | 64 => ⟨S4096x1x512, .f32⟩
  | 65 => ⟨S512x1x1, .f32⟩
  | 66 => ⟨S512, .f32⟩
  | 67 => ⟨S1x1x512, .f32⟩
  | 68 => ⟨S4096x1x512, .f32⟩
  | 69 => ⟨S4096x1x512, .f32⟩
  | 70 => ⟨S4096x1x512, .f32⟩
  | 71 => ⟨S4096x1x512, .f32⟩
  | 72 => ⟨S512x1x1, .f32⟩
  | 73 => ⟨S512, .f32⟩
  | 74 => ⟨S1x1x512, .f32⟩
  | 75 => ⟨S4096x1x512, .f32⟩
  | 76 => ⟨S4096x1x512, .f32⟩
  | 77 => ⟨S4096x1x512, .f32⟩
  | 78 => ⟨S1x1x512, .f32⟩
  | 79 => ⟨S4096x1x512, .f32⟩
  | 80 => ⟨S4096x1x512, .f32⟩
  | 81 => ⟨S4096x1x512, .f32⟩
  | 82 => ⟨S4096x1x512, .f32⟩
  | 83 => ⟨S_, .f32⟩
  | 84 => ⟨S4096x1x512, .f32⟩
  | 85 => ⟨S4096x1x512, .f32⟩
  | 86 => ⟨S_, .f32⟩
  | 87 => ⟨S4096x1x512, .f32⟩
  | 88 => ⟨S4096x1x512, .f32⟩
  | 89 => ⟨S4096x1x512, .f32⟩
  | 90 => ⟨S4096x1x48, .f32⟩
  | 91 => ⟨S4096x1x16, .f32⟩
  | 92 => ⟨S4096x1x16, .f32⟩
  | 93 => ⟨S4096x1x16, .f32⟩
  | 94 => ⟨S4096x1x512, .f32⟩
  | 95 => ⟨S1x1x512, .f32⟩
  | 96 => ⟨S4096x1x512, .f32⟩
  | 97 => ⟨S4096x1x512, .f32⟩
  | 98 => ⟨S_, .f32⟩
  | 99 => ⟨S4096x1x512, .f32⟩
  | 100 => ⟨S4096x1x512, .f32⟩
  | 101 => ⟨S4096x1x512, .f32⟩
  | 102 => ⟨S4096x1x512, .f32⟩
  | 103 => ⟨S4096x1x512, .i1⟩
  | 104 => ⟨S4096x1x512, .f32⟩
  | 105 => ⟨S4096x1x512, .f32⟩
  | 106 => ⟨S4096x1x512, .f32⟩
  | 107 => ⟨S4096x1x512, .f32⟩
  | 108 => ⟨S4096x1x512, .f32⟩
  | 109 => ⟨S4096x1x512, .f32⟩
  | 110 => ⟨S4096x1x512, .f32⟩
  | 111 => ⟨S4096x1x512, .f32⟩
  | 112 => ⟨S512x16, .f32⟩
  | 113 => ⟨S512x16, .f32⟩
  | 114 => ⟨S4096x1x512x1, .f32⟩
  | 115 => ⟨S1x1x512x16, .f32⟩
  | 116 => ⟨S4096x1x512x16, .f32⟩
  | 117 => ⟨S4096x1x512x16, .f32⟩
  | 118 => ⟨S4096x1x512x16, .f32⟩
  | 119 => ⟨S4096x1x512x16, .f32⟩
  | 120 => ⟨S4096x1x512x1, .f32⟩
  | 121 => ⟨S4096x1x1x16, .f32⟩
  | 122 => ⟨S4096x1x512x16, .f32⟩
  | 123 => ⟨S4096x1x512x16, .f32⟩
  | 124 => ⟨S4096x1x512x16, .f32⟩
  | 125 => ⟨S4096x1x512x1, .f32⟩
  | 126 => ⟨S4096x1x512x16, .f32⟩
  | 127 => ⟨S4096x1x512x16, .f32⟩
  | _ => ⟨S4096x480, .f32⟩

abbrev hbmTy0_3 (i : Nat) : BufTy := match i % 128 with
  | 0 => ⟨S_, .f32⟩
  | 1 => ⟨S4096x512x16, .f32⟩
  | 2 => ⟨S4096x512x16, .f32⟩
  | 3 => ⟨S4096x512x16, .f32⟩
  | 4 => ⟨S4096x512x16, .f32⟩
  | 5 => ⟨S4096x512x16, .f32⟩
  | 6 => ⟨S4096x16, .f32⟩
  | 7 => ⟨S4096x512, .f32⟩
  | 8 => ⟨S4096x1x512, .f32⟩
  | 9 => ⟨S1x1x512, .f32⟩
  | 10 => ⟨S4096x1x512, .f32⟩
  | 11 => ⟨S4096x1x512, .f32⟩
  | 12 => ⟨S4096x1x512, .f32⟩
  | 13 => ⟨S4096x1x512, .f32⟩
  | 14 => ⟨S4096x1x512, .f32⟩
  | 15 => ⟨S_, .f32⟩
  | 16 => ⟨S4096x1x512, .f32⟩
  | 17 => ⟨S4096x1x512, .f32⟩
  | 18 => ⟨S_, .f32⟩
  | 19 => ⟨S4096x1x512, .f32⟩
  | 20 => ⟨S4096x1x512, .f32⟩
  | 21 => ⟨S4096x1x512, .f32⟩
  | 22 => ⟨S4096x1x512, .f32⟩
  | 23 => ⟨S4096x1x256, .f32⟩
  | 24 => ⟨S4096x1x256, .f32⟩
  | 25 => ⟨S1x1024x256, .f32⟩
  | 26 => ⟨S1024x256, .f32⟩
  | 27 => ⟨S1x512x1x4, .f32⟩
  | 28 => ⟨S512x1x4, .f32⟩
  | 29 => ⟨S1x512, .f32⟩
  | 30 => ⟨S512, .f32⟩
  | 31 => ⟨S1x48x512, .f32⟩
  | 32 => ⟨S48x512, .f32⟩
  | 33 => ⟨S1x512x16, .f32⟩
  | 34 => ⟨S512x16, .f32⟩
  | 35 => ⟨S1x512, .f32⟩
  | 36 => ⟨S512, .f32⟩
  | 37 => ⟨S1x512x16, .f32⟩
  | 38 => ⟨S512x16, .f32⟩
  | 39 => ⟨S1x512, .f32⟩
  | 40 => ⟨S512, .f32⟩
  | 41 => ⟨S1x256x512, .f32⟩
  | 42 => ⟨S256x512, .f32⟩
  | 43 => ⟨S4096x1x1024, .f32⟩
  | 44 => ⟨S4096x1x512, .f32⟩
  | 45 => ⟨S4096x1x512, .f32⟩
  | 46 => ⟨S_, .i32⟩
  | 47 => ⟨S_, .f32⟩
  | 48 => ⟨S4096x4x512, .f32⟩
  | 49 => ⟨S4096x1x512, .f32⟩
  | 50 => ⟨S512x1x1, .f32⟩
  | 51 => ⟨S512, .f32⟩
  | 52 => ⟨S1x1x512, .f32⟩
  | 53 => ⟨S4096x1x512, .f32⟩
  | 54 => ⟨S4096x1x512, .f32⟩
  | 55 => ⟨S_, .f32⟩
  | 56 => ⟨S4096x1x512, .f32⟩
  | 57 => ⟨S4096x1x512, .f32⟩
  | 58 => ⟨S4096x1x512, .f32⟩
  | 59 => ⟨S512x1x1, .f32⟩
  | 60 => ⟨S512, .f32⟩
  | 61 => ⟨S1x1x512, .f32⟩
  | 62 => ⟨S4096x1x512, .f32⟩
  | 63 => ⟨S4096x1x512, .f32⟩
  | 64 => ⟨S4096x1x512, .f32⟩
  | 65 => ⟨S4096x1x512, .f32⟩
  | 66 => ⟨S512x1x1, .f32⟩
  | 67 => ⟨S512, .f32⟩
  | 68 => ⟨S1x1x512, .f32⟩
  | 69 => ⟨S4096x1x512, .f32⟩
  | 70 => ⟨S4096x1x512, .f32⟩
  | 71 => ⟨S4096x1x512, .f32⟩
  | 72 => ⟨S4096x1x512, .f32⟩
  | 73 => ⟨S512x1x1, .f32⟩
  | 74 => ⟨S512, .f32⟩
  | 75 => ⟨S1x1x512, .f32⟩
  | 76 => ⟨S4096x1x512, .f32⟩
  | 77 => ⟨S4096x1x512, .f32⟩
  | 78 => ⟨S4096x1x512, .f32⟩
  | 79 => ⟨S1x1x512, .f32⟩
  | 80 => ⟨S4096x1x512, .f32⟩
  | 81 => ⟨S4096x1x512, .f32⟩
  | 82 => ⟨S4096x1x512, .f32⟩
  | 83 => ⟨S4096x1x512, .f32⟩
  | 84 => ⟨S_, .f32⟩
  | 85 => ⟨S4096x1x512, .f32⟩
  | 86 => ⟨S4096x1x512, .f32⟩
  | 87 => ⟨S_, .f32⟩
  | 88 => ⟨S4096x1x512, .f32⟩
  | 89 => ⟨S4096x1x512, .f32⟩
  | 90 => ⟨S4096x1x512, .f32⟩
  | 91 => ⟨S4096x1x48, .f32⟩
  | 92 => ⟨S4096x1x16, .f32⟩
  | 93 => ⟨S4096x1x16, .f32⟩
  | 94 => ⟨S4096x1x16, .f32⟩
  | 95 => ⟨S4096x1x512, .f32⟩
  | 96 => ⟨S1x1x512, .f32⟩
  | 97 => ⟨S4096x1x512, .f32⟩
  | 98 => ⟨S4096x1x512, .f32⟩
  | 99 => ⟨S_, .f32⟩
  | 100 => ⟨S4096x1x512, .f32⟩
  | 101 => ⟨S4096x1x512, .f32⟩
  | 102 => ⟨S4096x1x512, .f32⟩
  | 103 => ⟨S4096x1x512, .f32⟩
  | 104 => ⟨S4096x1x512, .i1⟩
  | 105 => ⟨S4096x1x512, .f32⟩
  | 106 => ⟨S4096x1x512, .f32⟩
  | 107 => ⟨S4096x1x512, .f32⟩
  | 108 => ⟨S4096x1x512, .f32⟩
  | 109 => ⟨S4096x1x512, .f32⟩
  | 110 => ⟨S4096x1x512, .f32⟩
  | 111 => ⟨S4096x1x512, .f32⟩
  | 112 => ⟨S4096x1x512, .f32⟩
  | 113 => ⟨S512x16, .f32⟩
  | 114 => ⟨S512x16, .f32⟩
  | 115 => ⟨S4096x1x512x1, .f32⟩
  | 116 => ⟨S1x1x512x16, .f32⟩
  | 117 => ⟨S4096x1x512x16, .f32⟩
  | 118 => ⟨S4096x1x512x16, .f32⟩
  | 119 => ⟨S4096x1x512x16, .f32⟩
  | 120 => ⟨S4096x1x512x16, .f32⟩
  | 121 => ⟨S4096x1x512x1, .f32⟩
  | 122 => ⟨S4096x1x1x16, .f32⟩
  | 123 => ⟨S4096x1x512x16, .f32⟩
  | 124 => ⟨S4096x1x512x16, .f32⟩
  | 125 => ⟨S4096x1x512x16, .f32⟩
  | 126 => ⟨S4096x1x512x1, .f32⟩
  | 127 => ⟨S4096x1x512x16, .f32⟩
  | _ => ⟨S4096x480, .f32⟩

abbrev hbmTy0_4 (i : Nat) : BufTy := match i % 128 with
  | 0 => ⟨S4096x1x512x16, .f32⟩
  | 1 => ⟨S_, .f32⟩
  | 2 => ⟨S4096x512x16, .f32⟩
  | 3 => ⟨S4096x512x16, .f32⟩
  | 4 => ⟨S4096x512x16, .f32⟩
  | 5 => ⟨S4096x512x16, .f32⟩
  | 6 => ⟨S4096x512x16, .f32⟩
  | 7 => ⟨S4096x16, .f32⟩
  | 8 => ⟨S4096x512, .f32⟩
  | 9 => ⟨S4096x1x512, .f32⟩
  | 10 => ⟨S1x1x512, .f32⟩
  | 11 => ⟨S4096x1x512, .f32⟩
  | 12 => ⟨S4096x1x512, .f32⟩
  | 13 => ⟨S4096x1x512, .f32⟩
  | 14 => ⟨S4096x1x512, .f32⟩
  | 15 => ⟨S4096x1x512, .f32⟩
  | 16 => ⟨S_, .f32⟩
  | 17 => ⟨S4096x1x512, .f32⟩
  | 18 => ⟨S4096x1x512, .f32⟩
  | 19 => ⟨S_, .f32⟩
  | 20 => ⟨S4096x1x512, .f32⟩
  | 21 => ⟨S4096x1x512, .f32⟩
  | 22 => ⟨S4096x1x512, .f32⟩
  | 23 => ⟨S4096x1x512, .f32⟩
  | 24 => ⟨S4096x1x256, .f32⟩
  | 25 => ⟨S4096x1x256, .f32⟩
  | 26 => ⟨S1x1024x256, .f32⟩
  | 27 => ⟨S1024x256, .f32⟩
  | 28 => ⟨S1x512x1x4, .f32⟩
  | 29 => ⟨S512x1x4, .f32⟩
  | 30 => ⟨S1x512, .f32⟩
  | 31 => ⟨S512, .f32⟩
  | 32 => ⟨S1x48x512, .f32⟩
  | 33 => ⟨S48x512, .f32⟩
  | 34 => ⟨S1x512x16, .f32⟩
  | 35 => ⟨S512x16, .f32⟩
  | 36 => ⟨S1x512, .f32⟩
  | 37 => ⟨S512, .f32⟩
  | 38 => ⟨S1x512x16, .f32⟩
  | 39 => ⟨S512x16, .f32⟩
  | 40 => ⟨S1x512, .f32⟩
  | 41 => ⟨S512, .f32⟩
  | 42 => ⟨S1x256x512, .f32⟩
  | 43 => ⟨S256x512, .f32⟩
  | 44 => ⟨S4096x1x1024, .f32⟩
  | 45 => ⟨S4096x1x512, .f32⟩
  | 46 => ⟨S4096x1x512, .f32⟩
  | 47 => ⟨S_, .i32⟩
  | 48 => ⟨S_, .f32⟩
  | 49 => ⟨S4096x4x512, .f32⟩
  | 50 => ⟨S4096x1x512, .f32⟩
  | 51 => ⟨S512x1x1, .f32⟩
  | 52 => ⟨S512, .f32⟩
  | 53 => ⟨S1x1x512, .f32⟩
  | 54 => ⟨S4096x1x512, .f32⟩
  | 55 => ⟨S4096x1x512, .f32⟩
  | 56 => ⟨S_, .f32⟩
  | 57 => ⟨S4096x1x512, .f32⟩
  | 58 => ⟨S4096x1x512, .f32⟩
  | 59 => ⟨S4096x1x512, .f32⟩
  | 60 => ⟨S512x1x1, .f32⟩
  | 61 => ⟨S512, .f32⟩
  | 62 => ⟨S1x1x512, .f32⟩
  | 63 => ⟨S4096x1x512, .f32⟩
  | 64 => ⟨S4096x1x512, .f32⟩
  | 65 => ⟨S4096x1x512, .f32⟩
  | 66 => ⟨S4096x1x512, .f32⟩
  | 67 => ⟨S512x1x1, .f32⟩
  | 68 => ⟨S512, .f32⟩
  | 69 => ⟨S1x1x512, .f32⟩
  | 70 => ⟨S4096x1x512, .f32⟩
  | 71 => ⟨S4096x1x512, .f32⟩
  | 72 => ⟨S4096x1x512, .f32⟩
  | 73 => ⟨S4096x1x512, .f32⟩
  | 74 => ⟨S512x1x1, .f32⟩
  | 75 => ⟨S512, .f32⟩
  | 76 => ⟨S1x1x512, .f32⟩
  | 77 => ⟨S4096x1x512, .f32⟩
  | 78 => ⟨S4096x1x512, .f32⟩
  | 79 => ⟨S4096x1x512, .f32⟩
  | 80 => ⟨S1x1x512, .f32⟩
  | 81 => ⟨S4096x1x512, .f32⟩
  | 82 => ⟨S4096x1x512, .f32⟩
  | 83 => ⟨S4096x1x512, .f32⟩
  | 84 => ⟨S4096x1x512, .f32⟩
  | 85 => ⟨S_, .f32⟩
  | 86 => ⟨S4096x1x512, .f32⟩
  | 87 => ⟨S4096x1x512, .f32⟩
  | 88 => ⟨S_, .f32⟩
  | 89 => ⟨S4096x1x512, .f32⟩
  | 90 => ⟨S4096x1x512, .f32⟩
  | 91 => ⟨S4096x1x512, .f32⟩
  | 92 => ⟨S4096x1x48, .f32⟩
  | 93 => ⟨S4096x1x16, .f32⟩
  | 94 => ⟨S4096x1x16, .f32⟩
  | 95 => ⟨S4096x1x16, .f32⟩
  | 96 => ⟨S4096x1x512, .f32⟩
  | 97 => ⟨S1x1x512, .f32⟩
  | 98 => ⟨S4096x1x512, .f32⟩
  | 99 => ⟨S4096x1x512, .f32⟩
  | 100 => ⟨S_, .f32⟩
  | 101 => ⟨S4096x1x512, .f32⟩
  | 102 => ⟨S4096x1x512, .f32⟩
  | 103 => ⟨S4096x1x512, .f32⟩
  | 104 => ⟨S4096x1x512, .f32⟩
  | 105 => ⟨S4096x1x512, .i1⟩
  | 106 => ⟨S4096x1x512, .f32⟩
  | 107 => ⟨S4096x1x512, .f32⟩
  | 108 => ⟨S4096x1x512, .f32⟩
  | 109 => ⟨S4096x1x512, .f32⟩
  | 110 => ⟨S4096x1x512, .f32⟩
  | 111 => ⟨S4096x1x512, .f32⟩
  | 112 => ⟨S4096x1x512, .f32⟩
  | 113 => ⟨S4096x1x512, .f32⟩
  | 114 => ⟨S512x16, .f32⟩
  | 115 => ⟨S512x16, .f32⟩
  | 116 => ⟨S4096x1x512x1, .f32⟩
  | 117 => ⟨S1x1x512x16, .f32⟩
  | 118 => ⟨S4096x1x512x16, .f32⟩
  | 119 => ⟨S4096x1x512x16, .f32⟩
  | 120 => ⟨S4096x1x512x16, .f32⟩
  | 121 => ⟨S4096x1x512x16, .f32⟩
  | 122 => ⟨S4096x1x512x1, .f32⟩
  | 123 => ⟨S4096x1x1x16, .f32⟩
  | 124 => ⟨S4096x1x512x16, .f32⟩
  | 125 => ⟨S4096x1x512x16, .f32⟩
  | 126 => ⟨S4096x1x512x16, .f32⟩
  | 127 => ⟨S4096x1x512x1, .f32⟩
  | _ => ⟨S4096x480, .f32⟩

abbrev hbmTy0_5 (i : Nat) : BufTy := match i % 128 with
  | 0 => ⟨S4096x1x512x16, .f32⟩
  | 1 => ⟨S4096x1x512x16, .f32⟩
  | 2 => ⟨S_, .f32⟩
  | 3 => ⟨S4096x512x16, .f32⟩
  | 4 => ⟨S4096x512x16, .f32⟩
  | 5 => ⟨S4096x512x16, .f32⟩
  | 6 => ⟨S4096x512x16, .f32⟩
  | 7 => ⟨S4096x512x16, .f32⟩
  | 8 => ⟨S4096x16, .f32⟩
  | 9 => ⟨S4096x512, .f32⟩
  | 10 => ⟨S4096x1x512, .f32⟩
  | 11 => ⟨S1x1x512, .f32⟩
  | 12 => ⟨S4096x1x512, .f32⟩
  | 13 => ⟨S4096x1x512, .f32⟩
  | 14 => ⟨S4096x1x512, .f32⟩
  | 15 => ⟨S4096x1x512, .f32⟩
  | 16 => ⟨S4096x1x512, .f32⟩
  | 17 => ⟨S_, .f32⟩
  | 18 => ⟨S4096x1x512, .f32⟩
  | 19 => ⟨S4096x1x512, .f32⟩
  | 20 => ⟨S_, .f32⟩
  | 21 => ⟨S4096x1x512, .f32⟩
  | 22 => ⟨S4096x1x512, .f32⟩
  | 23 => ⟨S4096x1x512, .f32⟩
  | 24 => ⟨S4096x1x512, .f32⟩
  | 25 => ⟨S4096x1x256, .f32⟩
  | 26 => ⟨S4096x1x256, .f32⟩
  | 27 => ⟨S_, .f32⟩
  | 28 => ⟨S4096x1, .f32⟩
  | 29 => ⟨S4096x1x1, .f32⟩
  | 30 => ⟨S_, .f32⟩
  | 31 => ⟨S4096x1x1, .f32⟩
  | 32 => ⟨S4096x1x1, .f32⟩
  | 33 => ⟨S4096x1x256, .f32⟩
  | 34 => ⟨S4096x1x256, .f32⟩
  | 35 => ⟨S4096x1x256, .f32⟩
  | 36 => ⟨S_, .f32⟩
  | 37 => ⟨S4096x1, .f32⟩
  | 38 => ⟨S4096x1x1, .f32⟩
  | 39 => ⟨S_, .f32⟩
  | 40 => ⟨S4096x1x1, .f32⟩
  | 41 => ⟨S4096x1x1, .f32⟩
  | 42 => ⟨S4096x1x256, .f32⟩
  | 43 => ⟨S4096x1x256, .f32⟩
  | 44 => ⟨S_, .f32⟩
  | 45 => ⟨S4096x1x1, .f32⟩
  | 46 => ⟨S4096x1x1, .f32⟩
  | 47 => ⟨S4096x1x1, .f32⟩
  | 48 => ⟨S4096x1x256, .f32⟩
  | 49 => ⟨S4096x1x256, .f32⟩
  | 50 => ⟨S1x1x256, .f32⟩
  | 51 => ⟨S4096x1x256, .f32⟩
  | 52 => ⟨S4096x1x256, .f32⟩
  | 53 => ⟨S1x1x256, .f32⟩
  | 54 => ⟨S4096x1x256, .f32⟩
  | 55 => ⟨S4096x1x256, .f32⟩
  | 56 => ⟨S4096x256, .f32⟩
  | 57 => ⟨S256x8, .f32⟩
  | 58 => ⟨S4096x8, .f32⟩
  | 59 => ⟨S1x8, .f32⟩
  | 60 => ⟨S4096x8, .f32⟩
  | 61 => ⟨S4096x8, .f32⟩
  | _ => ⟨S4096x480, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x480, .f32⟩

abbrev bufTy : (tb : Table) → Fin (tcTables nBuf tb) → BufTy
  | .hbm, ⟨i, _⟩ => hbmTy i
  | _, _ => ⟨S4096x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_0 : Ref sig .tc := ⟨.hbm, 81, rfl⟩
abbrev main_v62 : Ref sig .tc := ⟨.hbm, 82, rfl⟩
abbrev main_v63 : Ref sig .tc := ⟨.hbm, 83, rfl⟩
abbrev main_cst_1 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_2 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_3 : Ref sig .tc := ⟨.hbm, 141, rfl⟩
abbrev main_v106 : Ref sig .tc := ⟨.hbm, 142, rfl⟩
abbrev main_v107 : Ref sig .tc := ⟨.hbm, 143, rfl⟩
abbrev main_cst_4 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_c_5 : Ref sig .tc := ⟨.hbm, 172, rfl⟩
abbrev main_call2_v0 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_6 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_cst_7 : Ref sig .tc := ⟨.hbm, 210, rfl⟩
abbrev main_v170 : Ref sig .tc := ⟨.hbm, 211, rfl⟩
abbrev main_v171 : Ref sig .tc := ⟨.hbm, 212, rfl⟩
abbrev main_cst_8 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_call3_cst : Ref sig .tc := ⟨.hbm, 225, rfl⟩
abbrev main_call3_v0 : Ref sig .tc := ⟨.hbm, 226, rfl⟩
abbrev main_call3_v1 : Ref sig .tc := ⟨.hbm, 227, rfl⟩
abbrev main_call3_v2 : Ref sig .tc := ⟨.hbm, 228, rfl⟩
abbrev main_call3_v3 : Ref sig .tc := ⟨.hbm, 229, rfl⟩
abbrev main_call3_v4 : Ref sig .tc := ⟨.hbm, 230, rfl⟩
abbrev main_call3_v5 : Ref sig .tc := ⟨.hbm, 231, rfl⟩
abbrev main_call3_v6 : Ref sig .tc := ⟨.hbm, 232, rfl⟩
abbrev main_call3_v7 : Ref sig .tc := ⟨.hbm, 233, rfl⟩
abbrev main_call3_v8 : Ref sig .tc := ⟨.hbm, 234, rfl⟩
abbrev main_call3_v9 : Ref sig .tc := ⟨.hbm, 235, rfl⟩
abbrev main_call3_v10 : Ref sig .tc := ⟨.hbm, 236, rfl⟩
abbrev main_call3_v11 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_cst_9 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_cst_10 : Ref sig .tc := ⟨.hbm, 270, rfl⟩
abbrev main_v214 : Ref sig .tc := ⟨.hbm, 271, rfl⟩
abbrev main_v215 : Ref sig .tc := ⟨.hbm, 272, rfl⟩
abbrev main_cst_11 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_c_12 : Ref sig .tc := ⟨.hbm, 301, rfl⟩
abbrev main_call4_v0 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_cst_13 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_cst_14 : Ref sig .tc := ⟨.hbm, 339, rfl⟩
abbrev main_v278 : Ref sig .tc := ⟨.hbm, 340, rfl⟩
abbrev main_v279 : Ref sig .tc := ⟨.hbm, 341, rfl⟩
abbrev main_cst_15 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_call5_cst : Ref sig .tc := ⟨.hbm, 354, rfl⟩
abbrev main_call5_v0 : Ref sig .tc := ⟨.hbm, 355, rfl⟩
abbrev main_call5_v1 : Ref sig .tc := ⟨.hbm, 356, rfl⟩
abbrev main_call5_v2 : Ref sig .tc := ⟨.hbm, 357, rfl⟩
abbrev main_call5_v3 : Ref sig .tc := ⟨.hbm, 358, rfl⟩
abbrev main_call5_v4 : Ref sig .tc := ⟨.hbm, 359, rfl⟩
abbrev main_call5_v5 : Ref sig .tc := ⟨.hbm, 360, rfl⟩
abbrev main_call5_v6 : Ref sig .tc := ⟨.hbm, 361, rfl⟩
abbrev main_call5_v7 : Ref sig .tc := ⟨.hbm, 362, rfl⟩
abbrev main_call5_v8 : Ref sig .tc := ⟨.hbm, 363, rfl⟩
abbrev main_call5_v9 : Ref sig .tc := ⟨.hbm, 364, rfl⟩
abbrev main_call5_v10 : Ref sig .tc := ⟨.hbm, 365, rfl⟩
abbrev main_call5_v11 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev main_cst_16 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_cst_17 : Ref sig .tc := ⟨.hbm, 399, rfl⟩
abbrev main_v322 : Ref sig .tc := ⟨.hbm, 400, rfl⟩
abbrev main_v323 : Ref sig .tc := ⟨.hbm, 401, rfl⟩
abbrev main_cst_18 : Ref sig .tc := ⟨.hbm, 402, rfl⟩
abbrev main_v324 : Ref sig .tc := ⟨.hbm, 403, rfl⟩
abbrev main_v325 : Ref sig .tc := ⟨.hbm, 404, rfl⟩
abbrev main_v326 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_v330 : Ref sig .tc := ⟨.hbm, 409, rfl⟩
abbrev main_v331 : Ref sig .tc := ⟨.hbm, 410, rfl⟩
abbrev main_v332 : Ref sig .tc := ⟨.hbm, 411, rfl⟩
abbrev main_v333 : Ref sig .tc := ⟨.hbm, 412, rfl⟩
abbrev main_v334 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_v340 : Ref sig .tc := ⟨.hbm, 419, rfl⟩
abbrev main_v341 : Ref sig .tc := ⟨.hbm, 420, rfl⟩
abbrev main_v342 : Ref sig .tc := ⟨.hbm, 421, rfl⟩
abbrev main_v343 : Ref sig .tc := ⟨.hbm, 422, rfl⟩
abbrev main_v344 : Ref sig .tc := ⟨.hbm, 423, rfl⟩
abbrev main_v345 : Ref sig .tc := ⟨.hbm, 424, rfl⟩
abbrev main_v346 : Ref sig .tc := ⟨.hbm, 425, rfl⟩
abbrev main_v347 : Ref sig .tc := ⟨.hbm, 426, rfl⟩
abbrev main_v348 : Ref sig .tc := ⟨.hbm, 427, rfl⟩
abbrev main_v349 : Ref sig .tc := ⟨.hbm, 428, rfl⟩
abbrev main_v350 : Ref sig .tc := ⟨.hbm, 429, rfl⟩
abbrev main_c_19 : Ref sig .tc := ⟨.hbm, 430, rfl⟩
abbrev main_call6_v0 : Ref sig .tc := ⟨.hbm, 431, rfl⟩
abbrev main_v351 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_cst_20 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_v365 : Ref sig .tc := ⟨.hbm, 447, rfl⟩
abbrev main_v366 : Ref sig .tc := ⟨.hbm, 448, rfl⟩
abbrev main_v367 : Ref sig .tc := ⟨.hbm, 449, rfl⟩
abbrev main_v368 : Ref sig .tc := ⟨.hbm, 450, rfl⟩
abbrev main_v369 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_v373 : Ref sig .tc := ⟨.hbm, 455, rfl⟩
abbrev main_v374 : Ref sig .tc := ⟨.hbm, 456, rfl⟩
abbrev main_v375 : Ref sig .tc := ⟨.hbm, 457, rfl⟩
abbrev main_v376 : Ref sig .tc := ⟨.hbm, 458, rfl⟩
abbrev main_v377 : Ref sig .tc := ⟨.hbm, 459, rfl⟩
abbrev main_v378 : Ref sig .tc := ⟨.hbm, 460, rfl⟩
abbrev main_v379 : Ref sig .tc := ⟨.hbm, 461, rfl⟩
abbrev main_v380 : Ref sig .tc := ⟨.hbm, 462, rfl⟩
abbrev main_v381 : Ref sig .tc := ⟨.hbm, 463, rfl⟩
abbrev main_v382 : Ref sig .tc := ⟨.hbm, 464, rfl⟩
abbrev main_v383 : Ref sig .tc := ⟨.hbm, 465, rfl⟩
abbrev main_v384 : Ref sig .tc := ⟨.hbm, 466, rfl⟩
abbrev main_v385 : Ref sig .tc := ⟨.hbm, 467, rfl⟩
abbrev main_cst_21 : Ref sig .tc := ⟨.hbm, 468, rfl⟩
abbrev main_v386 : Ref sig .tc := ⟨.hbm, 469, rfl⟩
abbrev main_v387 : Ref sig .tc := ⟨.hbm, 470, rfl⟩
abbrev main_cst_22 : Ref sig .tc := ⟨.hbm, 471, rfl⟩
abbrev main_v388 : Ref sig .tc := ⟨.hbm, 472, rfl⟩
abbrev main_v389 : Ref sig .tc := ⟨.hbm, 473, rfl⟩
abbrev main_v390 : Ref sig .tc := ⟨.hbm, 474, rfl⟩
abbrev main_v391 : Ref sig .tc := ⟨.hbm, 475, rfl⟩
abbrev main_v392 : Ref sig .tc := ⟨.hbm, 476, rfl⟩
abbrev main_v393 : Ref sig .tc := ⟨.hbm, 477, rfl⟩
abbrev main_v394 : Ref sig .tc := ⟨.hbm, 478, rfl⟩
abbrev main_v395 : Ref sig .tc := ⟨.hbm, 479, rfl⟩
abbrev main_v396 : Ref sig .tc := ⟨.hbm, 480, rfl⟩
abbrev main_v397 : Ref sig .tc := ⟨.hbm, 481, rfl⟩
abbrev main_v398 : Ref sig .tc := ⟨.hbm, 482, rfl⟩
abbrev main_call7_cst : Ref sig .tc := ⟨.hbm, 483, rfl⟩
abbrev main_call7_v0 : Ref sig .tc := ⟨.hbm, 484, rfl⟩
abbrev main_call7_v1 : Ref sig .tc := ⟨.hbm, 485, rfl⟩
abbrev main_call7_v2 : Ref sig .tc := ⟨.hbm, 486, rfl⟩
abbrev main_call7_v3 : Ref sig .tc := ⟨.hbm, 487, rfl⟩
abbrev main_call7_v4 : Ref sig .tc := ⟨.hbm, 488, rfl⟩
abbrev main_call7_v5 : Ref sig .tc := ⟨.hbm, 489, rfl⟩
abbrev main_call7_v6 : Ref sig .tc := ⟨.hbm, 490, rfl⟩
abbrev main_call7_v7 : Ref sig .tc := ⟨.hbm, 491, rfl⟩
abbrev main_call7_v8 : Ref sig .tc := ⟨.hbm, 492, rfl⟩
abbrev main_call7_v9 : Ref sig .tc := ⟨.hbm, 493, rfl⟩
abbrev main_call7_v10 : Ref sig .tc := ⟨.hbm, 494, rfl⟩
abbrev main_call7_v11 : Ref sig .tc := ⟨.hbm, 495, rfl⟩
abbrev main_v399 : Ref sig .tc := ⟨.hbm, 496, rfl⟩
abbrev main_v400 : Ref sig .tc := ⟨.hbm, 497, rfl⟩
abbrev main_v401 : Ref sig .tc := ⟨.hbm, 498, rfl⟩
abbrev main_v402 : Ref sig .tc := ⟨.hbm, 499, rfl⟩
abbrev main_v403 : Ref sig .tc := ⟨.hbm, 500, rfl⟩
abbrev main_v404 : Ref sig .tc := ⟨.hbm, 501, rfl⟩
abbrev main_v405 : Ref sig .tc := ⟨.hbm, 502, rfl⟩
abbrev main_v406 : Ref sig .tc := ⟨.hbm, 503, rfl⟩
abbrev main_v407 : Ref sig .tc := ⟨.hbm, 504, rfl⟩
abbrev main_v408 : Ref sig .tc := ⟨.hbm, 505, rfl⟩
abbrev main_v409 : Ref sig .tc := ⟨.hbm, 506, rfl⟩
abbrev main_v410 : Ref sig .tc := ⟨.hbm, 507, rfl⟩
abbrev main_v411 : Ref sig .tc := ⟨.hbm, 508, rfl⟩
abbrev main_v412 : Ref sig .tc := ⟨.hbm, 509, rfl⟩
abbrev main_v413 : Ref sig .tc := ⟨.hbm, 510, rfl⟩
abbrev main_v414 : Ref sig .tc := ⟨.hbm, 511, rfl⟩
abbrev main_v415 : Ref sig .tc := ⟨.hbm, 512, rfl⟩
abbrev main_cst_23 : Ref sig .tc := ⟨.hbm, 513, rfl⟩
abbrev main_v416 : Ref sig .tc := ⟨.hbm, 514, rfl⟩
abbrev main_v417 : Ref sig .tc := ⟨.hbm, 515, rfl⟩
abbrev main_v418 : Ref sig .tc := ⟨.hbm, 516, rfl⟩
abbrev main_v419 : Ref sig .tc := ⟨.hbm, 517, rfl⟩
abbrev main_v420 : Ref sig .tc := ⟨.hbm, 518, rfl⟩
abbrev main_v421 : Ref sig .tc := ⟨.hbm, 519, rfl⟩
abbrev main_v422 : Ref sig .tc := ⟨.hbm, 520, rfl⟩
abbrev main_v423 : Ref sig .tc := ⟨.hbm, 521, rfl⟩
abbrev main_v424 : Ref sig .tc := ⟨.hbm, 522, rfl⟩
abbrev main_v425 : Ref sig .tc := ⟨.hbm, 523, rfl⟩
abbrev main_v426 : Ref sig .tc := ⟨.hbm, 524, rfl⟩
abbrev main_v427 : Ref sig .tc := ⟨.hbm, 525, rfl⟩
abbrev main_v428 : Ref sig .tc := ⟨.hbm, 526, rfl⟩
abbrev main_v429 : Ref sig .tc := ⟨.hbm, 527, rfl⟩
abbrev main_cst_24 : Ref sig .tc := ⟨.hbm, 528, rfl⟩
abbrev main_v430 : Ref sig .tc := ⟨.hbm, 529, rfl⟩
abbrev main_v431 : Ref sig .tc := ⟨.hbm, 530, rfl⟩
abbrev main_cst_25 : Ref sig .tc := ⟨.hbm, 531, rfl⟩
abbrev main_v432 : Ref sig .tc := ⟨.hbm, 532, rfl⟩
abbrev main_v433 : Ref sig .tc := ⟨.hbm, 533, rfl⟩
abbrev main_v434 : Ref sig .tc := ⟨.hbm, 534, rfl⟩
abbrev main_v435 : Ref sig .tc := ⟨.hbm, 535, rfl⟩
abbrev main_v436 : Ref sig .tc := ⟨.hbm, 536, rfl⟩
abbrev main_v437 : Ref sig .tc := ⟨.hbm, 537, rfl⟩
abbrev main_v438 : Ref sig .tc := ⟨.hbm, 538, rfl⟩
abbrev main_v439 : Ref sig .tc := ⟨.hbm, 539, rfl⟩
abbrev main_v440 : Ref sig .tc := ⟨.hbm, 540, rfl⟩
abbrev main_v441 : Ref sig .tc := ⟨.hbm, 541, rfl⟩
abbrev main_v442 : Ref sig .tc := ⟨.hbm, 542, rfl⟩
abbrev main_v443 : Ref sig .tc := ⟨.hbm, 543, rfl⟩
abbrev main_v444 : Ref sig .tc := ⟨.hbm, 544, rfl⟩
abbrev main_v445 : Ref sig .tc := ⟨.hbm, 545, rfl⟩
abbrev main_v446 : Ref sig .tc := ⟨.hbm, 546, rfl⟩
abbrev main_v447 : Ref sig .tc := ⟨.hbm, 547, rfl⟩
abbrev main_v448 : Ref sig .tc := ⟨.hbm, 548, rfl⟩
abbrev main_v449 : Ref sig .tc := ⟨.hbm, 549, rfl⟩
abbrev main_v450 : Ref sig .tc := ⟨.hbm, 550, rfl⟩
abbrev main_v451 : Ref sig .tc := ⟨.hbm, 551, rfl⟩
abbrev main_v452 : Ref sig .tc := ⟨.hbm, 552, rfl⟩
abbrev main_v453 : Ref sig .tc := ⟨.hbm, 553, rfl⟩
abbrev main_v454 : Ref sig .tc := ⟨.hbm, 554, rfl⟩
abbrev main_v455 : Ref sig .tc := ⟨.hbm, 555, rfl⟩
abbrev main_v456 : Ref sig .tc := ⟨.hbm, 556, rfl⟩
abbrev main_v457 : Ref sig .tc := ⟨.hbm, 557, rfl⟩
abbrev main_v458 : Ref sig .tc := ⟨.hbm, 558, rfl⟩
abbrev main_c_26 : Ref sig .tc := ⟨.hbm, 559, rfl⟩
abbrev main_call8_v0 : Ref sig .tc := ⟨.hbm, 560, rfl⟩
abbrev main_v459 : Ref sig .tc := ⟨.hbm, 561, rfl⟩
abbrev main_v460 : Ref sig .tc := ⟨.hbm, 562, rfl⟩
abbrev main_v461 : Ref sig .tc := ⟨.hbm, 563, rfl⟩
abbrev main_v462 : Ref sig .tc := ⟨.hbm, 564, rfl⟩
abbrev main_v463 : Ref sig .tc := ⟨.hbm, 565, rfl⟩
abbrev main_v464 : Ref sig .tc := ⟨.hbm, 566, rfl⟩
abbrev main_v465 : Ref sig .tc := ⟨.hbm, 567, rfl⟩
abbrev main_cst_27 : Ref sig .tc := ⟨.hbm, 568, rfl⟩
abbrev main_v466 : Ref sig .tc := ⟨.hbm, 569, rfl⟩
abbrev main_v467 : Ref sig .tc := ⟨.hbm, 570, rfl⟩
abbrev main_v468 : Ref sig .tc := ⟨.hbm, 571, rfl⟩
abbrev main_v469 : Ref sig .tc := ⟨.hbm, 572, rfl⟩
abbrev main_v470 : Ref sig .tc := ⟨.hbm, 573, rfl⟩
abbrev main_v471 : Ref sig .tc := ⟨.hbm, 574, rfl⟩
abbrev main_v472 : Ref sig .tc := ⟨.hbm, 575, rfl⟩
abbrev main_v473 : Ref sig .tc := ⟨.hbm, 576, rfl⟩
abbrev main_v474 : Ref sig .tc := ⟨.hbm, 577, rfl⟩
abbrev main_v475 : Ref sig .tc := ⟨.hbm, 578, rfl⟩
abbrev main_v476 : Ref sig .tc := ⟨.hbm, 579, rfl⟩
abbrev main_v477 : Ref sig .tc := ⟨.hbm, 580, rfl⟩
abbrev main_v478 : Ref sig .tc := ⟨.hbm, 581, rfl⟩
abbrev main_v479 : Ref sig .tc := ⟨.hbm, 582, rfl⟩
abbrev main_v480 : Ref sig .tc := ⟨.hbm, 583, rfl⟩
abbrev main_v481 : Ref sig .tc := ⟨.hbm, 584, rfl⟩
abbrev main_v482 : Ref sig .tc := ⟨.hbm, 585, rfl⟩
abbrev main_v483 : Ref sig .tc := ⟨.hbm, 586, rfl⟩
abbrev main_v484 : Ref sig .tc := ⟨.hbm, 587, rfl⟩
abbrev main_v485 : Ref sig .tc := ⟨.hbm, 588, rfl⟩
abbrev main_v486 : Ref sig .tc := ⟨.hbm, 589, rfl⟩
abbrev main_v487 : Ref sig .tc := ⟨.hbm, 590, rfl⟩
abbrev main_v488 : Ref sig .tc := ⟨.hbm, 591, rfl⟩
abbrev main_v489 : Ref sig .tc := ⟨.hbm, 592, rfl⟩
abbrev main_v490 : Ref sig .tc := ⟨.hbm, 593, rfl⟩
abbrev main_v491 : Ref sig .tc := ⟨.hbm, 594, rfl⟩
abbrev main_v492 : Ref sig .tc := ⟨.hbm, 595, rfl⟩
abbrev main_v493 : Ref sig .tc := ⟨.hbm, 596, rfl⟩
abbrev main_cst_28 : Ref sig .tc := ⟨.hbm, 597, rfl⟩
abbrev main_v494 : Ref sig .tc := ⟨.hbm, 598, rfl⟩
abbrev main_v495 : Ref sig .tc := ⟨.hbm, 599, rfl⟩
abbrev main_cst_29 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_v500 : Ref sig .tc := ⟨.hbm, 605, rfl⟩
abbrev main_v501 : Ref sig .tc := ⟨.hbm, 606, rfl⟩
abbrev main_v502 : Ref sig .tc := ⟨.hbm, 607, rfl⟩
abbrev main_v503 : Ref sig .tc := ⟨.hbm, 608, rfl⟩
abbrev main_v504 : Ref sig .tc := ⟨.hbm, 609, rfl⟩
abbrev main_v505 : Ref sig .tc := ⟨.hbm, 610, rfl⟩
abbrev main_v506 : Ref sig .tc := ⟨.hbm, 611, rfl⟩
abbrev main_call9_cst : Ref sig .tc := ⟨.hbm, 612, rfl⟩
abbrev main_call9_v0 : Ref sig .tc := ⟨.hbm, 613, rfl⟩
abbrev main_call9_v1 : Ref sig .tc := ⟨.hbm, 614, rfl⟩
abbrev main_call9_v2 : Ref sig .tc := ⟨.hbm, 615, rfl⟩
abbrev main_call9_v3 : Ref sig .tc := ⟨.hbm, 616, rfl⟩
abbrev main_call9_v4 : Ref sig .tc := ⟨.hbm, 617, rfl⟩
abbrev main_call9_v5 : Ref sig .tc := ⟨.hbm, 618, rfl⟩
abbrev main_call9_v6 : Ref sig .tc := ⟨.hbm, 619, rfl⟩
abbrev main_call9_v7 : Ref sig .tc := ⟨.hbm, 620, rfl⟩
abbrev main_call9_v8 : Ref sig .tc := ⟨.hbm, 621, rfl⟩
abbrev main_call9_v9 : Ref sig .tc := ⟨.hbm, 622, rfl⟩
abbrev main_call9_v10 : Ref sig .tc := ⟨.hbm, 623, rfl⟩
abbrev main_call9_v11 : Ref sig .tc := ⟨.hbm, 624, rfl⟩
abbrev main_v507 : Ref sig .tc := ⟨.hbm, 625, rfl⟩
abbrev main_v508 : Ref sig .tc := ⟨.hbm, 626, rfl⟩
abbrev main_v509 : Ref sig .tc := ⟨.hbm, 627, rfl⟩
abbrev main_v510 : Ref sig .tc := ⟨.hbm, 628, rfl⟩
abbrev main_v511 : Ref sig .tc := ⟨.hbm, 629, rfl⟩
abbrev main_v512 : Ref sig .tc := ⟨.hbm, 630, rfl⟩
abbrev main_v513 : Ref sig .tc := ⟨.hbm, 631, rfl⟩
abbrev main_v514 : Ref sig .tc := ⟨.hbm, 632, rfl⟩
abbrev main_v515 : Ref sig .tc := ⟨.hbm, 633, rfl⟩
abbrev main_v516 : Ref sig .tc := ⟨.hbm, 634, rfl⟩
abbrev main_v517 : Ref sig .tc := ⟨.hbm, 635, rfl⟩
abbrev main_v518 : Ref sig .tc := ⟨.hbm, 636, rfl⟩
abbrev main_v519 : Ref sig .tc := ⟨.hbm, 637, rfl⟩
abbrev main_v520 : Ref sig .tc := ⟨.hbm, 638, rfl⟩
abbrev main_v521 : Ref sig .tc := ⟨.hbm, 639, rfl⟩
abbrev main_v522 : Ref sig .tc := ⟨.hbm, 640, rfl⟩
abbrev main_v523 : Ref sig .tc := ⟨.hbm, 641, rfl⟩
abbrev main_cst_30 : Ref sig .tc := ⟨.hbm, 642, rfl⟩
abbrev main_v524 : Ref sig .tc := ⟨.hbm, 643, rfl⟩
abbrev main_v525 : Ref sig .tc := ⟨.hbm, 644, rfl⟩
abbrev main_v526 : Ref sig .tc := ⟨.hbm, 645, rfl⟩
abbrev main_v527 : Ref sig .tc := ⟨.hbm, 646, rfl⟩
abbrev main_v528 : Ref sig .tc := ⟨.hbm, 647, rfl⟩
abbrev main_v529 : Ref sig .tc := ⟨.hbm, 648, rfl⟩
abbrev main_v530 : Ref sig .tc := ⟨.hbm, 649, rfl⟩
abbrev main_v531 : Ref sig .tc := ⟨.hbm, 650, rfl⟩
abbrev main_v532 : Ref sig .tc := ⟨.hbm, 651, rfl⟩
abbrev main_v533 : Ref sig .tc := ⟨.hbm, 652, rfl⟩
abbrev main_v534 : Ref sig .tc := ⟨.hbm, 653, rfl⟩
abbrev main_v535 : Ref sig .tc := ⟨.hbm, 654, rfl⟩
abbrev main_v536 : Ref sig .tc := ⟨.hbm, 655, rfl⟩
abbrev main_v537 : Ref sig .tc := ⟨.hbm, 656, rfl⟩
abbrev main_cst_31 : Ref sig .tc := ⟨.hbm, 657, rfl⟩
abbrev main_v538 : Ref sig .tc := ⟨.hbm, 658, rfl⟩
abbrev main_v539 : Ref sig .tc := ⟨.hbm, 659, rfl⟩
abbrev main_cst_32 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_v544 : Ref sig .tc := ⟨.hbm, 665, rfl⟩
abbrev main_v545 : Ref sig .tc := ⟨.hbm, 666, rfl⟩
abbrev main_cst_33 : Ref sig .tc := ⟨.hbm, 667, rfl⟩
abbrev main_v546 : Ref sig .tc := ⟨.hbm, 668, rfl⟩
abbrev main_v547 : Ref sig .tc := ⟨.hbm, 669, rfl⟩
abbrev main_cst_34 : Ref sig .tc := ⟨.hbm, 670, rfl⟩
abbrev main_v548 : Ref sig .tc := ⟨.hbm, 671, rfl⟩
abbrev main_v549 : Ref sig .tc := ⟨.hbm, 672, rfl⟩
abbrev main_v550 : Ref sig .tc := ⟨.hbm, 673, rfl⟩
abbrev main_v551 : Ref sig .tc := ⟨.hbm, 674, rfl⟩
abbrev main_v552 : Ref sig .tc := ⟨.hbm, 675, rfl⟩
abbrev main_cst_35 : Ref sig .tc := ⟨.hbm, 676, rfl⟩
abbrev main_v553 : Ref sig .tc := ⟨.hbm, 677, rfl⟩
abbrev main_v554 : Ref sig .tc := ⟨.hbm, 678, rfl⟩
abbrev main_cst_36 : Ref sig .tc := ⟨.hbm, 679, rfl⟩
abbrev main_v555 : Ref sig .tc := ⟨.hbm, 680, rfl⟩
abbrev main_v556 : Ref sig .tc := ⟨.hbm, 681, rfl⟩
abbrev main_v557 : Ref sig .tc := ⟨.hbm, 682, rfl⟩
abbrev main_v558 : Ref sig .tc := ⟨.hbm, 683, rfl⟩
abbrev main_cst_37 : Ref sig .tc := ⟨.hbm, 684, rfl⟩
abbrev main_v559 : Ref sig .tc := ⟨.hbm, 685, rfl⟩
abbrev main_v560 : Ref sig .tc := ⟨.hbm, 686, rfl⟩
abbrev main_v561 : Ref sig .tc := ⟨.hbm, 687, rfl⟩
abbrev main_v562 : Ref sig .tc := ⟨.hbm, 688, rfl⟩
abbrev main_v563 : Ref sig .tc := ⟨.hbm, 689, rfl⟩
abbrev main_v564 : Ref sig .tc := ⟨.hbm, 690, rfl⟩
abbrev main_v565 : Ref sig .tc := ⟨.hbm, 691, rfl⟩
abbrev main_v566 : Ref sig .tc := ⟨.hbm, 692, rfl⟩
abbrev main_v567 : Ref sig .tc := ⟨.hbm, 693, rfl⟩
abbrev main_v568 : Ref sig .tc := ⟨.hbm, 694, rfl⟩
abbrev main_v569 : Ref sig .tc := ⟨.hbm, 695, rfl⟩
abbrev main_v570 : Ref sig .tc := ⟨.hbm, 696, rfl⟩
abbrev main_v571 : Ref sig .tc := ⟨.hbm, 697, rfl⟩
abbrev main_v572 : Ref sig .tc := ⟨.hbm, 698, rfl⟩
abbrev main_v573 : Ref sig .tc := ⟨.hbm, 699, rfl⟩
abbrev main_v574 : Ref sig .tc := ⟨.hbm, 700, rfl⟩
abbrev main_v575 : Ref sig .tc := ⟨.hbm, 701, rfl⟩

abbrev nD : Nat := 1
abbrev τ : Topo := Topo.v7x

variable {F : FTy → Type} [FloatOps F]
-- ==== Proof.KernelIdealModel.lean ====
/- What one grid point of the launch computes, written as a composition of five equal blocks, and what
the first point leaves in the six scratch buffers. -/
module

public import proofs.«01_k».proof.Proof.Gen.KernelIdeal.Frame
public import proofs.«01_k».proof.Proof.Gen.KernelIdeal.Skeleton
public import Idealize.ShloMosaic.Lib.VecWindow
public import Idealize.ShloMosaic.Lib.WholeRead
public import Idealize.ShloMosaic.Lib.Pipeline.ValueKit.Basic
@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

/-- The features of a point's rows, transposed: `(x · preᵀ)ᵀ`, channel by row. -/
def first (x : Vec F S2048x480 .f32) (p : Vec F S480x256 .bf16) : FVec F S256x2048 .f32 :=
  transpose S256x2048 [1, 0]
    (matmul dot_S2048x480_S480x256_S2048x256_1_0_0_1_n_n none (truncf .bf16 x bitsLt_bf16_f32) p
      (constant S2048x256 .f32 0x00000000#32)) transposes_S2048x256_p1_0_S256x2048

/-- Half of a bf16 block, entry by entry. -/
def half (v : FVec F S512x2048 .bf16) : FVec F S512x2048 .bf16 :=
  mulf v (broadcast S512x2048 (Scalar.ofBits .bf16 0x3F00#16))

/-- The gate `(v/2) · (1 + tanh (v/2))`. -/
def gate (v : FVec F S512x2048 .bf16) : FVec F S512x2048 .bf16 :=
  mulf (half v) (addf (broadcast S512x2048 (Scalar.ofBits .bf16 0x3F80#16)) (tanh (half v)))

/-- The input projection of a block, rounded to bf16. -/
def inproj (w : Vec F S1x1024x256 .bf16) (h : FVec F S256x2048 .f32) : FVec F S1024x2048 .bf16 :=
  truncf .bf16
    (matmul dot_S1024x256_S256x2048_S1024x2048_1_0_0_1_n_n none
      (shapeCast S1024x256 w shapeCasts_S1x1024x256_S1024x256) (truncf .bf16 h bitsLt_bf16_f32)
      (constant S1024x2048 .f32 0x00000000#32)) bitsLt_bf16_f32

/-- The first half of the projected channels. -/
def low (u : FVec F S1024x2048 .bf16) : FVec F S512x2048 .bf16 :=
  extractStridedSlice S512x2048 ![0, 0] u slices_S1024x2048_o0_0_S512x2048

/-- The second half of the projected channels. -/
def high (u : FVec F S1024x2048 .bf16) : FVec F S512x2048 .bf16 :=
  extractStridedSlice S512x2048 ![512, 0] u slices_S1024x2048_o512_0_S512x2048

/-- The projection to the 48 step, input and output coefficients. -/
def xproj (w : Vec F S1x48x512 .bf16) (s : FVec F S512x2048 .bf16) : FVec F S48x2048 .f32 :=
  matmul dot_S48x512_S512x2048_S48x2048_1_0_0_1_n_n none
    (shapeCast S48x512 w shapeCasts_S1x48x512_S48x512) s (constant S48x2048 .f32 0x00000000#32)

/-- The inner product of the input and the output coefficients of a row. -/
def inner (q : FVec F S48x2048 .f32) : FVec F S2048 .f32 :=
  multiReduction .add [0] S2048
    (mulf (extractStridedSlice S16x2048 ![16, 0] q slices_S48x2048_o16_0_S16x2048)
      (extractStridedSlice S16x2048 ![32, 0] q slices_S48x2048_o32_0_S16x2048))
    0x00000000#32 reduces_S16x2048_S2048 (.inl rfl) rfl

/-- The step-size projection. -/
def dtproj (w : Vec F S1x512x16 .bf16) (q : FVec F S48x2048 .f32) : FVec F S512x2048 .f32 :=
  matmul dot_S512x16_S16x2048_S512x2048_1_0_0_1_n_n none
    (shapeCast S512x16 w shapeCasts_S1x512x16_S512x16)
    (truncf .bf16 (extractStridedSlice S16x2048 ![0, 0] q slices_S48x2048_o0_0_S16x2048)
      bitsLt_bf16_f32)
    (constant S512x2048 .f32 0x00000000#32)

/-- The argument of the softplus: the step-size projection less the literal 4.6. -/
def arg (w : Vec F S1x512x16 .bf16) (q : FVec F S48x2048 .f32) : FVec F S512x2048 .f32 :=
  subf (dtproj w q) (broadcast S512x2048 (Scalar.ofBits .f32 0x40933333#32))

/-- Where an argument exceeds 30. -/
def big (v : FVec F S512x2048 .f32) : IVec S512x2048 1 :=
  cmpf .ogt v (broadcast S512x2048 (Scalar.ofBits .f32 0x41F00000#32))

/-- The guarded softplus: `v` beyond 30 and `log (1 + exp v)` up to 30. -/
def soft (v : FVec F S512x2048 .f32) : FVec F S512x2048 .f32 :=
  select (big v) v
    (log (addf (broadcast S512x2048 (Scalar.ofBits .f32 0x3F800000#32)) (exp v)))

/-- The scan's output before the gate: `s · (softplus · inner + 1)`. -/
def scan (s : FVec F S512x2048 .bf16) (g : FVec F S512x2048 .f32) (b : FVec F S2048 .f32) :
    FVec F S512x2048 .bf16 :=
  mulf s
    (addf
      (mulf (truncf .bf16 g bitsLt_bf16_f32)
        (broadcastTo S512x2048
          (truncf .bf16 (shapeCast S1x2048 b shapeCasts_S2048_S1x2048) bitsLt_bf16_f32)
          broadcasts_S1x2048_S512x2048))
      (broadcast S512x2048 (Scalar.ofBits .bf16 0x3F80#16)))

/-- The output projection added to the block's input. -/
def resid (h : FVec F S256x2048 .f32) (w : Vec F S1x256x512 .bf16) (y : FVec F S512x2048 .bf16) :
    FVec F S256x2048 .f32 :=
  addf h
    (matmul dot_S256x512_S512x2048_S256x2048_1_0_0_1_n_n none
      (shapeCast S256x512 w shapeCasts_S1x256x512_S256x512) y
      (constant S256x2048 .f32 0x00000000#32))

/-- The block from its gated input `s`, its gate channels `z` and the coefficients `q`. -/
def rest (h : FVec F S256x2048 .f32) (s z : FVec F S512x2048 .bf16) (q : FVec F S48x2048 .f32)
    (wT : Vec F S1x512x16 .bf16) (wO : Vec F S1x256x512 .bf16) : FVec F S256x2048 .f32 :=
  resid h wO (mulf (scan s (soft (arg wT q)) (inner q)) (gate z))

/-- One block: the hidden features to the next hidden features. -/
def block (wI : Vec F S1x1024x256 .bf16) (wX : Vec F S1x48x512 .bf16) (wT : Vec F S1x512x16 .bf16)
    (wO : Vec F S1x256x512 .bf16) (h : FVec F S256x2048 .f32) : FVec F S256x2048 .f32 :=
  rest h (gate (low (inproj wI h))) (high (inproj wI h))
    (xproj wX (gate (low (inproj wI h)))) wT wO

/-- The features of a row less their mean. -/
def center (h : FVec F S256x2048 .f32) : FVec F S2048x256 .f32 :=
  subf (transpose S2048x256 [1, 0] h transposes_S256x2048_p1_0_S2048x256)
    (broadcastTo S2048x256
      (divf
        (shapeCast S2048x1
          (multiReduction .add [1] S2048
            (transpose S2048x256 [1, 0] h transposes_S256x2048_p1_0_S2048x256)
            0x00000000#32 reduces_S2048x256_S2048 (.inl rfl) rfl) shapeCasts_S2048_S2048x1)
        (broadcast S2048x1 (Scalar.ofBits .f32 0x43800000#32))) broadcasts_S2048x1_S2048x256)

/-- The sum of the squares of a row. -/
def sumsq (k : FVec F S2048x256 .f32) : FVec F S2048x1 .f32 :=
  shapeCast S2048x1
    (multiReduction .add [1] S2048 (mulf k k) 0x00000000#32 reduces_S2048x256_S2048 (.inl rfl) rfl)
    shapeCasts_S2048_S2048x1

/-- The classifier on the normalised features. -/
def logits (h : FVec F S256x2048 .f32) (w : Vec F S256x128 .bf16) : FVec F S2048x8 .f32 :=
  extractStridedSlice S2048x8 ![0, 0]
    (matmul dot_S2048x256_S256x128_S2048x128_1_0_0_1_n_n none
      (truncf .bf16
        (mulf (center h)
          (broadcastTo S2048x256
            (rsqrt (addf (divf (sumsq (center h)) (broadcast S2048x1 (Scalar.ofBits .f32 0x43800000#32)))
              (broadcast S2048x1 (Scalar.ofBits .f32 0x3727C5AC#32))))
            broadcasts_S2048x1_S2048x256)) bitsLt_bf16_f32) w
      (constant S2048x128 .f32 0x00000000#32)) slices_S2048x128_o0_0_S2048x8

/-- What a point stores: the five blocks one after another and the classifier on top, from the rows
`x`, the pre-projection `p`, the four stacks of prepared weights and the prepared classifier. -/
def bodyOut (x : Vec F S2048x480 .f32) (p : Vec F S480x256 .bf16) (a : Vec F S5x1024x256 .bf16)
    (b : Vec F S5x48x512 .bf16) (d : Vec F S5x512x16 .bf16) (e : Vec F S5x256x512 .bf16)
    (w : Vec F S256x128 .bf16) : FVec F S2048x8 .f32 :=
  logits
    (block (View.ld a (Rect.unit ![4, 0, 0] S1x1024x256.size inb_S5x1024x256_S1x1024x256_4_0_0)) (View.ld b (Rect.unit ![4, 0, 0] S1x48x512.size inb_S5x48x512_S1x48x512_4_0_0)) (View.ld d (Rect.unit ![4, 0, 0] S1x512x16.size inb_S5x512x16_S1x512x16_4_0_0)) (View.ld e (Rect.unit ![4, 0, 0] S1x256x512.size inb_S5x256x512_S1x256x512_4_0_0))
      (block (View.ld a (Rect.unit ![3, 0, 0] S1x1024x256.size inb_S5x1024x256_S1x1024x256_3_0_0)) (View.ld b (Rect.unit ![3, 0, 0] S1x48x512.size inb_S5x48x512_S1x48x512_3_0_0)) (View.ld d (Rect.unit ![3, 0, 0] S1x512x16.size inb_S5x512x16_S1x512x16_3_0_0)) (View.ld e (Rect.unit ![3, 0, 0] S1x256x512.size inb_S5x256x512_S1x256x512_3_0_0))
      (block (View.ld a (Rect.unit ![2, 0, 0] S1x1024x256.size inb_S5x1024x256_S1x1024x256_2_0_0)) (View.ld b (Rect.unit ![2, 0, 0] S1x48x512.size inb_S5x48x512_S1x48x512_2_0_0)) (View.ld d (Rect.unit ![2, 0, 0] S1x512x16.size inb_S5x512x16_S1x512x16_2_0_0)) (View.ld e (Rect.unit ![2, 0, 0] S1x256x512.size inb_S5x256x512_S1x256x512_2_0_0))
      (block (View.ld a (Rect.unit ![1, 0, 0] S1x1024x256.size inb_S5x1024x256_S1x1024x256_1_0_0)) (View.ld b (Rect.unit ![1, 0, 0] S1x48x512.size inb_S5x48x512_S1x48x512_1_0_0)) (View.ld d (Rect.unit ![1, 0, 0] S1x512x16.size inb_S5x512x16_S1x512x16_1_0_0)) (View.ld e (Rect.unit ![1, 0, 0] S1x256x512.size inb_S5x256x512_S1x256x512_1_0_0))
      (block (View.ld a (Rect.unit ![0, 0, 0] S1x1024x256.size inb_S5x1024x256_S1x1024x256_0_0_0)) (View.ld b (Rect.unit ![0, 0, 0] S1x48x512.size inb_S5x48x512_S1x48x512_0_0_0)) (View.ld d (Rect.unit ![0, 0, 0] S1x512x16.size inb_S5x512x16_S1x512x16_0_0_0)) (View.ld e (Rect.unit ![0, 0, 0] S1x256x512.size inb_S5x256x512_S1x256x512_0_0_0))
      (first x p)))))) w

/-- The stores that fill the stack of input projections: the first 512 rows of a slice scaled by the
last convolution tap, the other 512 rows as they are. -/
def L10 (x3 : Vec F S5x1024x256 .f32) (x4 : Vec F S5x512x4 .f32) :
    List (View.Piece (Elt F) S5x1024x256 .bf16) :=
  [⟨(Rect.unit ![4, 512, 0] S1x512x256.size inb_S5x1024x256_S1x512x256_4_512_0), k0_pay27 (View.ld x3 (Rect.unit ![4, 512, 0] S1x512x256.size inb_S5x1024x256_S1x512x256_4_512_0))⟩,
   ⟨(Rect.unit ![4, 0, 0] S1x512x256.size inb_S5x1024x256_S1x512x256_4_0_0), k0_pay26 (View.ld x4 (Rect.unit ![4, 0, 0] S1x512x4.size inb_S5x512x4_S1x512x4_4_0_0)) (View.ld x3 (Rect.unit ![4, 0, 0] S1x512x256.size inb_S5x1024x256_S1x512x256_4_0_0))⟩,
   ⟨(Rect.unit ![3, 512, 0] S1x512x256.size inb_S5x1024x256_S1x512x256_3_512_0), k0_pay22 (View.ld x3 (Rect.unit ![3, 512, 0] S1x512x256.size inb_S5x1024x256_S1x512x256_3_512_0))⟩,
   ⟨(Rect.unit ![3, 0, 0] S1x512x256.size inb_S5x1024x256_S1x512x256_3_0_0), k0_pay21 (View.ld x4 (Rect.unit ![3, 0, 0] S1x512x4.size inb_S5x512x4_S1x512x4_3_0_0)) (View.ld x3 (Rect.unit ![3, 0, 0] S1x512x256.size inb_S5x1024x256_S1x512x256_3_0_0))⟩,
   ⟨(Rect.unit ![2, 512, 0] S1x512x256.size inb_S5x1024x256_S1x512x256_2_512_0), k0_pay17 (View.ld x3 (Rect.unit ![2, 512, 0] S1x512x256.size inb_S5x1024x256_S1x512x256_2_512_0))⟩,
   ⟨(Rect.unit ![2, 0, 0] S1x512x256.size inb_S5x1024x256_S1x512x256_2_0_0), k0_pay16 (View.ld x4 (Rect.unit ![2, 0, 0] S1x512x4.size inb_S5x512x4_S1x512x4_2_0_0)) (View.ld x3 (Rect.unit ![2, 0, 0] S1x512x256.size inb_S5x1024x256_S1x512x256_2_0_0))⟩,
   ⟨(Rect.unit ![1, 512, 0] S1x512x256.size inb_S5x1024x256_S1x512x256_1_512_0), k0_pay12 (View.ld x3 (Rect.unit ![1, 512, 0] S1x512x256.size inb_S5x1024x256_S1x512x256_1_512_0))⟩,
   ⟨(Rect.unit ![1, 0, 0] S1x512x256.size inb_S5x1024x256_S1x512x256_1_0_0), k0_pay11 (k0_pay10 (View.ld x4 (Rect.unit ![1, 0, 0] S1x512x4.size inb_S5x512x4_S1x512x4_1_0_0)) (View.ld x3 (Rect.unit ![1, 0, 0] S1x512x256.size inb_S5x1024x256_S1x512x256_1_0_0)))⟩,
   ⟨(Rect.unit ![0, 512, 0] S1x512x256.size inb_S5x1024x256_S1x512x256_0_512_0), k0_pay6 (k0_pay5 (View.ld x3 (Rect.unit ![0, 512, 0] S1x512x256.size inb_S5x1024x256_S1x512x256_0_512_0)))⟩,
   ⟨(Rect.unit ![0, 0, 0] S1x512x256.size inb_S5x1024x256_S1x512x256_0_0_0), k0_pay4 (View.ld x4 (Rect.unit ![0, 0, 0] S1x512x4.size inb_S5x512x4_S1x512x4_0_0_0)) (View.ld x3 (Rect.unit ![0, 0, 0] S1x512x256.size inb_S5x1024x256_S1x512x256_0_0_0))⟩]

/-- The stores that fill the stack of coefficient projections, slice by slice. -/
def L11 (x5 : Vec F S5x48x512 .f32) : List (View.Piece (Elt F) S5x48x512 .bf16) :=
  [⟨(Rect.unit ![4, 0, 0] S1x48x512.size inb_S5x48x512_S1x48x512_4_0_0), k0_pay28 (View.ld x5 (Rect.unit ![4, 0, 0] S1x48x512.size inb_S5x48x512_S1x48x512_4_0_0))⟩,
   ⟨(Rect.unit ![3, 0, 0] S1x48x512.size inb_S5x48x512_S1x48x512_3_0_0), k0_pay23 (View.ld x5 (Rect.unit ![3, 0, 0] S1x48x512.size inb_S5x48x512_S1x48x512_3_0_0))⟩,
   ⟨(Rect.unit ![2, 0, 0] S1x48x512.size inb_S5x48x512_S1x48x512_2_0_0), k0_pay18 (View.ld x5 (Rect.unit ![2, 0, 0] S1x48x512.size inb_S5x48x512_S1x48x512_2_0_0))⟩,
   ⟨(Rect.unit ![1, 0, 0] S1x48x512.size inb_S5x48x512_S1x48x512_1_0_0), k0_pay13 (View.ld x5 (Rect.unit ![1, 0, 0] S1x48x512.size inb_S5x48x512_S1x48x512_1_0_0))⟩,
   ⟨(Rect.unit ![0, 0, 0] S1x48x512.size inb_S5x48x512_S1x48x512_0_0_0), k0_pay7 (View.ld x5 (Rect.unit ![0, 0, 0] S1x48x512.size inb_S5x48x512_S1x48x512_0_0_0))⟩]

/-- The stores that fill the stack of step-size projections, slice by slice. -/
def L12 (x6 : Vec F S5x512x16 .f32) : List (View.Piece (Elt F) S5x512x16 .bf16) :=
  [⟨(Rect.unit ![4, 0, 0] S1x512x16.size inb_S5x512x16_S1x512x16_4_0_0), k0_pay29 (View.ld x6 (Rect.unit ![4, 0, 0] S1x512x16.size inb_S5x512x16_S1x512x16_4_0_0))⟩,
   ⟨(Rect.unit ![3, 0, 0] S1x512x16.size inb_S5x512x16_S1x512x16_3_0_0), k0_pay24 (View.ld x6 (Rect.unit ![3, 0, 0] S1x512x16.size inb_S5x512x16_S1x512x16_3_0_0))⟩,
   ⟨(Rect.unit ![2, 0, 0] S1x512x16.size inb_S5x512x16_S1x512x16_2_0_0), k0_pay19 (View.ld x6 (Rect.unit ![2, 0, 0] S1x512x16.size inb_S5x512x16_S1x512x16_2_0_0))⟩,
   ⟨(Rect.unit ![1, 0, 0] S1x512x16.size inb_S5x512x16_S1x512x16_1_0_0), k0_pay14 (View.ld x6 (Rect.unit ![1, 0, 0] S1x512x16.size inb_S5x512x16_S1x512x16_1_0_0))⟩,
   ⟨(Rect.unit ![0, 0, 0] S1x512x16.size inb_S5x512x16_S1x512x16_0_0_0), k0_pay8 (View.ld x6 (Rect.unit ![0, 0, 0] S1x512x16.size inb_S5x512x16_S1x512x16_0_0_0))⟩]

/-- The stores that fill the stack of output projections, slice by slice. -/
def L13 (x7 : Vec F S5x256x512 .f32) : List (View.Piece (Elt F) S5x256x512 .bf16) :=
  [⟨(Rect.unit ![4, 0, 0] S1x256x512.size inb_S5x256x512_S1x256x512_4_0_0), k0_pay30 (View.ld x7 (Rect.unit ![4, 0, 0] S1x256x512.size inb_S5x256x512_S1x256x512_4_0_0))⟩,
   ⟨(Rect.unit ![3, 0, 0] S1x256x512.size inb_S5x256x512_S1x256x512_3_0_0), k0_pay25 (View.ld x7 (Rect.unit ![3, 0, 0] S1x256x512.size inb_S5x256x512_S1x256x512_3_0_0))⟩,
   ⟨(Rect.unit ![2, 0, 0] S1x256x512.size inb_S5x256x512_S1x256x512_2_0_0), k0_pay20 (View.ld x7 (Rect.unit ![2, 0, 0] S1x256x512.size inb_S5x256x512_S1x256x512_2_0_0))⟩,
   ⟨(Rect.unit ![1, 0, 0] S1x256x512.size inb_S5x256x512_S1x256x512_1_0_0), k0_pay15 (View.ld x7 (Rect.unit ![1, 0, 0] S1x256x512.size inb_S5x256x512_S1x256x512_1_0_0))⟩,
   ⟨(Rect.unit ![0, 0, 0] S1x256x512.size inb_S5x256x512_S1x256x512_0_0_0), k0_pay9 (View.ld x7 (Rect.unit ![0, 0, 0] S1x256x512.size inb_S5x256x512_S1x256x512_0_0_0))⟩]

/-- The stack of input projections as the first point leaves it. -/
def S10 (x3 : Vec F S5x1024x256 .f32) (x4 : Vec F S5x512x4 .f32) : Vec F S5x1024x256 .bf16 :=
  View.canon (L10 x3 x4)

/-- The stack of coefficient projections as the first point leaves it. -/
def S11 (x5 : Vec F S5x48x512 .f32) : Vec F S5x48x512 .bf16 := View.canon (L11 x5)

/-- The stack of step-size projections as the first point leaves it. -/
def S12 (x6 : Vec F S5x512x16 .f32) : Vec F S5x512x16 .bf16 := View.canon (L12 x6)

/-- The stack of output projections as the first point leaves it. -/
def S13 (x7 : Vec F S5x256x512 .f32) : Vec F S5x256x512 .bf16 := View.canon (L13 x7)

/-- Those stores cover their buffer. -/
theorem cover10 (x3 : Vec F S5x1024x256 .f32) (x4 : Vec F S5x512x4 .f32) (y : S5x1024x256.Idx) : ∃ p ∈ L10 x3 x4, y ∈ p.1.set :=
  View.cover_of_tiledL (L10 x3 x4) S1x512x256.size (by sl_kernel_rfl) y

/-- Those stores cover their buffer. -/
theorem cover11 (x5 : Vec F S5x48x512 .f32) (y : S5x48x512.Idx) : ∃ p ∈ L11 x5, y ∈ p.1.set :=
  View.cover_of_tiledL (L11 x5) S1x48x512.size (by sl_kernel_rfl) y

/-- Those stores cover their buffer. -/
theorem cover12 (x6 : Vec F S5x512x16 .f32) (y : S5x512x16.Idx) : ∃ p ∈ L12 x6, y ∈ p.1.set :=
  View.cover_of_tiledL (L12 x6) S1x512x16.size (by sl_kernel_rfl) y

/-- Those stores cover their buffer. -/
theorem cover13 (x7 : Vec F S5x256x512 .f32) (y : S5x256x512.Idx) : ∃ p ∈ L13 x7, y ∈ p.1.set :=
  View.cover_of_tiledL (L13 x7) S1x256x512.size (by sl_kernel_rfl) y

/-- The launch's payloads are the pieces of a block. -/
theorem p31 (x : Vec F S2048x480 .f32) (p : Vec F S480x256 .bf16) : k0_pay31 x p = first x p := rfl
theorem p33 (x : Vec F S2048x480 .f32) (p : Vec F S480x256 .bf16) (w : Vec F S1x1024x256 .bf16) :
    k0_pay33 x p w = gate (low (inproj w (first x p))) := rfl
theorem p34 (x : Vec F S2048x480 .f32) (p : Vec F S480x256 .bf16) (w : Vec F S1x1024x256 .bf16) :
    k0_pay34 x p w = high (inproj w (first x p)) := rfl
theorem p36 (x : Vec F S2048x480 .f32) (p : Vec F S480x256 .bf16) (w : Vec F S1x1024x256 .bf16)
    (u : Vec F S1x48x512 .bf16) :
    k0_pay36 x p w u
      = shapeCast S1x2048 (inner (xproj u (gate (low (inproj w (first x p)))))) shapeCasts_S2048_S1x2048 := rfl
theorem p37 (x : Vec F S2048x480 .f32) (p : Vec F S480x256 .bf16) (w : Vec F S1x1024x256 .bf16)
    (u : Vec F S1x48x512 .bf16) (d : Vec F S1x512x16 .bf16) :
    k0_pay37 x p w u d = dtproj d (xproj u (gate (low (inproj w (first x p))))) := rfl
section
variable (h : FVec F S256x2048 .f32) (s z : FVec F S512x2048 .bf16) (q : FVec F S48x2048 .f32)
  (wI : Vec F S1x1024x256 .bf16) (wX : Vec F S1x48x512 .bf16) (wT : Vec F S1x512x16 .bf16)
  (wO : Vec F S1x256x512 .bf16) (w : Vec F S256x128 .bf16) (y : FVec F S512x2048 .bf16)
theorem p39 :
    k0_pay39 h s z (shapeCast S1x2048 (inner q) shapeCasts_S2048_S1x2048) (dtproj wT q) k0_pay38 wO
      = rest h s z q wT wO := rfl
theorem p41 :
    k0_pay41 h s z (shapeCast S1x2048 (inner q) shapeCasts_S2048_S1x2048) (dtproj wT q) k0_pay38 wO wI
      = gate (low (inproj wI (rest h s z q wT wO))) := rfl
theorem p42 :
    k0_pay42 h s z (shapeCast S1x2048 (inner q) shapeCasts_S2048_S1x2048) (dtproj wT q) k0_pay38 wO wI
      = high (inproj wI (rest h s z q wT wO)) := rfl
theorem p44 :
    k0_pay44 h s z (k0_pay43 wX) (constant S48x2048 .f32 0x00000000#32) wT wO
      = rest h s z (xproj wX s) wT wO := rfl
theorem p46 :
    k0_pay46 h s z (k0_pay43 wX) (constant S48x2048 .f32 0x00000000#32) wT wO
      = truncf .bf16 (rest h s z (xproj wX s) wT wO) bitsLt_bf16_f32 := rfl
theorem p48 :
    k0_pay48 (k0_pay45 wI) (truncf .bf16 h bitsLt_bf16_f32) (constant S1024x2048 .f32 0x00000000#32) wX wT
      = scan (gate (low (inproj wI h)))
          (soft (arg wT (xproj wX (gate (low (inproj wI h))))))
          (inner (xproj wX (gate (low (inproj wI h))))) := rfl
theorem p49 :
    k0_pay49 (k0_pay45 wI) (truncf .bf16 h bitsLt_bf16_f32) (constant S1024x2048 .f32 0x00000000#32)
      = half (high (inproj wI h)) := rfl
theorem p50 :
    k0_pay50 (k0_pay45 wI) (truncf .bf16 h bitsLt_bf16_f32) (constant S1024x2048 .f32 0x00000000#32)
      = tanh (half (high (inproj wI h))) := rfl
theorem p52 : k0_pay52 h y (half z) (tanh (half z)) k0_pay51 wO = resid h wO (mulf y (gate z)) := rfl
theorem p54 :
    k0_pay54 h y (half z) (tanh (half z)) k0_pay51 wO wI
      = gate (low (inproj wI (resid h wO (mulf y (gate z))))) := rfl
theorem p55 :
    k0_pay55 h y (half z) (tanh (half z)) k0_pay51 wO wI
      = high (inproj wI (resid h wO (mulf y (gate z)))) := rfl
theorem p57 :
    k0_pay57 h y (half z) (tanh (half z)) k0_pay51 wO wI wX
      = shapeCast S1x2048 (inner (xproj wX (gate (low (inproj wI (resid h wO (mulf y (gate z)))))))) shapeCasts_S2048_S1x2048 := rfl
theorem p58 :
    k0_pay58 h y (half z) (tanh (half z)) k0_pay51 wO wI wX wT
      = arg wT (xproj wX (gate (low (inproj wI (resid h wO (mulf y (gate z))))))) := rfl
theorem p59 :
    k0_pay59 h y (half z) (tanh (half z)) k0_pay51 wO wI wX wT
      = big (arg wT (xproj wX (gate (low (inproj wI (resid h wO (mulf y (gate z)))))))) := rfl
theorem p60 :
    k0_pay60 h y (half z) (tanh (half z)) k0_pay51 wO wI wX wT
      = exp (arg wT (xproj wX (gate (low (inproj wI (resid h wO (mulf y (gate z)))))))) := rfl
theorem p61 :
    k0_pay61 h s z (shapeCast S1x2048 (inner q) shapeCasts_S2048_S1x2048) (arg wT q) (big (arg wT q)) (exp (arg wT q)) (Scalar.ofBits .f32 0x3F800000#32) wO
      = rest h s z q wT wO := rfl
theorem p63 :
    k0_pay63 h s z (shapeCast S1x2048 (inner q) shapeCasts_S2048_S1x2048) (arg wT q) (big (arg wT q)) (exp (arg wT q)) (Scalar.ofBits .f32 0x3F800000#32) wO wI
      = gate (low (inproj wI (rest h s z q wT wO))) := rfl
theorem p64 :
    k0_pay64 h s z (shapeCast S1x2048 (inner q) shapeCasts_S2048_S1x2048) (arg wT q) (big (arg wT q)) (exp (arg wT q)) (Scalar.ofBits .f32 0x3F800000#32) wO wI
      = high (inproj wI (rest h s z q wT wO)) := rfl
theorem p65 :
    k0_pay65 h s z (shapeCast S1x2048 (inner q) shapeCasts_S2048_S1x2048) (arg wT q) (big (arg wT q)) (exp (arg wT q)) (Scalar.ofBits .f32 0x3F800000#32) wO wI wX
      = xproj wX (gate (low (inproj wI (rest h s z q wT wO)))) := rfl
theorem p66 :
    k0_pay66 h s z (shapeCast S1x2048 (inner q) shapeCasts_S2048_S1x2048) (arg wT q) (big (arg wT q)) (exp (arg wT q)) (Scalar.ofBits .f32 0x3F800000#32) wO wI wX
      = inner (xproj wX (gate (low (inproj wI (rest h s z q wT wO))))) := rfl
theorem p67 : k0_pay67 h s z q (inner q) wT wO = center (rest h s z q wT wO) := rfl
theorem p68 : k0_pay68 h s z q (inner q) wT wO = sumsq (center (rest h s z q wT wO)) := rfl
theorem p1 : k0_pay1 (center h) (sumsq (center h)) w = logits h w := rfl
end

/-- A load from a buffer that holds `X` is the window of `X`. -/
theorem readAt_unread {pl : Kind} {sp : Space} {sh : Shape} {st : EltTy} {m : Memref sig pl sp sh st}
    (h : m.IsWhole) (R : Rect sh) (X : Vec F sh st) :
    View.readAt (Elt F) m.view R.toLoadRect (h.unread X) = View.ld X R :=
  funext fun j => h.readAt_unread X R.toLoadRect j

/-- A load of the whole of a buffer of this size is the buffer. -/
theorem ld_rows (X : Vec F S2048x480 .f32) : View.ld X (Rect.unit ![0, 0] S2048x480.size inb_S2048x480_S2048x480_0_0) = X :=
  View.ld_unit_lit (S := S2048x480) _ X (by decide)

/-- A load of the whole of a buffer of this size is the buffer. -/
theorem ld_cls (X : Vec F S256x128 .bf16) : View.ld X (Rect.unit ![0, 0] ![256, 128] inb_S256x128_S256x128_0_0) = X :=
  View.ld_unit_lit (S := S256x128) _ X (by decide)

/-- A load of the whole of a buffer of this size is the buffer. -/
theorem ld_pre (X : Vec F S256x512 .f32) : View.ld X (Rect.unit ![0, 0] S256x512.size inb_S256x512_S256x512_0_0) = X :=
  View.ld_unit_lit (S := S256x512) _ X (by decide)

/-- A load of the whole of a buffer of this size is the buffer. -/
theorem ld_wcls (X : Vec F S128x256 .f32) : View.ld X (Rect.unit ![0, 0] S128x256.size inb_S128x256_S128x256_0_0) = X :=
  View.ld_unit_lit (S := S128x256) _ X (by decide)

/-- What one store of the whole pre-projection buffer leaves. -/
theorem canon_pre (X : Vec F S512x256 .bf16) :
    View.canon [(⟨Rect.unit ![0, 0] S512x256.size inb_S512x256_S512x256_0_0, X⟩ :
      View.Piece (Elt F) S512x256 .bf16)] = X :=
  View.canon_cons_unit_lit (S := S512x256) _ X [] (by decide)

/-- What one store of the whole classifier buffer leaves. -/
theorem canon_cls (X : Vec F S256x128 .bf16) :
    View.canon [(⟨Rect.unit ![0, 0] S256x128.size inb_S256x128_S256x128_0_0, X⟩ :
      View.Piece (Elt F) S256x128 .bf16)] = X :=
  View.canon_cons_unit_lit (S := S256x128) _ X [] (by decide)

/-- One store of the whole pre-projection buffer covers it. -/
theorem cover14 (X : Vec F S512x256 .bf16) (y : S512x256.Idx) :
    ∃ p ∈ [(⟨Rect.unit ![0, 0] S512x256.size inb_S512x256_S512x256_0_0, X⟩ :
      View.Piece (Elt F) S512x256 .bf16)], y ∈ p.1.set :=
  View.cover_of_tiledL _ S512x256.size (by sl_kernel_rfl) y

/-- One store of the whole classifier buffer covers it. -/
theorem cover15 (X : Vec F S256x128 .bf16) (y : S256x128.Idx) :
    ∃ p ∈ [(⟨Rect.unit ![0, 0] S256x128.size inb_S256x128_S256x128_0_0, X⟩ :
      View.Piece (Elt F) S256x128 .bf16)], y ∈ p.1.set :=
  View.cover_of_tiledL _ S256x128.size (by sl_kernel_rfl) y

/-- The pre-projection as the first point leaves it: transposed and rounded. -/
def S14 (x2 : Vec F S256x512 .f32) : Vec F S512x256 .bf16 := k0_pay2 x2

/-- The classifier as the first point leaves it: transposed, rounded, and zero beyond its 8 rows. -/
def S15 (x8 : Vec F S128x256 .f32) : Vec F S256x128 .bf16 := k0_pay3 x8

end Cert.KernelIdeal.Own
end
-- ==== Proof.Row.lean ====
/- The real function that both programs compute on one row of the batch, and the scalar facts that tie
their operations to it. -/
module

public import Idealize.ShloMosaic.Lib.Pointwise
public import Idealize.ShloMosaic.Lib.IdealHost
@[expose] public section

noncomputable section

namespace Cert.Row

open Idealize.ShloMosaic

/-- The extended real of a finite sum is the sum of the extended reals. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An inner product of values that are real is the real inner product. -/
theorem dot_coe {ι : Type} [Fintype ι] {a b : ι → EReal} {f g : ι → ℝ} (ha : ∀ i, a i = (f i : EReal))
    (hb : ∀ i, b i = (g i : EReal)) : ∑ i, a i * b i = ((∑ i, f i * g i : ℝ) : EReal) := by
  rw [← sum_coe]
  exact Finset.sum_congr rfl fun i _ => by rw [ha, hb, EReal.coe_mul]

/-- The number the programs write as 4.6. -/
def kappa : ℝ := 9646899 / 2097152

/-- The small number that the normalisation adds to the variance. -/
def eps : ℝ := 10995116 / 2 ^ 40

/-- `x · σ(x)`. -/
def silu (x : ℝ) : ℝ := x * (1 + Real.exp (-x))⁻¹

/-- `log (1 + exp x)`. -/
def softplus (x : ℝ) : ℝ := Real.log (1 + Real.exp x)

/-- The `e`-th of the first 512 projected channels. -/
def lo (e : Fin 512) : Fin 1024 := ⟨e.val, by omega⟩
/-- The `e`-th of the other 512 projected channels. -/
def hi (e : Fin 512) : Fin 1024 := ⟨512 + e.val, by omega⟩
/-- The `r`-th step coefficient. -/
def stepIx (r : Fin 16) : Fin 48 := ⟨r.val, by omega⟩
/-- The `n`-th input coefficient. -/
def inIx (n : Fin 16) : Fin 48 := ⟨16 + n.val, by omega⟩
/-- The `n`-th output coefficient. -/
def outIx (n : Fin 16) : Fin 48 := ⟨32 + n.val, by omega⟩

/-- The projected channels of a row. -/
def chan (W : Fin 1024 → Fin 256 → ℝ) (h : Fin 256 → ℝ) (e : Fin 1024) : ℝ := ∑ d, W e d * h d

/-- The gated input of the scan. -/
def gated (W : Fin 1024 → Fin 256 → ℝ) (h : Fin 256 → ℝ) (e : Fin 512) : ℝ := silu (chan W h (lo e))

/-- The 48 coefficients of a row. -/
def coeff (X : Fin 48 → Fin 512 → ℝ) (s : Fin 512 → ℝ) (f : Fin 48) : ℝ := ∑ e, X f e * s e

/-- The inner product of the input and output coefficients. -/
def inner (q : Fin 48 → ℝ) : ℝ := ∑ n : Fin 16, q (inIx n) * q (outIx n)

/-- The argument of the softplus. -/
def stepArg (T : Fin 512 → Fin 16 → ℝ) (q : Fin 48 → ℝ) (e : Fin 512) : ℝ :=
  ∑ r : Fin 16, T e r * q (stepIx r) - kappa

/-- The gated output of the scan, from the gated input `s`, the channels `z` and the coefficients `q`. -/
def mixed (T : Fin 512 → Fin 16 → ℝ) (s z : Fin 512 → ℝ) (q : Fin 48 → ℝ) (e : Fin 512) : ℝ :=
  s e * (softplus (stepArg T q e) * inner q + 1) * silu (z e)

/-- The weights of a block, with the last convolution tap folded in the input projection. -/
structure Weights where
  /-- The input projection. -/
  W : Fin 1024 → Fin 256 → ℝ
  /-- The coefficient projection. -/
  X : Fin 48 → Fin 512 → ℝ
  /-- The step-size projection. -/
  T : Fin 512 → Fin 16 → ℝ
  /-- The output projection. -/
  O : Fin 256 → Fin 512 → ℝ

/-- The coefficients of a block's row. -/
def coeffs (P : Weights) (h : Fin 256 → ℝ) : Fin 48 → ℝ := coeff P.X (gated P.W h)

/-- The softplus arguments of a block's row. -/
def args (P : Weights) (h : Fin 256 → ℝ) : Fin 512 → ℝ := stepArg P.T (coeffs P h)

/-- One block of a row. -/
def next (P : Weights) (h : Fin 256 → ℝ) (d : Fin 256) : ℝ :=
  h d + ∑ e, P.O d e * mixed P.T (gated P.W h) (fun e => chan P.W h (hi e)) (coeffs P h) e

/-- The features of a row less their mean. -/
def centered (h : Fin 256 → ℝ) (d : Fin 256) : ℝ := h d - (∑ k, h k) / 256

/-- The reciprocal of the standard deviation of a row. -/
def rstd (h : Fin 256 → ℝ) : ℝ := (Real.sqrt ((∑ k, centered h k * centered h k) / 256 + eps))⁻¹

/-- The classifier on the normalised row. -/
def score (C : Fin 256 → ℝ) (h : Fin 256 → ℝ) : ℝ := ∑ d, centered h d * rstd h * C d

/-- The arguments that the kernel reads, as reals. -/
structure Args where
  /-- The batch. -/
  x : Fin 4096 → Fin 480 → ℝ
  /-- The pre-projection. -/
  pre : Fin 256 → Fin 480 → ℝ
  /-- The input projections. -/
  inp : Fin 5 → Fin 1024 → Fin 256 → ℝ
  /-- The last convolution taps. -/
  tap : Fin 5 → Fin 512 → ℝ
  /-- The coefficient projections. -/
  co : Fin 5 → Fin 48 → Fin 512 → ℝ
  /-- The step-size projections. -/
  st : Fin 5 → Fin 512 → Fin 16 → ℝ
  /-- The output projections. -/
  out : Fin 5 → Fin 256 → Fin 512 → ℝ
  /-- The classifier. -/
  cls : Fin 8 → Fin 256 → ℝ

namespace Args

variable (A : Args)

/-- The weights of block `i`: the first 512 rows of the input projection scaled by the last taps. -/
def weights (i : Fin 5) : Weights where
  W e d := if h : e.val < 512 then A.inp i e d * A.tap i ⟨e.val, h⟩ else A.inp i e d
  X := A.co i
  T := A.st i
  O := A.out i

/-- The features of row `b` before block 0. -/
def feat0 (b : Fin 4096) (d : Fin 256) : ℝ := ∑ k, A.x b k * A.pre d k
/-- The features of row `b` after block 0. -/
def feat1 (b : Fin 4096) : Fin 256 → ℝ := next (A.weights 0) (A.feat0 b)
/-- The features of row `b` after block 1. -/
def feat2 (b : Fin 4096) : Fin 256 → ℝ := next (A.weights 1) (A.feat1 b)
/-- The features of row `b` after block 2. -/
def feat3 (b : Fin 4096) : Fin 256 → ℝ := next (A.weights 2) (A.feat2 b)
/-- The features of row `b` after block 3. -/
def feat4 (b : Fin 4096) : Fin 256 → ℝ := next (A.weights 3) (A.feat3 b)
/-- The features of row `b` after block 4. -/
def feat5 (b : Fin 4096) : Fin 256 → ℝ := next (A.weights 4) (A.feat4 b)

/-- The result: score `n` of row `b`. -/
def result (b : Fin 4096) (n : Fin 8) : ℝ := score (A.cls n) (A.feat5 b)

/-- No softplus has an argument above 30. -/
structure Small : Prop where
  /-- In block 0. -/
  s0 : ∀ b e, Row.args (A.weights 0) (A.feat0 b) e ≤ 30
  /-- In block 1. -/
  s1 : ∀ b e, Row.args (A.weights 1) (A.feat1 b) e ≤ 30
  /-- In block 2. -/
  s2 : ∀ b e, Row.args (A.weights 2) (A.feat2 b) e ≤ 30
  /-- In block 3. -/
  s3 : ∀ b e, Row.args (A.weights 3) (A.feat3 b) e ≤ 30
  /-- In block 4. -/
  s4 : ∀ b e, Row.args (A.weights 4) (A.feat4 b) e ≤ 30

/-- The arrays that the kernel reads hold these reals. -/
structure Reads (x : FVec Ideal ⟨2, ![4096, 480]⟩ .f32) (pre : FVec Ideal ⟨2, ![256, 480]⟩ .f32)
    (inp : FVec Ideal ⟨3, ![5, 1024, 256]⟩ .f32) (conv : FVec Ideal ⟨4, ![5, 512, 1, 4]⟩ .f32)
    (co : FVec Ideal ⟨3, ![5, 48, 512]⟩ .f32) (st : FVec Ideal ⟨3, ![5, 512, 16]⟩ .f32)
    (out : FVec Ideal ⟨3, ![5, 256, 512]⟩ .f32) (cls : FVec Ideal ⟨2, ![8, 256]⟩ .f32) : Prop where
  /-- The batch. -/
  x : ∀ b k, x (ix2 b k) = (A.x b k : EReal)
  /-- The pre-projection. -/
  pre : ∀ d k, pre (ix2 d k) = (A.pre d k : EReal)
  /-- The input projections. -/
  inp : ∀ i e d, inp (ix3 i e d) = (A.inp i e d : EReal)
  /-- The last convolution taps. -/
  tap : ∀ i e, conv (ix4 i e 0 3) = (A.tap i e : EReal)
  /-- The coefficient projections. -/
  co : ∀ i f e, co (ix3 i f e) = (A.co i f e : EReal)
  /-- The step-size projections. -/
  st : ∀ i e r, st (ix3 i e r) = (A.st i e r : EReal)
  /-- The output projections. -/
  out : ∀ i d e, out (ix3 i d e) = (A.out i d e : EReal)
  /-- The classifier. -/
  cls : ∀ n d, cls (ix2 n d) = (A.cls n d : EReal)

/-- The scaled channels: the last tap comes out of the projection. -/
theorem chan_lo (i : Fin 5) (h : Fin 256 → ℝ) (e : Fin 512) :
    chan (A.weights i).W h (lo e) = chan (A.inp i) h (lo e) * A.tap i e := by
  rw [chan, chan, Finset.sum_mul]
  refine Finset.sum_congr rfl fun d _ => ?_
  have h1 : (A.weights i).W (lo e) d = A.inp i (lo e) d * A.tap i e := dif_pos e.isLt
  rw [h1]
  ring

/-- The other channels are as projected. -/
theorem chan_hi (i : Fin 5) (h : Fin 256 → ℝ) (e : Fin 512) :
    chan (A.weights i).W h (hi e) = chan (A.inp i) h (hi e) := by
  refine Finset.sum_congr rfl fun d _ => congrArg (· * h d) ?_
  exact dif_neg (by show ¬ 512 + e.val < 512; omega)

/-- The result as an array. -/
def scores : FVec Ideal ⟨2, ![4096, 8]⟩ .f32 := fun j => (A.result (j 0) (j 1) : EReal)

end Args

/-- The quantity under the root is positive. -/
theorem var_pos (h : Fin 256 → ℝ) : 0 < (∑ k, centered h k * centered h k) / 256 + eps := by
  have h0 : 0 ≤ ∑ k, centered h k * centered h k := Finset.sum_nonneg fun k _ => mul_self_nonneg _
  have h1 : (0 : ℝ) < eps := by norm_num [eps]
  positivity

/-- The literal 4.6. -/
theorem ofBits_kappa : Ideal.ofBits .f32 0x40933333#32 = (kappa : EReal) := by
  simp [Ideal.ofBits, Ideal.ieee, -EReal.coe_mul]; norm_num [kappa]

/-- The literal -4.6. -/
theorem ofBits_neg_kappa : Ideal.ofBits .f32 0xC0933333#32 = ((-kappa : ℝ) : EReal) := by
  simp [Ideal.ofBits, Ideal.ieee, -EReal.coe_mul, -EReal.coe_neg]; norm_num [kappa]

/-- The literal 30. -/
theorem ofBits_thirty : Ideal.ofBits .f32 0x41F00000#32 = ((30 : ℝ) : EReal) := by
  simp [Ideal.ofBits, Ideal.ieee, -EReal.coe_mul]; norm_num

/-- The literal 256. -/
theorem ofBits_256 : Ideal.ofBits .f32 0x43800000#32 = ((256 : ℝ) : EReal) := by
  simp [Ideal.ofBits, Ideal.ieee, -EReal.coe_mul]; norm_num

/-- The literal 1/2. -/
theorem ofBits_half : Ideal.ofBits .bf16 0x3F00#16 = ((1 / 2 : ℝ) : EReal) := by
  simp [Ideal.ofBits, Ideal.ieee, -EReal.coe_mul]; norm_num

/-- The small number's literal. -/
theorem ofBits_eps : Ideal.ofBits .f32 0x3727C5AC#32 = (eps : EReal) := by
  simp [Ideal.ofBits, Ideal.ieee, -EReal.coe_mul]; norm_num [eps]

/-- The literal of plus infinity. -/
theorem ofBits_top : Ideal.ofBits .f32 0x7F800000#32 = (⊤ : EReal) := by
  simp [Ideal.ofBits, Ideal.ieee]

/-- One and a real add up to a real. -/
theorem one_add_coe (x : ℝ) : (1 : EReal) + (x : EReal) = ((1 + x : ℝ) : EReal) := by
  rw [EReal.coe_add, EReal.coe_one]

/-- The quotient of reals. -/
theorem div_coe_coe (x : ℝ) {y : ℝ} (hy : y ≠ 0) : Ideal.div (x : EReal) (y : EReal) = ((x / y : ℝ) : EReal) := by
  rw [Ideal.div_coe hy, ← EReal.coe_mul, mul_one_div]

/-- The logarithm of one and an exponential is real. -/
theorem log_one_add_exp (x : ℝ) : Ideal.log (1 + ((Real.exp x : ℝ) : EReal)) = ((Real.log (1 + Real.exp x) : ℝ) : EReal) := by
  rw [one_add_coe, Ideal.log_coe, if_neg (not_le.mpr (by positivity))]

/-- The reciprocal root of a positive real is real. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-- The half-angle form of the gate. -/
theorem gate_eq (x : ℝ) : x * (1 / 2) * (1 + Real.tanh (x * (1 / 2))) = silu x := by
  have h1 : Real.exp (-x) = Real.exp (-(x * (1 / 2))) * Real.exp (-(x * (1 / 2))) := by
    rw [← Real.exp_add]; congr 1; ring
  have h2 : Real.exp (x * (1 / 2)) * Real.exp (-(x * (1 / 2))) = 1 := by
    rw [← Real.exp_add]; simp
  have ha := Real.exp_pos (x * (1 / 2))
  have hb := Real.exp_pos (-(x * (1 / 2)))
  rw [silu, Real.tanh_eq_sinh_div_cosh, Real.sinh_eq, Real.cosh_eq, h1]
  generalize Real.exp (x * (1 / 2)) = a at *
  generalize Real.exp (-(x * (1 / 2))) = b at *
  have hab : a = b⁻¹ := eq_inv_of_mul_eq_one_left h2
  subst hab
  field_simp
  ring

/-- The stable form of the softplus. -/
theorem softplus_stable (x : ℝ) : max x 0 + Real.log (1 + Real.exp (-|x|)) = softplus x := by
  rw [softplus]
  rcases le_total 0 x with hx | hx
  · rw [max_eq_left hx, abs_of_nonneg hx]
    have : 1 + Real.exp x = Real.exp x * (1 + Real.exp (-x)) := by
      rw [mul_add, ← Real.exp_add]; simp [add_comm]
    rw [this, Real.log_mul (Real.exp_pos x).ne' (by positivity), Real.log_exp]
  · rw [max_eq_right hx, abs_of_nonpos hx, neg_neg, zero_add]

/-- The arguments that the kernel leaves out are as the problem sets them up. -/
structure Fixed (pb : FVec Ideal ⟨1, ![256]⟩ .f32) (cb tb D : FVec Ideal ⟨2, ![5, 512]⟩ .f32) (g n : FVec Ideal ⟨1, ![256]⟩ .f32)
    (k : FVec Ideal ⟨1, ![8]⟩ .f32) : Prop where
  /-- The pre-projection's bias is zero. -/
  pb : ∀ d, pb (ix1 d) = 0
  /-- The convolutions' biases are zero. -/
  cb : ∀ i e, cb (ix2 i e) = 0
  /-- The step sizes' biases are -4.6. -/
  tb : ∀ i e, tb (ix2 i e) = ((-kappa : ℝ) : EReal)
  /-- The skip weights are one. -/
  D : ∀ i e, D (ix2 i e) = 1
  /-- The normalisation's scale is one. -/
  g : ∀ d, g (ix1 d) = 1
  /-- The normalisation's shift is zero. -/
  n : ∀ d, n (ix1 d) = 0
  /-- The classifier's bias is zero. -/
  k : ∀ o, k (ix1 o) = 0

end Cert.Row
-- ==== Proof.KernelIdealRow.lean ====
/- What the kernel's operations compute over the reals, one row of the batch at a time. -/
module

public import proofs.«01_k».proof.Proof.KernelIdealModel
public import proofs.«01_k».proof.Proof.Row
@[expose] public section

set_option maxRecDepth 16384

noncomputable section

namespace Cert.KernelIdeal.Own

open Idealize.ShloMosaic
open Cert.KernelIdeal Cert.KernelIdeal.Gen

/-- The gate of a real is the real gate. -/
theorem gate_coe {v : FVec Ideal S512x2048 .bf16} {x : ℝ} {e : Fin 512} {l : Fin 2048}
    (hv : v (ix2 e l) = (x : EReal)) : gate v (ix2 e l) = (Row.silu x : EReal) := by
  pointwise [gate, half]
  rw [hv, Row.ofBits_half, ← EReal.coe_mul, Ideal.tanh_coe, Row.one_add_coe, ← EReal.coe_mul, Row.gate_eq]

/-- The projected channels of a row. -/
theorem inproj_coe {w : Vec Ideal S1x1024x256 .bf16} {h : FVec Ideal S256x2048 .f32}
    {W : Fin 1024 → Fin 256 → ℝ} {H : Fin 256 → ℝ} {l : Fin 2048}
    (hw : ∀ e d, w (ix3 0 e d) = (W e d : EReal)) (hh : ∀ d, h (ix2 d l) = (H d : EReal)) (e : Fin 1024) :
    inproj w h (ix2 e l) = (Row.chan W H e : EReal) := by
  pointwise [inproj]
  exact Row.dot_coe (hw e) hh

/-- The first half of the channels, entry by entry. -/
theorem low_apply (u : FVec Ideal S1024x2048 .bf16) (e : Fin 512) (l : Fin 2048) :
    low u (ix2 e l) = u (ix2 (Row.lo e) l) := by
  pointwise [low]
  rfl

/-- The second half of the channels, entry by entry. -/
theorem high_apply (u : FVec Ideal S1024x2048 .bf16) (e : Fin 512) (l : Fin 2048) :
    high u (ix2 e l) = u (ix2 (Row.hi e) l) := by
  pointwise [high]
  rfl

/-- The coefficients of a row. -/
theorem xproj_coe {w : Vec Ideal S1x48x512 .bf16} {s : FVec Ideal S512x2048 .bf16}
    {X : Fin 48 → Fin 512 → ℝ} {S : Fin 512 → ℝ} {l : Fin 2048}
    (hw : ∀ f e, w (ix3 0 f e) = (X f e : EReal)) (hs : ∀ e, s (ix2 e l) = (S e : EReal)) (f : Fin 48) :
    xproj w s (ix2 f l) = (Row.coeff X S f : EReal) := by
  pointwise [xproj]
  exact Row.dot_coe (hw f) hs

/-- The inner product of a row's input and output coefficients. -/
theorem inner_coe {q : FVec Ideal S48x2048 .f32} {Q : Fin 48 → ℝ} {l : Fin 2048}
    (hq : ∀ f, q (ix2 f l) = (Q f : EReal)) : inner q (ix1 l) = (Row.inner Q : EReal) := by
  pointwise [inner]
  exact Row.dot_coe (fun n => hq (Row.inIx n)) (fun n => hq (Row.outIx n))

/-- The softplus argument of a row. -/
theorem arg_coe {w : Vec Ideal S1x512x16 .bf16} {q : FVec Ideal S48x2048 .f32}
    {T : Fin 512 → Fin 16 → ℝ} {Q : Fin 48 → ℝ} {l : Fin 2048}
    (hw : ∀ e r, w (ix3 0 e r) = (T e r : EReal)) (hq : ∀ f, q (ix2 f l) = (Q f : EReal)) (e : Fin 512) :
    arg w q (ix2 e l) = (Row.stepArg T Q e : EReal) := by
  pointwise [arg, dtproj]
  rw [Row.ofBits_kappa, Row.stepArg, EReal.coe_sub]
  exact congrArg (· - _) (Row.dot_coe (hw e) (fun r => hq (Row.stepIx r)))

/-- The guarded softplus of a real up to 30 is the real softplus. -/
theorem soft_coe {v : FVec Ideal S512x2048 .f32} {x : ℝ} {e : Fin 512} {l : Fin 2048}
    (hv : v (ix2 e l) = (x : EReal)) (hx : x ≤ 30) : soft v (ix2 e l) = (Row.softplus x : EReal) := by
  pointwise [soft, big]
  rw [hv, Row.ofBits_thirty, if_neg (not_lt.mpr (EReal.coe_le_coe_iff.mpr hx)), Ideal.exp_coe,
    Row.log_one_add_exp, Row.softplus]

/-- The scan's output of a row. -/
theorem scan_coe {s : FVec Ideal S512x2048 .bf16} {g : FVec Ideal S512x2048 .f32} {b : FVec Ideal S2048 .f32}
    {x y z : ℝ} {e : Fin 512} {l : Fin 2048} (hs : s (ix2 e l) = (x : EReal)) (hg : g (ix2 e l) = (y : EReal))
    (hb : b (ix1 l) = (z : EReal)) : scan s g b (ix2 e l) = ((x * (y * z + 1) : ℝ) : EReal) := by
  pointwise [scan]
  rw [hs, hg, hb, EReal.coe_mul, EReal.coe_add, EReal.coe_mul, EReal.coe_one]

/-- The residual of a row. -/
theorem resid_coe {h : FVec Ideal S256x2048 .f32} {w : Vec Ideal S1x256x512 .bf16} {y : FVec Ideal S512x2048 .bf16}
    {H : Fin 256 → ℝ} {O : Fin 256 → Fin 512 → ℝ} {Y : Fin 512 → ℝ} {l : Fin 2048}
    (hh : ∀ d, h (ix2 d l) = (H d : EReal)) (hw : ∀ d e, w (ix3 0 d e) = (O d e : EReal))
    (hy : ∀ e, y (ix2 e l) = (Y e : EReal)) (d : Fin 256) :
    resid h w y (ix2 d l) = ((H d + ∑ e, O d e * Y e : ℝ) : EReal) := by
  pointwise [resid]
  rw [hh, EReal.coe_add]
  exact congrArg (_ + ·) (Row.dot_coe (hw d) hy)

/-- One block of the kernel is the real block on a row whose softplus arguments are at most 30. -/
theorem block_coe {wI : Vec Ideal S1x1024x256 .bf16} {wX : Vec Ideal S1x48x512 .bf16}
    {wT : Vec Ideal S1x512x16 .bf16} {wO : Vec Ideal S1x256x512 .bf16} {h : FVec Ideal S256x2048 .f32}
    {P : Row.Weights} {H : Fin 256 → ℝ} {l : Fin 2048}
    (hI : ∀ e d, wI (ix3 0 e d) = (P.W e d : EReal)) (hX : ∀ f e, wX (ix3 0 f e) = (P.X f e : EReal))
    (hT : ∀ e r, wT (ix3 0 e r) = (P.T e r : EReal)) (hO : ∀ d e, wO (ix3 0 d e) = (P.O d e : EReal))
    (hh : ∀ d, h (ix2 d l) = (H d : EReal)) (hv : ∀ e, Row.args P H e ≤ 30) (d : Fin 256) :
    block wI wX wT wO h (ix2 d l) = (Row.next P H d : EReal) := by
  have hs (e : Fin 512) : gate (low (inproj wI h)) (ix2 e l) = (Row.gated P.W H e : EReal) :=
    gate_coe ((low_apply _ e l).trans (inproj_coe hI hh (Row.lo e)))
  have hz (e : Fin 512) : gate (high (inproj wI h)) (ix2 e l) = (Row.silu (Row.chan P.W H (Row.hi e)) : EReal) :=
    gate_coe ((high_apply _ e l).trans (inproj_coe hI hh (Row.hi e)))
  have hq := xproj_coe hX hs
  refine resid_coe hh hO (fun e => ?_) d
  rw [mulf_apply, Ideal.mulf_def, hz e, scan_coe (hs e) (soft_coe (arg_coe hT hq e) (hv e)) (inner_coe hq), ← EReal.coe_mul]
  rfl

/-- The features of a row, from rows and weights that are real. -/
theorem first_coe {x : Vec Ideal S2048x480 .f32} {p : Vec Ideal S480x256 .bf16} {X : Fin 480 → ℝ}
    {P : Fin 256 → Fin 480 → ℝ} {l : Fin 2048} (hx : ∀ k, x (ix2 l k) = (X k : EReal))
    (hp : ∀ d k, p (ix2 k d) = (P d k : EReal)) (d : Fin 256) :
    first x p (ix2 d l) = ((∑ k, X k * P d k : ℝ) : EReal) := by
  pointwise [first]
  exact Row.dot_coe hx (hp d)

/-- The centred features of a row. -/
theorem center_coe {h : FVec Ideal S256x2048 .f32} {H : Fin 256 → ℝ} {l : Fin 2048}
    (hh : ∀ d, h (ix2 d l) = (H d : EReal)) (d : Fin 256) :
    center h (ix2 l d) = (Row.centered H d : EReal) := by
  pointwise [center]
  simp only [hh]
  rw [Row.sum_coe, Row.ofBits_256, Row.div_coe_coe _ (by norm_num), ← EReal.coe_sub, Row.centered]

/-- The sum of squares of a row. -/
theorem sumsq_coe {k : FVec Ideal S2048x256 .f32} {K : Fin 256 → ℝ} {l : Fin 2048}
    (hk : ∀ d, k (ix2 l d) = (K d : EReal)) :
    sumsq k (ix2 l 0) = ((∑ d, K d * K d : ℝ) : EReal) := by
  pointwise [sumsq]
  exact Row.dot_coe hk hk

/-- The scores of a row. -/
theorem logits_coe {h : FVec Ideal S256x2048 .f32} {w : Vec Ideal S256x128 .bf16} {H : Fin 256 → ℝ}
    {C : Fin 8 → Fin 256 → ℝ} {l : Fin 2048} (hh : ∀ d, h (ix2 d l) = (H d : EReal))
    (hw : ∀ (n : Fin 8) d, w (ix2 d ⟨n.val, by omega⟩) = (C n d : EReal)) (n : Fin 8) :
    logits h w (ix2 l n) = (Row.score (C n) H : EReal) := by
  pointwise [logits]
  simp only [center_coe hh, sumsq_coe (center_coe hh), Row.ofBits_256, Row.ofBits_eps]
  rw [Row.div_coe_coe _ (by norm_num), ← EReal.coe_add, Row.rsqrt_pos (Row.var_pos H)]
  exact Row.dot_coe (fun d => (EReal.coe_mul _ _).symm) (hw n)

end Cert.KernelIdeal.Own
-- ==== Proof.KernelIdealPrepared.lean ====
/- What the prepared weights are over the reals: the input projection scaled by the last convolution tap, the others as they are. -/
module

public import proofs.«01_k».proof.Proof.KernelIdealRow
public import Idealize.ShloMosaic.Lib.Pipeline.Value
public import Idealize.ShloMosaic.Lib.Pipeline.ValueKit.Tiles
@[expose] public section

set_option maxRecDepth 16384

noncomputable section

namespace Cert.KernelIdeal.Own

open Idealize.ShloMosaic
open Cert.KernelIdeal Cert.KernelIdeal.Gen

/-- The prepared input projections: the first 512 rows of a slice scaled by the last tap. -/
def scaled (x3 : Vec Ideal S5x1024x256 .f32) (x4 : Vec Ideal S5x512x4 .f32) : Vec Ideal S5x1024x256 .bf16 :=
  fun y => if h : (y 1).val < 512 then x3 y * x4 (ix3 (y 0) ⟨(y 1).val, h⟩ 3) else x3 y

/-- A scaled slice, entry by entry. -/
theorem pay4_apply (a : Vec Ideal S1x512x4 .f32) (b : Vec Ideal S1x512x256 .f32) (e : Fin 512) (d : Fin 256) :
    k0_pay4 a b (ix3 0 e d) = b (ix3 0 e d) * a (ix3 0 e 3) := by
  pointwise [k0_pay4]

/-- A copied slice of input projections. -/
theorem pay27_eq (a : Vec Ideal S1x512x256 .f32) : k0_pay27 a = a := by
  funext j; idx_vars j; pointwise [k0_pay27]; rw [Subsingleton.elim j0 0]

/-- A copied slice of coefficient projections. -/
theorem pay28_eq (a : Vec Ideal S1x48x512 .f32) : k0_pay28 a = a := by
  funext j; idx_vars j; pointwise [k0_pay28]; rw [Subsingleton.elim j0 0]

/-- A copied slice of step-size projections. -/
theorem pay29_eq (a : Vec Ideal S1x512x16 .f32) : k0_pay29 a = a := by
  funext j; idx_vars j; pointwise [k0_pay29]; rw [Subsingleton.elim j0 0]

/-- A copied slice of output projections. -/
theorem pay30_eq (a : Vec Ideal S1x256x512 .f32) : k0_pay30 a = a := by
  funext j; idx_vars j; pointwise [k0_pay30]; rw [Subsingleton.elim j0 0]

/-- A scaled slice is its part of the prepared input projections. -/
theorem scaled_low (x3 : Vec Ideal S5x1024x256 .f32) (x4 : Vec Ideal S5x512x4 .f32) (i : ℕ) (h3) (h4)
    (x : S1x512x256.Idx) :
    k0_pay4 (View.ld x4 (Rect.unit (s := S5x512x4) ![i, 0, 0] S1x512x4.size h4))
        (View.ld x3 (Rect.unit (s := S5x1024x256) ![i, 0, 0] S1x512x256.size h3)) x
      = scaled x3 x4 ((Rect.unit (s := S5x1024x256) ![i, 0, 0] S1x512x256.size h3).emb x) := by
  obtain ⟨z, e, d, rfl⟩ : ∃ (z : Fin 1) (e : Fin 512) (d : Fin 256), x = ix3 z e d := ⟨x 0, x 1, x 2, eq_ix3 x⟩
  obtain rfl : z = 0 := Subsingleton.elim _ _
  have h : ((Rect.unit (s := S5x1024x256) ![i, 0, 0] S1x512x256.size h3).emb (ix3 0 e d) 1).val = e.val := by
    show 0 + 1 * e.val = _
    omega
  rw [pay4_apply, scaled, dif_pos (by rw [h]; exact e.isLt)]
  refine congrArg₂ (· * ·) rfl (View.ld_unit_apply_of _ _ _ _ _ _ fun a => ?_)
  match a with
  | ⟨0, _⟩ => show i + 1 * 0 = i + 0; rfl
  | ⟨1, _⟩ => exact h.trans (Nat.zero_add _).symm
  | ⟨2, _⟩ => rfl

/-- A copied slice is its part of the prepared input projections. -/
theorem scaled_high (x3 : Vec Ideal S5x1024x256 .f32) (x4 : Vec Ideal S5x512x4 .f32) (i : ℕ) (h3)
    (x : S1x512x256.Idx) :
    k0_pay27 (View.ld x3 (Rect.unit (s := S5x1024x256) ![i, 512, 0] S1x512x256.size h3)) x
      = scaled x3 x4 ((Rect.unit (s := S5x1024x256) ![i, 512, 0] S1x512x256.size h3).emb x) := by
  have h : ((Rect.unit (s := S5x1024x256) ![i, 512, 0] S1x512x256.size h3).emb x 1).val = 512 + 1 * (x 1).val := rfl
  rw [pay27_eq, scaled, dif_neg (by rw [h]; omega)]
  rfl

/-- The prepared input projections. -/
theorem S10_eq (x3 : Vec Ideal S5x1024x256 .f32) (x4 : Vec Ideal S5x512x4 .f32) : S10 x3 x4 = scaled x3 x4 := by
  funext y
  refine View.canon_apply_of_pieces (scaled x3 x4) (L10 x3 x4) (fun p hp => ?_) y (cover10 x3 x4 y)
  simp only [L10, List.mem_cons, List.not_mem_nil, or_false] at hp
  rcases hp with rfl | rfl | rfl | rfl | rfl | rfl | rfl | rfl | rfl | rfl
  · exact scaled_high x3 x4 4 _
  · exact scaled_low x3 x4 4 _ _
  · exact scaled_high x3 x4 3 _
  · exact scaled_low x3 x4 3 _ _
  · exact scaled_high x3 x4 2 _
  · exact scaled_low x3 x4 2 _ _
  · exact scaled_high x3 x4 1 _
  · exact scaled_low x3 x4 1 _ _
  · exact scaled_high x3 x4 0 _
  · exact scaled_low x3 x4 0 _ _

/-- A copied slice is its part of the coefficient projections. -/
theorem copied11 (x : Vec Ideal S5x48x512 .f32) (i : ℕ) (h) (z : S1x48x512.Idx) :
    k0_pay28 (View.ld x (Rect.unit (s := S5x48x512) ![i, 0, 0] S1x48x512.size h)) z
      = x ((Rect.unit (s := S5x48x512) ![i, 0, 0] S1x48x512.size h).emb z) := by
  rw [pay28_eq]
  rfl

/-- The prepared coefficient projections are the argument's. -/
theorem S11_eq (x : Vec Ideal S5x48x512 .f32) : S11 x = x := by
  funext y
  refine View.canon_apply_of_pieces (e := .bf16) x (L11 x) (fun p hp => ?_) y (cover11 x y)
  simp only [L11, List.mem_cons, List.not_mem_nil, or_false] at hp
  rcases hp with rfl | rfl | rfl | rfl | rfl
  · exact copied11 x 4 _
  · exact copied11 x 3 _
  · exact copied11 x 2 _
  · exact copied11 x 1 _
  · exact copied11 x 0 _

/-- A copied slice is its part of the step-size projections. -/
theorem copied12 (x : Vec Ideal S5x512x16 .f32) (i : ℕ) (h) (z : S1x512x16.Idx) :
    k0_pay29 (View.ld x (Rect.unit (s := S5x512x16) ![i, 0, 0] S1x512x16.size h)) z
      = x ((Rect.unit (s := S5x512x16) ![i, 0, 0] S1x512x16.size h).emb z) := by
  rw [pay29_eq]
  rfl

/-- The prepared step-size projections are the argument's. -/
theorem S12_eq (x : Vec Ideal S5x512x16 .f32) : S12 x = x := by
  funext y
  refine View.canon_apply_of_pieces (e := .bf16) x (L12 x) (fun p hp => ?_) y (cover12 x y)
  simp only [L12, List.mem_cons, List.not_mem_nil, or_false] at hp
  rcases hp with rfl | rfl | rfl | rfl | rfl
  · exact copied12 x 4 _
  · exact copied12 x 3 _
  · exact copied12 x 2 _
  · exact copied12 x 1 _
  · exact copied12 x 0 _

/-- A copied slice is its part of the output projections. -/
theorem copied13 (x : Vec Ideal S5x256x512 .f32) (i : ℕ) (h) (z : S1x256x512.Idx) :
    k0_pay30 (View.ld x (Rect.unit (s := S5x256x512) ![i, 0, 0] S1x256x512.size h)) z
      = x ((Rect.unit (s := S5x256x512) ![i, 0, 0] S1x256x512.size h).emb z) := by
  rw [pay30_eq]
  rfl

/-- The prepared output projections are the argument's. -/
theorem S13_eq (x : Vec Ideal S5x256x512 .f32) : S13 x = x := by
  funext y
  refine View.canon_apply_of_pieces (e := .bf16) x (L13 x) (fun p hp => ?_) y (cover13 x y)
  simp only [L13, List.mem_cons, List.not_mem_nil, or_false] at hp
  rcases hp with rfl | rfl | rfl | rfl | rfl
  · exact copied13 x 4 _
  · exact copied13 x 3 _
  · exact copied13 x 2 _
  · exact copied13 x 1 _
  · exact copied13 x 0 _

/-- A slice of a stack, entry by entry. -/
theorem ld_slice {n a b : ℕ} {τ : EltTy} (X : Vec Ideal ⟨3, ![n, a, b]⟩ τ) (i : Fin n) (h) (e : Fin a) (d : Fin b) :
    View.ld X (Rect.unit (s := ⟨3, ![n, a, b]⟩) ![i.val, 0, 0] ![1, a, b] h) (ix3 0 e d) = X (ix3 i e d) := by
  refine View.ld_unit_apply_of _ _ _ _ _ _ fun x => ?_
  match x with
  | ⟨0, _⟩ => rfl
  | ⟨1, _⟩ => exact (Nat.zero_add _).symm
  | ⟨2, _⟩ => exact (Nat.zero_add _).symm

end Cert.KernelIdeal.Own
-- ==== Proof.KernelIdealLater.lean ====
/- The later point of the grid, whose scratch buffers hold what the first point left: its run and the
value it stores. -/
module

public import proofs.«01_k».proof.Proof.KernelIdealModel
public import Idealize.ShloMosaic.Lib.Pipeline.ValueKit.Basic
public import Idealize.ShloMosaic.Lib.Pipeline.Value

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

/-- The test the body makes for the first point, as a condition on the coordinates. -/
abbrev isFirst (i : grid0.Coords) : Prop :=
  (Scalar.cmpi .ne (Scalar.extui (Scalar.cmpi .eq (BitVec.ofNat 32 (i 0).val) 0#32)) 0#32) = 1#1

set_option maxHeartbeats 1600000 in
/-- The run of the body at a later point, with the pieces it stores into the output window. -/
noncomputable def runB (c : Dev nD) (i : grid0.Coords)
  (arg1 : Memref sig .tc .vmem S2048x480 .f32) (harg1 : arg1.IsWhole)
  (arg2 : Memref sig .tc .vmem S256x512 .f32) (harg2 : arg2.IsWhole)
  (arg3 : Memref sig .tc .vmem S5x1024x256 .f32) (harg3 : arg3.IsWhole)
  (arg4 : Memref sig .tc .vmem S5x512x4 .f32) (harg4 : arg4.IsWhole)
  (arg5 : Memref sig .tc .vmem S5x48x512 .f32) (harg5 : arg5.IsWhole)
  (arg6 : Memref sig .tc .vmem S5x512x16 .f32) (harg6 : arg6.IsWhole)
  (arg7 : Memref sig .tc .vmem S5x256x512 .f32) (harg7 : arg7.IsWhole)
  (arg8 : Memref sig .tc .vmem S128x256 .f32) (harg8 : arg8.IsWhole)
  (arg9 : Memref sig .tc .vmem S2048x8 .f32) (harg9 : arg9.IsWhole)
  (arg10 : Memref sig .tc .vmem S5x1024x256 .bf16) (harg10 : arg10.IsWhole)
  (arg11 : Memref sig .tc .vmem S5x48x512 .bf16) (harg11 : arg11.IsWhole)
  (arg12 : Memref sig .tc .vmem S5x512x16 .bf16) (harg12 : arg12.IsWhole)
  (arg13 : Memref sig .tc .vmem S5x256x512 .bf16) (harg13 : arg13.IsWhole)
  (arg14 : Memref sig .tc .vmem S512x256 .bf16) (harg14 : arg14.IsWhole)
  (arg15 : Memref sig .tc .vmem S256x128 .bf16) (harg15 : arg15.IsWhole)
    (hc : ¬isFirst i)
    (x1 : Vec F S2048x480 .f32)
    (x2 : Vec F S256x512 .f32)
    (x3 : Vec F S5x1024x256 .f32)
    (x4 : Vec F S5x512x4 .f32)
    (x5 : Vec F S5x48x512 .f32)
    (x6 : Vec F S5x512x16 .f32)
    (x7 : Vec F S5x256x512 .f32)
    (x8 : Vec F S128x256 .f32)
    (x10 : Vec F S5x1024x256 .bf16)
    (x11 : Vec F S5x48x512 .bf16)
    (x12 : Vec F S5x512x16 .bf16)
    (x13 : Vec F S5x256x512 .bf16)
    (x14 : Vec F S512x256 .bf16)
    (x15 : Vec F S256x128 .bf16) :
    { L9 : List (View.Piece (Elt F) S2048x8 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__body_eq_skeleton]; unfold cc0__body_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    iexists _; isplitr; · ipureintro; exact harg15.read_unread _
    iexact H15

set_option maxHeartbeats 1600000 in
/-- It stores once, the whole window, at the composition of the five blocks. -/
theorem runB_stored (c : Dev nD) (i : grid0.Coords)
  (arg1 : Memref sig .tc .vmem S2048x480 .f32) (harg1 : arg1.IsWhole)
  (arg2 : Memref sig .tc .vmem S256x512 .f32) (harg2 : arg2.IsWhole)
  (arg3 : Memref sig .tc .vmem S5x1024x256 .f32) (harg3 : arg3.IsWhole)
  (arg4 : Memref sig .tc .vmem S5x512x4 .f32) (harg4 : arg4.IsWhole)
  (arg5 : Memref sig .tc .vmem S5x48x512 .f32) (harg5 : arg5.IsWhole)
  (arg6 : Memref sig .tc .vmem S5x512x16 .f32) (harg6 : arg6.IsWhole)
  (arg7 : Memref sig .tc .vmem S5x256x512 .f32) (harg7 : arg7.IsWhole)
  (arg8 : Memref sig .tc .vmem S128x256 .f32) (harg8 : arg8.IsWhole)
  (arg9 : Memref sig .tc .vmem S2048x8 .f32) (harg9 : arg9.IsWhole)
  (arg10 : Memref sig .tc .vmem S5x1024x256 .bf16) (harg10 : arg10.IsWhole)
  (arg11 : Memref sig .tc .vmem S5x48x512 .bf16) (harg11 : arg11.IsWhole)
  (arg12 : Memref sig .tc .vmem S5x512x16 .bf16) (harg12 : arg12.IsWhole)
  (arg13 : Memref sig .tc .vmem S5x256x512 .bf16) (harg13 : arg13.IsWhole)
  (arg14 : Memref sig .tc .vmem S512x256 .bf16) (harg14 : arg14.IsWhole)
  (arg15 : Memref sig .tc .vmem S256x128 .bf16) (harg15 : arg15.IsWhole)
    (hc : ¬isFirst i)
    (x1 : Vec F S2048x480 .f32)
    (x2 : Vec F S256x512 .f32)
    (x3 : Vec F S5x1024x256 .f32)
    (x4 : Vec F S5x512x4 .f32)
    (x5 : Vec F S5x48x512 .f32)
    (x6 : Vec F S5x512x16 .f32)
    (x7 : Vec F S5x256x512 .f32)
    (x8 : Vec F S128x256 .f32)
    (x10 : Vec F S5x1024x256 .bf16)
    (x11 : Vec F S5x48x512 .bf16)
    (x12 : Vec F S5x512x16 .bf16)
    (x13 : Vec F S5x256x512 .bf16)
    (x14 : Vec F S512x256 .bf16)
    (x15 : Vec F S256x128 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x10 x11 x12 x13 x14 x15).1 = [⟨Rect.unit ![0, 0] ![2048, 8] inb_S2048x8_S2048x8_0_0,
      (bodyOut x1 (View.ld x14 (Rect.unit ![0, 0] S480x256.size inb_S512x256_S480x256_0_0)) x10 x11 x12 x13 x15)⟩] := by
  unfold runB bodyOut block
  dsimp only
  delta runB.sl.r_28 runB.sl.r_27 runB.sl.r_26 runB.sl.r_25 runB.sl.r_24 runB.sl.r_23 runB.sl.r_22 runB.sl.r_21 runB.sl.r_20 runB.sl.r_19 runB.sl.r_18 runB.sl.r_17 runB.sl.r_16 runB.sl.r_15 runB.sl.r_14 runB.sl.r_13 runB.sl.r_12 runB.sl.r_11 runB.sl.r_10 runB.sl.r_9 runB.sl.r_8 runB.sl.r_7 runB.sl.r_6 runB.sl.r_5 runB.sl.r_4 runB.sl.r_3 runB.sl.r_2 runB.sl.r_1 runB.sl.r runB.sl.cst_37 runB.sl.cst_55 runB.sl.cst_93
  simp only [readAt_unread,
    p31, p33, p34, p36, p37, p39, p41, p42, p44, p46, p48, p49, p50, p52, p54, p55, p57, p58, p59, p60, p61, p63, p64, p65, p66, p67, p68, p1, rest]
  rw [ld_rows, ld_cls]

/-- A store of the whole output window leaves it at what was stored. -/
theorem stored_whole {κ : Kind} {sp : Space} (v : View sig κ sp S2048x8 .f32) (f : v.ty.Contents (Elt F)) (X : Vec F S2048x8 .f32) :
    v.read (Elt F) (v.writes (Elt F) f [⟨Rect.unit ![0, 0] ![2048, 8] inb_S2048x8_S2048x8_0_0, X⟩]) = X :=
  View.read_writes_full v f _ X []

/-- The run of the body at a later point: the output window ends at the composition of the five
blocks, and nothing else changes. -/
theorem runB_spec (c : Dev nD) (i : grid0.Coords)
  (arg1 : Memref sig .tc .vmem S2048x480 .f32) (harg1 : arg1.IsWhole)
  (arg2 : Memref sig .tc .vmem S256x512 .f32) (harg2 : arg2.IsWhole)
  (arg3 : Memref sig .tc .vmem S5x1024x256 .f32) (harg3 : arg3.IsWhole)
  (arg4 : Memref sig .tc .vmem S5x512x4 .f32) (harg4 : arg4.IsWhole)
  (arg5 : Memref sig .tc .vmem S5x48x512 .f32) (harg5 : arg5.IsWhole)
  (arg6 : Memref sig .tc .vmem S5x512x16 .f32) (harg6 : arg6.IsWhole)
  (arg7 : Memref sig .tc .vmem S5x256x512 .f32) (harg7 : arg7.IsWhole)
  (arg8 : Memref sig .tc .vmem S128x256 .f32) (harg8 : arg8.IsWhole)
  (arg9 : Memref sig .tc .vmem S2048x8 .f32) (harg9 : arg9.IsWhole)
  (arg10 : Memref sig .tc .vmem S5x1024x256 .bf16) (harg10 : arg10.IsWhole)
  (arg11 : Memref sig .tc .vmem S5x48x512 .bf16) (harg11 : arg11.IsWhole)
  (arg12 : Memref sig .tc .vmem S5x512x16 .bf16) (harg12 : arg12.IsWhole)
  (arg13 : Memref sig .tc .vmem S5x256x512 .bf16) (harg13 : arg13.IsWhole)
  (arg14 : Memref sig .tc .vmem S512x256 .bf16) (harg14 : arg14.IsWhole)
  (arg15 : Memref sig .tc .vmem S256x128 .bf16) (harg15 : arg15.IsWhole)
    (hc : ¬isFirst i)
    (x1 : Vec F S2048x480 .f32)
    (x2 : Vec F S256x512 .f32)
    (x3 : Vec F S5x1024x256 .f32)
    (x4 : Vec F S5x512x4 .f32)
    (x5 : Vec F S5x48x512 .f32)
    (x6 : Vec F S5x512x16 .f32)
    (x7 : Vec F S5x256x512 .f32)
    (x8 : Vec F S128x256 .f32)
    (x10 : Vec F S5x1024x256 .bf16)
    (x11 : Vec F S5x48x512 .bf16)
    (x12 : Vec F S5x512x16 .bf16)
    (x13 : Vec F S5x256x512 .bf16)
    (x14 : Vec F S512x256 .bf16)
    (x15 : Vec F S256x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (bodyOut x1 (View.ld x14 (Rect.unit ![0, 0] S480x256.size inb_S512x256_S480x256_0_0)) x10 x11 x12 x13 x15) ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x10 x11 x12 x13 x14 x15).2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨G1, G2, G3, G4, G5, G6, G7, G8, ⟨%f9, G9⟩, G10, G11, G12, G13, G14, G15⟩
  iapply Hk
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]
  · unfold owns
    iexists _; isplitr; swap; · iexact G9
    ipureintro
    rw [runB_stored]
    exact stored_whole arg9.view f9 _
  isplitl [G10]; · iexact G10
  isplitl [G11]; · iexact G11
  isplitl [G12]; · iexact G12
  isplitl [G13]; · iexact G13
  isplitl [G14]; · iexact G14
  iexact G15

end Cert.KernelIdeal.Own
end
-- ==== Proof.KernelIdealFirst.lean ====
/- The first point of the grid, which fills the scratch buffers: its run, what it leaves in them and the
value it stores. -/
module

public import proofs.«01_k».proof.Proof.KernelIdealLater

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

set_option maxHeartbeats 1600000 in
/-- The run of the body at the first point, with the pieces it stores into the output window and into
each scratch buffer. -/
noncomputable def runA (c : Dev nD) (i : grid0.Coords)
  (arg1 : Memref sig .tc .vmem S2048x480 .f32) (harg1 : arg1.IsWhole)
  (arg2 : Memref sig .tc .vmem S256x512 .f32) (harg2 : arg2.IsWhole)
  (arg3 : Memref sig .tc .vmem S5x1024x256 .f32) (harg3 : arg3.IsWhole)
  (arg4 : Memref sig .tc .vmem S5x512x4 .f32) (harg4 : arg4.IsWhole)
  (arg5 : Memref sig .tc .vmem S5x48x512 .f32) (harg5 : arg5.IsWhole)
  (arg6 : Memref sig .tc .vmem S5x512x16 .f32) (harg6 : arg6.IsWhole)
  (arg7 : Memref sig .tc .vmem S5x256x512 .f32) (harg7 : arg7.IsWhole)
  (arg8 : Memref sig .tc .vmem S128x256 .f32) (harg8 : arg8.IsWhole)
  (arg9 : Memref sig .tc .vmem S2048x8 .f32) (harg9 : arg9.IsWhole)
  (arg10 : Memref sig .tc .vmem S5x1024x256 .bf16) (harg10 : arg10.IsWhole)
  (arg11 : Memref sig .tc .vmem S5x48x512 .bf16) (harg11 : arg11.IsWhole)
  (arg12 : Memref sig .tc .vmem S5x512x16 .bf16) (harg12 : arg12.IsWhole)
  (arg13 : Memref sig .tc .vmem S5x256x512 .bf16) (harg13 : arg13.IsWhole)
  (arg14 : Memref sig .tc .vmem S512x256 .bf16) (harg14 : arg14.IsWhole)
  (arg15 : Memref sig .tc .vmem S256x128 .bf16) (harg15 : arg15.IsWhole)
    (hc : isFirst i)
    (x1 : Vec F S2048x480 .f32)
    (x2 : Vec F S256x512 .f32)
    (x3 : Vec F S5x1024x256 .f32)
    (x4 : Vec F S5x512x4 .f32)
    (x5 : Vec F S5x48x512 .f32)
    (x6 : Vec F S5x512x16 .f32)
    (x7 : Vec F S5x256x512 .f32)
    (x8 : Vec F S128x256 .f32) :
    Σ' (L9 : List (View.Piece (Elt F) S2048x8 .f32)), Σ' (L10 : List (View.Piece (Elt F) S5x1024x256 .bf16)), Σ' (L11 : List (View.Piece (Elt F) S5x48x512 .bf16)), Σ' (L12 : List (View.Piece (Elt F) S5x512x16 .bf16)), Σ' (L13 : List (View.Piece (Elt F) S5x256x512 .bf16)), Σ' (L14 : List (View.Piece (Elt F) S512x256 .bf16)), { L15 : List (View.Piece (Elt F) S256x128 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

/-- The stores into scratch buffer 0. -/
theorem stores10 (c : Dev nD) (arg3 : Memref sig .tc .vmem S5x1024x256 .f32) (harg3 : arg3.IsWhole) (arg4 : Memref sig .tc .vmem S5x512x4 .f32) (harg4 : arg4.IsWhole) (x3 : Vec F S5x1024x256 .f32) (x4 : Vec F S5x512x4 .f32) :
    runA.sl.H10_10 c arg3 harg3 arg4 harg4 x3 x4 = L10 x3 x4 := by
  delta runA.sl.H10_10 runA.sl.r runA.sl.r_1 L10
  simp only [readAt_unread]

/-- The stores into scratch buffer 1. -/
theorem stores11 (c : Dev nD) (arg5 : Memref sig .tc .vmem S5x48x512 .f32) (harg5 : arg5.IsWhole) (x5 : Vec F S5x48x512 .f32) :
    runA.sl.H11_5 c arg5 harg5 x5 = L11 x5 := by
  delta runA.sl.H11_5 L11
  simp only [readAt_unread]

/-- The stores into scratch buffer 2. -/
theorem stores12 (c : Dev nD) (arg6 : Memref sig .tc .vmem S5x512x16 .f32) (harg6 : arg6.IsWhole) (x6 : Vec F S5x512x16 .f32) :
    runA.sl.H12_5 c arg6 harg6 x6 = L12 x6 := by
  delta runA.sl.H12_5 L12
  simp only [readAt_unread]

/-- The stores into scratch buffer 3. -/
theorem stores13 (c : Dev nD) (arg7 : Memref sig .tc .vmem S5x256x512 .f32) (harg7 : arg7.IsWhole) (x7 : Vec F S5x256x512 .f32) :
    runA.sl.H13_5 c arg7 harg7 x7 = L13 x7 := by
  delta runA.sl.H13_5 L13
  simp only [readAt_unread]

/-- The stores into scratch buffer 4. -/
theorem stores14 (c : Dev nD) (arg2 : Memref sig .tc .vmem S256x512 .f32) (harg2 : arg2.IsWhole) (x2 : Vec F S256x512 .f32) :
    runA.sl.H14_1 c arg2 harg2 x2 = [⟨Rect.unit ![0, 0] S512x256.size inb_S512x256_S512x256_0_0, S14 x2⟩] := by
  delta runA.sl.H14_1
  simp only [readAt_unread]
  rw [ld_pre]
  rfl

/-- The stores into scratch buffer 5. -/
theorem stores15 (c : Dev nD) (arg8 : Memref sig .tc .vmem S128x256 .f32) (harg8 : arg8.IsWhole) (x8 : Vec F S128x256 .f32) :
    runA.sl.H15_1 c arg8 harg8 x8 = [⟨Rect.unit ![0, 0] S256x128.size inb_S256x128_S256x128_0_0, S15 x8⟩] := by
  delta runA.sl.H15_1
  simp only [readAt_unread]
  rw [ld_wcls]
  rfl

theorem load_v8 (c : Dev nD) (arg3 : Memref sig .tc .vmem S5x1024x256 .f32) (harg3 : arg3.IsWhole) (arg4 : Memref sig .tc .vmem S5x512x4 .f32) (harg4 : arg4.IsWhole) (arg10 : Memref sig .tc .vmem S5x1024x256 .bf16) (x3 : Vec F S5x1024x256 .f32) (x4 : Vec F S5x512x4 .f32) :
    runA.sl.v8 c arg3 harg3 arg4 harg4 arg10 x3 x4
      = View.ld (S10 x3 x4) (Rect.unit ![0, 0, 0] S1x1024x256.size inb_S5x1024x256_S1x1024x256_0_0_0) := by
  delta runA.sl.v8
  rw [stores10]
  exact View.readCov_eq_canon_ld _ _ _ (cover10 x3 x4)

theorem load_v61 (c : Dev nD) (arg3 : Memref sig .tc .vmem S5x1024x256 .f32) (harg3 : arg3.IsWhole) (arg4 : Memref sig .tc .vmem S5x512x4 .f32) (harg4 : arg4.IsWhole) (arg10 : Memref sig .tc .vmem S5x1024x256 .bf16) (x3 : Vec F S5x1024x256 .f32) (x4 : Vec F S5x512x4 .f32) :
    runA.sl.v61 c arg3 harg3 arg4 harg4 arg10 x3 x4
      = View.ld (S10 x3 x4) (Rect.unit ![1, 0, 0] S1x1024x256.size inb_S5x1024x256_S1x1024x256_1_0_0) := by
  delta runA.sl.v61
  rw [stores10]
  exact View.readCov_eq_canon_ld _ _ _ (cover10 x3 x4)

theorem load_v114 (c : Dev nD) (arg3 : Memref sig .tc .vmem S5x1024x256 .f32) (harg3 : arg3.IsWhole) (arg4 : Memref sig .tc .vmem S5x512x4 .f32) (harg4 : arg4.IsWhole) (arg10 : Memref sig .tc .vmem S5x1024x256 .bf16) (x3 : Vec F S5x1024x256 .f32) (x4 : Vec F S5x512x4 .f32) :
    runA.sl.v114 c arg3 harg3 arg4 harg4 arg10 x3 x4
      = View.ld (S10 x3 x4) (Rect.unit ![2, 0, 0] S1x1024x256.size inb_S5x1024x256_S1x1024x256_2_0_0) := by
  delta runA.sl.v114
  rw [stores10]
  exact View.readCov_eq_canon_ld _ _ _ (cover10 x3 x4)

theorem load_v167 (c : Dev nD) (arg3 : Memref sig .tc .vmem S5x1024x256 .f32) (harg3 : arg3.IsWhole) (arg4 : Memref sig .tc .vmem S5x512x4 .f32) (harg4 : arg4.IsWhole) (arg10 : Memref sig .tc .vmem S5x1024x256 .bf16) (x3 : Vec F S5x1024x256 .f32) (x4 : Vec F S5x512x4 .f32) :
    runA.sl.v167 c arg3 harg3 arg4 harg4 arg10 x3 x4
      = View.ld (S10 x3 x4) (Rect.unit ![3, 0, 0] S1x1024x256.size inb_S5x1024x256_S1x1024x256_3_0_0) := by
  delta runA.sl.v167
  rw [stores10]
  exact View.readCov_eq_canon_ld _ _ _ (cover10 x3 x4)

theorem load_v220 (c : Dev nD) (arg3 : Memref sig .tc .vmem S5x1024x256 .f32) (harg3 : arg3.IsWhole) (arg4 : Memref sig .tc .vmem S5x512x4 .f32) (harg4 : arg4.IsWhole) (arg10 : Memref sig .tc .vmem S5x1024x256 .bf16) (x3 : Vec F S5x1024x256 .f32) (x4 : Vec F S5x512x4 .f32) :
    runA.sl.v220 c arg3 harg3 arg4 harg4 arg10 x3 x4
      = View.ld (S10 x3 x4) (Rect.unit ![4, 0, 0] S1x1024x256.size inb_S5x1024x256_S1x1024x256_4_0_0) := by
  delta runA.sl.v220
  rw [stores10]
  exact View.readCov_eq_canon_ld _ _ _ (cover10 x3 x4)

theorem load_v21 (c : Dev nD) (arg5 : Memref sig .tc .vmem S5x48x512 .f32) (harg5 : arg5.IsWhole) (arg11 : Memref sig .tc .vmem S5x48x512 .bf16) (x5 : Vec F S5x48x512 .f32) :
    runA.sl.v21 c arg5 harg5 arg11 x5
      = View.ld (S11 x5) (Rect.unit ![0, 0, 0] S1x48x512.size inb_S5x48x512_S1x48x512_0_0_0) := by
  delta runA.sl.v21
  rw [stores11]
  exact View.readCov_eq_canon_ld _ _ _ (cover11 x5)

theorem load_v74 (c : Dev nD) (arg5 : Memref sig .tc .vmem S5x48x512 .f32) (harg5 : arg5.IsWhole) (arg11 : Memref sig .tc .vmem S5x48x512 .bf16) (x5 : Vec F S5x48x512 .f32) :
    runA.sl.v74 c arg5 harg5 arg11 x5
      = View.ld (S11 x5) (Rect.unit ![1, 0, 0] S1x48x512.size inb_S5x48x512_S1x48x512_1_0_0) := by
  delta runA.sl.v74
  rw [stores11]
  exact View.readCov_eq_canon_ld _ _ _ (cover11 x5)

theorem load_v127 (c : Dev nD) (arg5 : Memref sig .tc .vmem S5x48x512 .f32) (harg5 : arg5.IsWhole) (arg11 : Memref sig .tc .vmem S5x48x512 .bf16) (x5 : Vec F S5x48x512 .f32) :
    runA.sl.v127 c arg5 harg5 arg11 x5
      = View.ld (S11 x5) (Rect.unit ![2, 0, 0] S1x48x512.size inb_S5x48x512_S1x48x512_2_0_0) := by
  delta runA.sl.v127
  rw [stores11]
  exact View.readCov_eq_canon_ld _ _ _ (cover11 x5)

theorem load_v180 (c : Dev nD) (arg5 : Memref sig .tc .vmem S5x48x512 .f32) (harg5 : arg5.IsWhole) (arg11 : Memref sig .tc .vmem S5x48x512 .bf16) (x5 : Vec F S5x48x512 .f32) :
    runA.sl.v180 c arg5 harg5 arg11 x5
      = View.ld (S11 x5) (Rect.unit ![3, 0, 0] S1x48x512.size inb_S5x48x512_S1x48x512_3_0_0) := by
  delta runA.sl.v180
  rw [stores11]
  exact View.readCov_eq_canon_ld _ _ _ (cover11 x5)

theorem load_v233 (c : Dev nD) (arg5 : Memref sig .tc .vmem S5x48x512 .f32) (harg5 : arg5.IsWhole) (arg11 : Memref sig .tc .vmem S5x48x512 .bf16) (x5 : Vec F S5x48x512 .f32) :
    runA.sl.v233 c arg5 harg5 arg11 x5
      = View.ld (S11 x5) (Rect.unit ![4, 0, 0] S1x48x512.size inb_S5x48x512_S1x48x512_4_0_0) := by
  delta runA.sl.v233
  rw [stores11]
  exact View.readCov_eq_canon_ld _ _ _ (cover11 x5)

theorem load_v29 (c : Dev nD) (arg6 : Memref sig .tc .vmem S5x512x16 .f32) (harg6 : arg6.IsWhole) (arg12 : Memref sig .tc .vmem S5x512x16 .bf16) (x6 : Vec F S5x512x16 .f32) :
    runA.sl.v29 c arg6 harg6 arg12 x6
      = View.ld (S12 x6) (Rect.unit ![0, 0, 0] S1x512x16.size inb_S5x512x16_S1x512x16_0_0_0) := by
  delta runA.sl.v29
  rw [stores12]
  exact View.readCov_eq_canon_ld _ _ _ (cover12 x6)

theorem load_v82 (c : Dev nD) (arg6 : Memref sig .tc .vmem S5x512x16 .f32) (harg6 : arg6.IsWhole) (arg12 : Memref sig .tc .vmem S5x512x16 .bf16) (x6 : Vec F S5x512x16 .f32) :
    runA.sl.v82 c arg6 harg6 arg12 x6
      = View.ld (S12 x6) (Rect.unit ![1, 0, 0] S1x512x16.size inb_S5x512x16_S1x512x16_1_0_0) := by
  delta runA.sl.v82
  rw [stores12]
  exact View.readCov_eq_canon_ld _ _ _ (cover12 x6)

theorem load_v135 (c : Dev nD) (arg6 : Memref sig .tc .vmem S5x512x16 .f32) (harg6 : arg6.IsWhole) (arg12 : Memref sig .tc .vmem S5x512x16 .bf16) (x6 : Vec F S5x512x16 .f32) :
    runA.sl.v135 c arg6 harg6 arg12 x6
      = View.ld (S12 x6) (Rect.unit ![2, 0, 0] S1x512x16.size inb_S5x512x16_S1x512x16_2_0_0) := by
  delta runA.sl.v135
  rw [stores12]
  exact View.readCov_eq_canon_ld _ _ _ (cover12 x6)

theorem load_v188 (c : Dev nD) (arg6 : Memref sig .tc .vmem S5x512x16 .f32) (harg6 : arg6.IsWhole) (arg12 : Memref sig .tc .vmem S5x512x16 .bf16) (x6 : Vec F S5x512x16 .f32) :
    runA.sl.v188 c arg6 harg6 arg12 x6
      = View.ld (S12 x6) (Rect.unit ![3, 0, 0] S1x512x16.size inb_S5x512x16_S1x512x16_3_0_0) := by
  delta runA.sl.v188
  rw [stores12]
  exact View.readCov_eq_canon_ld _ _ _ (cover12 x6)

theorem load_v241 (c : Dev nD) (arg6 : Memref sig .tc .vmem S5x512x16 .f32) (harg6 : arg6.IsWhole) (arg12 : Memref sig .tc .vmem S5x512x16 .bf16) (x6 : Vec F S5x512x16 .f32) :
    runA.sl.v241 c arg6 harg6 arg12 x6
      = View.ld (S12 x6) (Rect.unit ![4, 0, 0] S1x512x16.size inb_S5x512x16_S1x512x16_4_0_0) := by
  delta runA.sl.v241
  rw [stores12]
  exact View.readCov_eq_canon_ld _ _ _ (cover12 x6)

theorem load_v57 (c : Dev nD) (arg7 : Memref sig .tc .vmem S5x256x512 .f32) (harg7 : arg7.IsWhole) (arg13 : Memref sig .tc .vmem S5x256x512 .bf16) (x7 : Vec F S5x256x512 .f32) :
    runA.sl.v57 c arg7 harg7 arg13 x7
      = View.ld (S13 x7) (Rect.unit ![0, 0, 0] S1x256x512.size inb_S5x256x512_S1x256x512_0_0_0) := by
  delta runA.sl.v57
  rw [stores13]
  exact View.readCov_eq_canon_ld _ _ _ (cover13 x7)

theorem load_v110 (c : Dev nD) (arg7 : Memref sig .tc .vmem S5x256x512 .f32) (harg7 : arg7.IsWhole) (arg13 : Memref sig .tc .vmem S5x256x512 .bf16) (x7 : Vec F S5x256x512 .f32) :
    runA.sl.v110 c arg7 harg7 arg13 x7
      = View.ld (S13 x7) (Rect.unit ![1, 0, 0] S1x256x512.size inb_S5x256x512_S1x256x512_1_0_0) := by
  delta runA.sl.v110
  rw [stores13]
  exact View.readCov_eq_canon_ld _ _ _ (cover13 x7)

theorem load_v163 (c : Dev nD) (arg7 : Memref sig .tc .vmem S5x256x512 .f32) (harg7 : arg7.IsWhole) (arg13 : Memref sig .tc .vmem S5x256x512 .bf16) (x7 : Vec F S5x256x512 .f32) :
    runA.sl.v163 c arg7 harg7 arg13 x7
      = View.ld (S13 x7) (Rect.unit ![2, 0, 0] S1x256x512.size inb_S5x256x512_S1x256x512_2_0_0) := by
  delta runA.sl.v163
  rw [stores13]
  exact View.readCov_eq_canon_ld _ _ _ (cover13 x7)

theorem load_v216 (c : Dev nD) (arg7 : Memref sig .tc .vmem S5x256x512 .f32) (harg7 : arg7.IsWhole) (arg13 : Memref sig .tc .vmem S5x256x512 .bf16) (x7 : Vec F S5x256x512 .f32) :
    runA.sl.v216 c arg7 harg7 arg13 x7
      = View.ld (S13 x7) (Rect.unit ![3, 0, 0] S1x256x512.size inb_S5x256x512_S1x256x512_3_0_0) := by
  delta runA.sl.v216
  rw [stores13]
  exact View.readCov_eq_canon_ld _ _ _ (cover13 x7)

theorem load_v269 (c : Dev nD) (arg7 : Memref sig .tc .vmem S5x256x512 .f32) (harg7 : arg7.IsWhole) (arg13 : Memref sig .tc .vmem S5x256x512 .bf16) (x7 : Vec F S5x256x512 .f32) :
    runA.sl.v269 c arg7 harg7 arg13 x7
      = View.ld (S13 x7) (Rect.unit ![4, 0, 0] S1x256x512.size inb_S5x256x512_S1x256x512_4_0_0) := by
  delta runA.sl.v269
  rw [stores13]
  exact View.readCov_eq_canon_ld _ _ _ (cover13 x7)

theorem load_v5 (c : Dev nD) (arg2 : Memref sig .tc .vmem S256x512 .f32) (harg2 : arg2.IsWhole) (arg14 : Memref sig .tc .vmem S512x256 .bf16) (x2 : Vec F S256x512 .f32) :
    runA.sl.v5 c arg2 harg2 arg14 x2 = View.ld (S14 x2) (Rect.unit ![0, 0] S480x256.size inb_S512x256_S480x256_0_0) := by
  delta runA.sl.v5
  rw [stores14, View.readCov_eq_canon_ld _ _ _ (cover14 (S14 x2)), canon_pre]

theorem load_v291 (c : Dev nD) (arg8 : Memref sig .tc .vmem S128x256 .f32) (harg8 : arg8.IsWhole) (arg15 : Memref sig .tc .vmem S256x128 .bf16) (x8 : Vec F S128x256 .f32) :
    runA.sl.v291 c arg8 harg8 arg15 x8 = S15 x8 := by
  delta runA.sl.v291
  rw [stores15]
  rw [View.readCov_eq_canon_ld _ _ _ (cover15 (S15 x8)), canon_cls, ld_cls]

set_option maxHeartbeats 1600000 in
/-- It stores once into the output window, the composition of the five blocks over the scratch
contents it has just left. -/
theorem runA_stored (c : Dev nD) (i : grid0.Coords)
  (arg1 : Memref sig .tc .vmem S2048x480 .f32) (harg1 : arg1.IsWhole)
  (arg2 : Memref sig .tc .vmem S256x512 .f32) (harg2 : arg2.IsWhole)
  (arg3 : Memref sig .tc .vmem S5x1024x256 .f32) (harg3 : arg3.IsWhole)
  (arg4 : Memref sig .tc .vmem S5x512x4 .f32) (harg4 : arg4.IsWhole)
  (arg5 : Memref sig .tc .vmem S5x48x512 .f32) (harg5 : arg5.IsWhole)
  (arg6 : Memref sig .tc .vmem S5x512x16 .f32) (harg6 : arg6.IsWhole)
  (arg7 : Memref sig .tc .vmem S5x256x512 .f32) (harg7 : arg7.IsWhole)
  (arg8 : Memref sig .tc .vmem S128x256 .f32) (harg8 : arg8.IsWhole)
  (arg9 : Memref sig .tc .vmem S2048x8 .f32) (harg9 : arg9.IsWhole)
  (arg10 : Memref sig .tc .vmem S5x1024x256 .bf16) (harg10 : arg10.IsWhole)
  (arg11 : Memref sig .tc .vmem S5x48x512 .bf16) (harg11 : arg11.IsWhole)
  (arg12 : Memref sig .tc .vmem S5x512x16 .bf16) (harg12 : arg12.IsWhole)
  (arg13 : Memref sig .tc .vmem S5x256x512 .bf16) (harg13 : arg13.IsWhole)
  (arg14 : Memref sig .tc .vmem S512x256 .bf16) (harg14 : arg14.IsWhole)
  (arg15 : Memref sig .tc .vmem S256x128 .bf16) (harg15 : arg15.IsWhole)
    (hc : isFirst i)
    (x1 : Vec F S2048x480 .f32)
    (x2 : Vec F S256x512 .f32)
    (x3 : Vec F S5x1024x256 .f32)
    (x4 : Vec F S5x512x4 .f32)
    (x5 : Vec F S5x48x512 .f32)
    (x6 : Vec F S5x512x16 .f32)
    (x7 : Vec F S5x256x512 .f32)
    (x8 : Vec F S128x256 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8).1 = [⟨Rect.unit ![0, 0] ![2048, 8] inb_S2048x8_S2048x8_0_0,
      (bodyOut x1 (View.ld (S14 x2) (Rect.unit ![0, 0] S480x256.size inb_S512x256_S480x256_0_0)) (S10 x3 x4) (S11 x5) (S12 x6) (S13 x7) (S15 x8))⟩] := by
  unfold runA bodyOut block
  dsimp only
  delta runA.sl.r_30 runA.sl.r_29 runA.sl.r_28 runA.sl.r_27 runA.sl.r_26 runA.sl.r_25 runA.sl.r_24 runA.sl.r_23 runA.sl.r_22 runA.sl.r_21 runA.sl.r_20 runA.sl.r_19 runA.sl.r_18 runA.sl.r_17 runA.sl.r_16 runA.sl.r_15 runA.sl.r_14 runA.sl.r_13 runA.sl.r_12 runA.sl.r_11 runA.sl.r_10 runA.sl.r_9 runA.sl.r_8 runA.sl.r_7 runA.sl.r_6 runA.sl.r_5 runA.sl.r_4 runA.sl.r_3 runA.sl.r_2 runA.sl.cst_37 runA.sl.cst_55 runA.sl.cst_93
  simp only [readAt_unread, load_v8, load_v61, load_v114, load_v167, load_v220, load_v21, load_v74, load_v127, load_v180, load_v233, load_v29, load_v82, load_v135, load_v188, load_v241, load_v57, load_v110, load_v163, load_v216, load_v269, load_v5, load_v291,
    p31, p33, p34, p36, p37, p39, p41, p42, p44, p46, p48, p49, p50, p52, p54, p55, p57, p58, p59, p60, p61, p63, p64, p65, p66, p67, p68, p1, rest]
  rw [ld_rows]

/-- The run of the body at the first point: the output window ends at the composition of the five
blocks, and every scratch buffer at its prepared contents. -/
theorem runA_spec (c : Dev nD) (i : grid0.Coords)
  (arg1 : Memref sig .tc .vmem S2048x480 .f32) (harg1 : arg1.IsWhole)
  (arg2 : Memref sig .tc .vmem S256x512 .f32) (harg2 : arg2.IsWhole)
  (arg3 : Memref sig .tc .vmem S5x1024x256 .f32) (harg3 : arg3.IsWhole)
  (arg4 : Memref sig .tc .vmem S5x512x4 .f32) (harg4 : arg4.IsWhole)
  (arg5 : Memref sig .tc .vmem S5x48x512 .f32) (harg5 : arg5.IsWhole)
  (arg6 : Memref sig .tc .vmem S5x512x16 .f32) (harg6 : arg6.IsWhole)
  (arg7 : Memref sig .tc .vmem S5x256x512 .f32) (harg7 : arg7.IsWhole)
  (arg8 : Memref sig .tc .vmem S128x256 .f32) (harg8 : arg8.IsWhole)
  (arg9 : Memref sig .tc .vmem S2048x8 .f32) (harg9 : arg9.IsWhole)
  (arg10 : Memref sig .tc .vmem S5x1024x256 .bf16) (harg10 : arg10.IsWhole)
  (arg11 : Memref sig .tc .vmem S5x48x512 .bf16) (harg11 : arg11.IsWhole)
  (arg12 : Memref sig .tc .vmem S5x512x16 .bf16) (harg12 : arg12.IsWhole)
  (arg13 : Memref sig .tc .vmem S5x256x512 .bf16) (harg13 : arg13.IsWhole)
  (arg14 : Memref sig .tc .vmem S512x256 .bf16) (harg14 : arg14.IsWhole)
  (arg15 : Memref sig .tc .vmem S256x128 .bf16) (harg15 : arg15.IsWhole)
    (hc : isFirst i)
    (x1 : Vec F S2048x480 .f32)
    (x2 : Vec F S256x512 .f32)
    (x3 : Vec F S5x1024x256 .f32)
    (x4 : Vec F S5x512x4 .f32)
    (x5 : Vec F S5x48x512 .f32)
    (x6 : Vec F S5x512x16 .f32)
    (x7 : Vec F S5x256x512 .f32)
    (x8 : Vec F S128x256 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (bodyOut x1 (View.ld (S14 x2) (Rect.unit ![0, 0] S480x256.size inb_S512x256_S480x256_0_0)) (S10 x3 x4) (S11 x5) (S12 x6) (S13 x7) (S15 x8)) ∗ owns (c : Thread nD τ) arg10 fullShare (S10 x3 x4) ∗ owns (c : Thread nD τ) arg11 fullShare (S11 x5) ∗ owns (c : Thread nD τ) arg12 fullShare (S12 x6) ∗ owns (c : Thread nD τ) arg13 fullShare (S13 x7) ∗ owns (c : Thread nD τ) arg14 fullShare (S14 x2) ∗ owns (c : Thread nD τ) arg15 fullShare (S15 x8)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H5, H6, H7, H8, H9, H10, H11, H12, H13, H14, H15, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8).2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨G1, G2, G3, G4, G5, G6, G7, G8, ⟨%f9, G9⟩, ⟨%f10, G10⟩, ⟨%f11, G11⟩, ⟨%f12, G12⟩, ⟨%f13, G13⟩, ⟨%f14, G14⟩, ⟨%f15, G15⟩⟩
  iapply Hk
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]
  · unfold owns
    iexists _; isplitr; swap; · iexact G9
    ipureintro
    rw [runA_stored]
    exact stored_whole arg9.view f9 _
  isplitl [G10]
  · unfold owns
    iexists _; isplitr; swap; · iexact G10
    ipureintro
    exact (congrArg (fun L => arg10.view.read (Elt F) (arg10.view.writes (Elt F) f10 L)) (stores10 c arg3 harg3 arg4 harg4 x3 x4)).trans
      (View.read_writes_eq_canon arg10.view f10 _ (cover10 x3 x4))
  isplitl [G11]
  · unfold owns
    iexists _; isplitr; swap; · iexact G11
    ipureintro
    exact (congrArg (fun L => arg11.view.read (Elt F) (arg11.view.writes (Elt F) f11 L)) (stores11 c arg5 harg5 x5)).trans
      (View.read_writes_eq_canon arg11.view f11 _ (cover11 x5))
  isplitl [G12]
  · unfold owns
    iexists _; isplitr; swap; · iexact G12
    ipureintro
    exact (congrArg (fun L => arg12.view.read (Elt F) (arg12.view.writes (Elt F) f12 L)) (stores12 c arg6 harg6 x6)).trans
      (View.read_writes_eq_canon arg12.view f12 _ (cover12 x6))
  isplitl [G13]
  · unfold owns
    iexists _; isplitr; swap; · iexact G13
    ipureintro
    exact (congrArg (fun L => arg13.view.read (Elt F) (arg13.view.writes (Elt F) f13 L)) (stores13 c arg7 harg7 x7)).trans
      (View.read_writes_eq_canon arg13.view f13 _ (cover13 x7))
  isplitl [G14]
  · unfold owns
    iexists _; isplitr; swap; · iexact G14
    ipureintro
    exact (congrArg (fun L => arg14.view.read (Elt F) (arg14.view.writes (Elt F) f14 L)) (stores14 c arg2 harg2 x2)).trans
      ((View.read_writes_eq_canon arg14.view f14 _ (cover14 (S14 x2))).trans (canon_pre _))
  unfold owns
  iexists _; isplitr; swap; · iexact G15
  ipureintro
  exact (congrArg (fun L => arg15.view.read (Elt F) (arg15.view.writes (Elt F) f15 L)) (stores15 c arg8 harg8 x8)).trans
    ((View.read_writes_eq_canon arg15.view f15 _ (cover15 (S15 x8))).trans (canon_cls _))

end Cert.KernelIdeal.Own
end
-- ==== Proof.KernelIdealLaunch.lean ====
/- The launch: what the two points leave, the body at either of them, and the frame. -/
module

public import proofs.«01_k».proof.Proof.KernelIdealFirst
public import Idealize.ShloMosaic.Lib.PointwiseCore
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The test for the first point, in closed form. -/
theorem isFirst_iff : ∀ t : Fin cfg0.N, isFirst (grid0.coords t) ↔ t.val % 2 = 0 := fun t => by
  have ht : t.val < 2 := Nat.lt_of_lt_of_eq t.isLt N_0
  have e0 : (grid0.coords t 0).val = t.val / 1 % 2 := Pipeline.Grid.coords_val t 0 (by decide) rfl
  simp only [isFirst, e0]; word_cmp

/-- The first point. -/
abbrev t0 : Fin cfg0.N := ⟨0, by rw [show cfg0.N = 2 from N_0]; decide⟩

/-- The staging buffer of window 0 at a point. -/
abbrev ms0_0 (t : Fin cfg0.N) := win0_0.stage (cfg0.slots t 0)
/-- It is a whole buffer. -/
abbrev hs0_0 (t : Fin cfg0.N) : (ms0_0 t).IsWhole := hstage0_0 ((cfg0.slots t 0).cast nbuf0_0)
/-- The staging buffer of window 1 at a point. -/
abbrev ms0_1 (t : Fin cfg0.N) := win0_1.stage (cfg0.slots t 1)
/-- It is a whole buffer. -/
abbrev hs0_1 (t : Fin cfg0.N) : (ms0_1 t).IsWhole := hstage0_1 ((cfg0.slots t 1).cast nbuf0_1)
/-- The staging buffer of window 2 at a point. -/
abbrev ms0_2 (t : Fin cfg0.N) := win0_2.stage (cfg0.slots t 2)
/-- It is a whole buffer. -/
abbrev hs0_2 (t : Fin cfg0.N) : (ms0_2 t).IsWhole := hstage0_2 ((cfg0.slots t 2).cast nbuf0_2)
/-- The staging buffer of window 3 at a point. -/
abbrev ms0_3 (t : Fin cfg0.N) := win0_3.stage (cfg0.slots t 3)
/-- It is a whole buffer. -/
abbrev hs0_3 (t : Fin cfg0.N) : (ms0_3 t).IsWhole := hstage0_3 ((cfg0.slots t 3).cast nbuf0_3)
/-- The staging buffer of window 4 at a point. -/
abbrev ms0_4 (t : Fin cfg0.N) := win0_4.stage (cfg0.slots t 4)
/-- It is a whole buffer. -/
abbrev hs0_4 (t : Fin cfg0.N) : (ms0_4 t).IsWhole := hstage0_4 ((cfg0.slots t 4).cast nbuf0_4)
/-- The staging buffer of window 5 at a point. -/
abbrev ms0_5 (t : Fin cfg0.N) := win0_5.stage (cfg0.slots t 5)
/-- It is a whole buffer. -/
abbrev hs0_5 (t : Fin cfg0.N) : (ms0_5 t).IsWhole := hstage0_5 ((cfg0.slots t 5).cast nbuf0_5)
/-- The staging buffer of window 6 at a point. -/
abbrev ms0_6 (t : Fin cfg0.N) := win0_6.stage (cfg0.slots t 6)
/-- It is a whole buffer. -/
abbrev hs0_6 (t : Fin cfg0.N) : (ms0_6 t).IsWhole := hstage0_6 ((cfg0.slots t 6).cast nbuf0_6)
/-- The staging buffer of window 7 at a point. -/
abbrev ms0_7 (t : Fin cfg0.N) := win0_7.stage (cfg0.slots t 7)
/-- It is a whole buffer. -/
abbrev hs0_7 (t : Fin cfg0.N) : (ms0_7 t).IsWhole := hstage0_7 ((cfg0.slots t 7).cast nbuf0_7)
/-- The staging buffer of window 8 at a point. -/
abbrev ms0_8 (t : Fin cfg0.N) := win0_8.stage (cfg0.slots t 8)
/-- It is a whole buffer. -/
abbrev hs0_8 (t : Fin cfg0.N) : (ms0_8 t).IsWhole := hstage0_8 ((cfg0.slots t 8).cast nbuf0_8)
/-- Scratch buffer 0. -/
abbrev scM0_0 := Memref.whole cc0_scratch0
/-- Scratch buffer 1. -/
abbrev scM0_1 := Memref.whole cc0_scratch1
/-- Scratch buffer 2. -/
abbrev scM0_2 := Memref.whole cc0_scratch2
/-- Scratch buffer 3. -/
abbrev scM0_3 := Memref.whole cc0_scratch3
/-- Scratch buffer 4. -/
abbrev scM0_4 := Memref.whole cc0_scratch4
/-- Scratch buffer 5. -/
abbrev scM0_5 := Memref.whole cc0_scratch5

/-- The scratch buffers and the generator's register, each at anything. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The pre-projection's block as a whole staging buffer, zero past the array's end. -/
def pad1 (c : Dev nD) (t : Fin cfg0.N) : Vec F S256x512 .f32 :=
  win0_1.fill (grid0.coords t) (fun _ => Scalar.ofBits .f32 0#32) (iblk m c 1 t)

/-- The classifier's block as a whole staging buffer, zero past the array's end. -/
def pad7 (c : Dev nD) (t : Fin cfg0.N) : Vec F S128x256 .f32 :=
  win0_7.fill (grid0.coords t) (fun _ => Scalar.ofBits .f32 0#32) (iblk m c 7 t)

/-- The 480 rows of the prepared pre-projection. -/
def rows480 (X : Vec F S512x256 .bf16) : Vec F S480x256 .bf16 :=
  View.ld X (Rect.unit ![0, 0] S480x256.size inb_S512x256_S480x256_0_0)

/-- The prepared pre-projection at an entry. -/
theorem S14_apply (x : Vec F S256x512 .f32) (j : S512x256.Idx) (k : S256x512.Idx)
    (h0 : (k 0).val = (j 1).val) (h1 : (k 1).val = (j 0).val) :
    S14 x j = FloatOps.truncf .bf16 bitsLt_bf16_f32 (x k) := by
  unfold S14 k0_pay2
  dsimp only
  rw [shapeCast_apply _ _ j j rfl, Idealize.ShloMosaic.truncf_apply,
    transpose_apply _ _ _ j k (by intro b; match b with | ⟨0, _⟩ => exact h1 | ⟨1, _⟩ => exact h0)]

/-- Being below 8 as a signed comparison of words. -/
theorem slt_eight : ∀ n : Fin 128,
    BitVec.ofBool ((BitVec.ofNat 32 (0 * 128 + n.val)).slt 8#32) = BitVec.ofBool (decide (n.val < 8)) := by
  decide +kernel

/-- The column mask of the prepared classifier. -/
theorem mask_apply (j : S256x128.Idx) :
    cmpi .slt (iota .tc S256x128 32 [1] iota_S256x128_d1_w32) (broadcast S256x128 8#32) j
      = BitVec.ofBool (decide ((j 1).val < 8)) := slt_eight (j 1)

/-- The prepared classifier at an entry of its first 8 columns. -/
theorem S15_low (x : Vec F S128x256 .f32) (j : S256x128.Idx) (k : S128x256.Idx)
    (h0 : (k 0).val = (j 1).val) (h1 : (k 1).val = (j 0).val) (h : (j 1).val < 8) :
    S15 x j = FloatOps.truncf .bf16 bitsLt_bf16_f32 (x k) := by
  unfold S15 k0_pay3
  dsimp only
  rw [shapeCast_apply _ _ j j rfl]
  unfold select
  rw [mask_apply, decide_eq_true h]
  show truncf FTy.bf16 (transpose S256x128 [1, 0] x transposes_S128x256_p1_0_S256x128) bitsLt_bf16_f32 j = _
  rw [Idealize.ShloMosaic.truncf_apply,
    transpose_apply _ _ _ j k (by intro b; match b with | ⟨0, _⟩ => exact h1 | ⟨1, _⟩ => exact h0)]

/-- The prepared classifier is zero past its first 8 columns. -/
theorem S15_high (x : Vec F S128x256 .f32) (j : S256x128.Idx) (h : ¬(j 1).val < 8) :
    S15 x j = Scalar.ofBits .bf16 0x0000#16 := by
  unfold S15 k0_pay3
  dsimp only
  rw [shapeCast_apply _ _ j j rfl]
  unfold select
  rw [mask_apply, decide_eq_false h]
  rfl

/-- Those rows depend on the first 480 columns of the pre-projection only. -/
theorem rows480_congr (x x' : Vec F S256x512 .f32)
    (h : ∀ j : S256x512.Idx, (j 1).val < 480 → x j = x' j) : rows480 (S14 x) = rows480 (S14 x') := by
  funext j
  have hj : (j 0).val < 480 := (j 0).isLt
  let i : S512x256.Idx := (Rect.unit (s := S512x256) ![0, 0] S480x256.size inb_S512x256_S480x256_0_0).idx j
  have hi : (i 0).val = (j 0).val := by
    show 0 + 1 * (j 0).val = _
    omega
  let k : S256x512.Idx := fun a => match a with
    | ⟨0, _⟩ => ⟨(i 1).val, (i 1).isLt⟩
    | ⟨1, _⟩ => ⟨(i 0).val, (i 0).isLt⟩
  show S14 x i = S14 x' i
  rw [S14_apply x i k rfl rfl, S14_apply x' i k rfl rfl, h k (by show (i 0).val < 480; omega)]

/-- The prepared classifier depends on the first 8 rows of the classifier only. -/
theorem S15_congr (x x' : Vec F S128x256 .f32)
    (h : ∀ j : S128x256.Idx, (j 0).val < 8 → x j = x' j) : S15 x = S15 x' := by
  funext j
  let k : S128x256.Idx := fun a => match a with
    | ⟨0, _⟩ => ⟨(j 1).val, (j 1).isLt⟩
    | ⟨1, _⟩ => ⟨(j 0).val, (j 0).isLt⟩
  by_cases hj : (j 1).val < 8
  · rw [S15_low x j k rfl rfl hj, S15_low x' j k rfl rfl hj, h k hj]
  · rw [S15_high x j hj, S15_high x' j hj]

/-- What lies past the pre-projection's end does not show in its first 480 columns. -/
theorem fill1_congr (c : Dev nD) (t : Fin cfg0.N) (d d' : Vec F S256x512 .f32) (j : S256x512.Idx)
    (h : (j 1).val < 480) :
    win0_1.fill (grid0.coords t) d (iblk m c 1 t) j = win0_1.fill (grid0.coords t) d' (iblk m c 1 t) j := by
  have hm : win0_1.moved (grid0.coords t) j = true := (win0_1.moved_iff _ _).mpr fun a => by
    match a with
    | ⟨0, _⟩ => exact (j 0).isLt
    | ⟨1, _⟩ => exact h
  unfold Pipeline.Window.fill
  rw [dif_pos hm, dif_pos hm]

/-- What lies past the classifier's end does not show in its first 8 rows. -/
theorem fill7_congr (c : Dev nD) (t : Fin cfg0.N) (d d' : Vec F S128x256 .f32) (j : S128x256.Idx)
    (h : (j 0).val < 8) :
    win0_7.fill (grid0.coords t) d (iblk m c 7 t) j = win0_7.fill (grid0.coords t) d' (iblk m c 7 t) j := by
  have hm : win0_7.moved (grid0.coords t) j = true := (win0_7.moved_iff _ _).mpr fun a => by
    match a with
    | ⟨0, _⟩ => exact h
    | ⟨1, _⟩ => exact (j 1).isLt
  unfold Pipeline.Window.fill
  rw [dif_pos hm, dif_pos hm]

/-- What point `t` stores. -/
def outAt (c : Dev nD) (t : Fin cfg0.N) : Vec F S2048x8 .f32 :=
  bodyOut (iblk m c 0 t) (rows480 (S14 (pad1 m c t0))) (S10 (iblk m c 2 t0) (iblk m c 3 t0))
    (S11 (iblk m c 4 t0)) (S12 (iblk m c 5 t0)) (S13 (iblk m c 6 t0)) (S15 (pad7 m c t0))

/-- Before the first point the scratch is at anything; afterwards it holds the prepared weights, the
pre-projection's on its 480 rows. -/
def PhiS (c : Dev nD) : (n : ℕ) → n ≤ cfg0.N → sProp 𝕄
  | 0, _ => Pipeline.ΦA spec0 c
  | n + 1, _ => iprop(iprop(owns (c : Thread nD τ) scM0_0 fullShare (S10 (iblk m c 2 t0) (iblk m c 3 t0)) ∗ owns (c : Thread nD τ) scM0_1 fullShare (S11 (iblk m c 4 t0)) ∗ owns (c : Thread nD τ) scM0_2 fullShare (S12 (iblk m c 5 t0)) ∗ owns (c : Thread nD τ) scM0_3 fullShare (S13 (iblk m c 6 t0))
      ∗ (∃ X, ⌜rows480 X = rows480 (S14 (pad1 m c t0))⌝ ∗ owns (c : Thread nD τ) scM0_4 fullShare X) ∗ owns (c : Thread nD τ) scM0_5 fullShare (S15 (pad7 m c t0))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (S10 (iblk m c 2 t0) (iblk m c 3 t0)) ∗ owns (c : Thread nD τ) scM0_1 fullShare (S11 (iblk m c 4 t0)) ∗ owns (c : Thread nD τ) scM0_2 fullShare (S12 (iblk m c 5 t0)) ∗ owns (c : Thread nD τ) scM0_3 fullShare (S13 (iblk m c 6 t0))
      ∗ (∃ X, ⌜rows480 X = rows480 (S14 (pad1 m c t0))⌝ ∗ owns (c : Thread nD τ) scM0_4 fullShare X) ∗ owns (c : Thread nD τ) scM0_5 fullShare (S15 (pad7 m c t0))) ∗ (∃ r, prngReg c r)) := rfl

theorem PhiS_pos (c : Dev nD) (n : ℕ) (h : n ≤ cfg0.N) (hz : n ≠ 0) :
    PhiS m c n h = iprop(iprop(owns (c : Thread nD τ) scM0_0 fullShare (S10 (iblk m c 2 t0) (iblk m c 3 t0)) ∗ owns (c : Thread nD τ) scM0_1 fullShare (S11 (iblk m c 4 t0)) ∗ owns (c : Thread nD τ) scM0_2 fullShare (S12 (iblk m c 5 t0)) ∗ owns (c : Thread nD τ) scM0_3 fullShare (S13 (iblk m c 6 t0))
      ∗ (∃ X, ⌜rows480 X = rows480 (S14 (pad1 m c t0))⌝ ∗ owns (c : Thread nD τ) scM0_4 fullShare X) ∗ owns (c : Thread nD τ) scM0_5 fullShare (S15 (pad7 m c t0))) ∗ (∃ r, prngReg c r)) := by
  cases n with
  | zero => exact absurd rfl hz
  | succ n => rfl

/-- The proof data: the arrays as the region finds them, each input's buffer at its block (the two
clipped ones filled out with zeros), the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => pad1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => pad7 m c t
    | ⟨8, _⟩ => outAt m c t
  Φ t := PhiS m c t.val (Nat.le_of_lt_succ t.isLt)
  q _ := fullShare
  owed _ := 0

/-- The arrays are the region's entry contents. -/
theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = pad1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = pad7 m c t := by dsimp only [dats]
theorem after0_8 (c : Dev nD) (t : Fin cfg0.N) : (dats m 0 c).after 8 t = outAt m c t := by dsimp only [dats]
theorem before0_0 (c : Dev nD) (t : Fin cfg0.N) (d) : (dats m 0 c).before 0 t d = iblk m c 0 t :=
  before0_0_of m (dats m 0 c) (A_eq m c 0) (after0_0 m c) t d
/-- Window 1's buffer holds its block, and anything past the array's end. -/
theorem before0_1 (c : Dev nD) (t : Fin cfg0.N) (d) : (dats m 0 c).before 1 t d = win0_1.fill (grid0.coords t) d (iblk m c 1 t) :=
  ((dats m 0 c).before_in_eq_fetched 1 rfl (fun _ => rfl) (fun _ _ _ => rfl)
    (fun t => by
      rw [after0_1]; unfold Dat.blockOf; rw [A_eq]
      exact win0_1.cut_fill (grid0.coords t) _ (iblk m c 1 t)) t d).trans
    (by unfold Dat.fetched Dat.blockOf; rw [A_eq]; rfl)
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- Window 7's buffer holds its block, and anything past the array's end. -/
theorem before0_7 (c : Dev nD) (t : Fin cfg0.N) (d) : (dats m 0 c).before 7 t d = win0_7.fill (grid0.coords t) d (iblk m c 7 t) :=
  ((dats m 0 c).before_in_eq_fetched 7 rfl (fun _ => rfl) (fun _ _ _ => rfl)
    (fun t => by
      rw [after0_7]; unfold Dat.blockOf; rw [A_eq]
      exact win0_7.cut_fill (grid0.coords t) _ (iblk m c 7 t)) t d).trans
    (by unfold Dat.fetched Dat.blockOf; rw [A_eq]; rfl)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns: the clipped windows' buffers only on the part inside their arrays. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (grid0.coords t) d (win0_1.cut (grid0.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare (win0_7.fill (grid0.coords t) d (win0_7.cut (grid0.coords t) ((dats m 0 c).after 7 t))))
    ∗ owns (c : Thread nD τ) (ms0_8 t) fullShare ((dats m 0 c).after 8 t))

theorem cut_pad1 (c : Dev nD) (t : Fin cfg0.N) : win0_1.cut (grid0.coords t) (pad1 m c t) = iblk m c 1 t :=
  win0_1.cut_fill _ _ _
theorem cut_pad7 (c : Dev nD) (t : Fin cfg0.N) : win0_7.cut (grid0.coords t) (pad7 m c t) = iblk m c 7 t :=
  win0_7.cut_fill _ _ _

set_option maxHeartbeats 1600000 in
/-- The body at either point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 2 := lt_of_lt_of_eq t.isLt (show cfg0.N = 2 from N_0)
  have hcut1 := cut_pad1 m c t
  have hcut7 := cut_pad7 m c t
  by_cases hz : t.val = 0
  · have h0 : t.val % 2 = 0 := by rw [hz]
    obtain rfl : t = t0 := Fin.ext hz
    rw [PhiS_castSucc m c t0, PhiS_zero m c _ _ hz, PhiA0_eq]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have e1 : rows480 (S14 (win0_1.fill (grid0.coords t0) d1 (iblk m c 1 t0))) = rows480 (S14 (pad1 m c t0)) :=
      rows480_congr _ _ fun j hj => fill1_congr m c t0 _ _ j hj
    have e7 : S15 (win0_7.fill (grid0.coords t0) d7 (iblk m c 7 t0)) = S15 (pad7 m c t0) :=
      S15_congr _ _ fun j hj => fill7_congr m c t0 _ _ j hj
    have eo : bodyOut (iblk m c 0 t0) (rows480 (S14 (win0_1.fill (grid0.coords t0) d1 (iblk m c 1 t0)))) (S10 (iblk m c 2 t0) (iblk m c 3 t0)) (S11 (iblk m c 4 t0)) (S12 (iblk m c 5 t0)) (S13 (iblk m c 6 t0)) (S15 (win0_7.fill (grid0.coords t0) d7 (iblk m c 7 t0))) = outAt m c t0 := by
      rw [e1, e7]; rfl
    iapply (runA_spec c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) scM0_0 (Memref.isWhole_whole _) scM0_1 (Memref.isWhole_whole _) scM0_2 (Memref.isWhole_whole _) scM0_3 (Memref.isWhole_whole _) scM0_4 (Memref.isWhole_whole _) scM0_5 (Memref.isWhole_whole _) ((isFirst_iff t0).mpr h0) (iblk m c 0 t0) (win0_1.fill (grid0.coords t0) d1 (iblk m c 1 t0)) (iblk m c 2 t0) (iblk m c 3 t0) (iblk m c 4 t0) (iblk m c 5 t0) (iblk m c 6 t0) (win0_7.fill (grid0.coords t0) d7 (iblk m c 7 t0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]
        · iexists _
          isplitr
          swap; · iexact HS4
          ipureintro; exact e1
        rw [← e7]; iexact HS5
      iexact Hg
    isplitl [Ho]; · iexact Ho
    isplitl [H0]; · iexact H0
    isplitl [H1]
    · iexists d1; rw [hcut1]; iexact H1
    isplitl [H2]; · iexact H2
    isplitl [H3]; · iexact H3
    isplitl [H4]; · iexact H4
    isplitl [H5]; · iexact H5
    isplitl [H6]; · iexact H6
    isplitl [H7]
    · iexists d7; rw [hcut7]; iexact H7
    rw [← eo]; iexact H8
  · have h0 : ¬ t.val % 2 = 0 := by omega
    rw [PhiS_castSucc m c t, PhiS_pos m c _ _ hz]
    iintro ⟨⟨⟨HS0, HS1, HS2, HS3, ⟨%X, %hX, HS4⟩, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have eo : bodyOut (iblk m c 0 t) (rows480 X) (S10 (iblk m c 2 t0) (iblk m c 3 t0)) (S11 (iblk m c 4 t0)) (S12 (iblk m c 5 t0)) (S13 (iblk m c 6 t0)) (S15 (pad7 m c t0)) = outAt m c t := by
      rw [hX]; rfl
    iapply (runB_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((isFirst_iff t).mp h)) (iblk m c 0 t) (win0_1.fill (grid0.coords t) d1 (iblk m c 1 t)) (iblk m c 2 t) (iblk m c 3 t) (iblk m c 4 t) (iblk m c 5 t) (iblk m c 6 t) (win0_7.fill (grid0.coords t) d7 (iblk m c 7 t)) (S10 (iblk m c 2 t0) (iblk m c 3 t0)) (S11 (iblk m c 4 t0)) (S12 (iblk m c 5 t0)) (S13 (iblk m c 6 t0)) X (S15 (pad7 m c t0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]
        · iexists X
          isplitr
          swap; · iexact HS4
          ipureintro; exact hX
        iexact HS5
      iexact Hg
    isplitl [Ho]; · iexact Ho
    isplitl [H0]; · iexact H0
    isplitl [H1]
    · iexists d1; rw [hcut1]; iexact H1
    isplitl [H2]; · iexact H2
    isplitl [H3]; · iexact H3
    isplitl [H4]; · iexact H4
    isplitl [H5]; · iexact H5
    isplitl [H6]; · iexact H6
    isplitl [H7]
    · iexists d7; rw [hcut7]; iexact H7
    rw [← eo]; iexact H8

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at anything. -/
theorem hout (c : Dev nD) : (dats m 0 c).Φ (Fin.last cfg0.N) ⊢ Pipeline.ΦA spec0 c := by
  have ht : (Fin.last cfg0.N).val ≠ 0 := by rw [Fin.val_last]; have : cfg0.N = 2 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨⟨HS0, HS1, HS2, HS3, ⟨%X, %hX, HS4⟩, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
/-- The run, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The run. -/
theorem run_main : θ_run defs (onTc (τ := τ) (main (F := F))) (s₀ m ρ) (Pipeline.FramePost cfgs (dats m) 0 (V m)) :=
  (θ_run defs _ _).mono (fun _ h => h.1) (run_main_quiescent m ρ)

/-- The frame: from any memory with the counters at zero, the run ends with the arguments unchanged and
the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run_main m ρ))
    ((θ_run defs _ _).mono (fun _ h => h.2) (run_main_quiescent m ρ))

end Cert.KernelIdeal.Own
end
-- ==== Proof.KernelIdealValue.lean ====
/- The kernel's result array over the reals. -/
module

public import proofs.«01_k».proof.Proof.KernelIdealPrepared
public import proofs.«01_k».proof.Proof.KernelIdealLaunch
public import Idealize.ShloMosaic.Lib.Pipeline.ValueKit
@[expose] public section

set_option maxRecDepth 16384

noncomputable section

namespace Cert.KernelIdeal.Own

open Idealize.ShloMosaic
open Cert.KernelIdeal Cert.KernelIdeal.Gen

variable (m : (ℓ : Loc nD τ sig) → Buf (Elt Ideal) ℓ) (ρ : Dev nD → PrngReg)

/-- The batch's block of a point starts at row 2048 times the point. -/
theorem index0_0 : ∀ t : Fin cfg0.N, win0_0.index t = ![t.val, 0] := (by decide +kernel : ∀ t : Fin grid0.N, _)
/-- The pre-projection's block is at the origin. -/
theorem index0_1 : ∀ t : Fin cfg0.N, win0_1.index t = ![0, 0] := (by decide +kernel : ∀ t : Fin grid0.N, _)
/-- The input projections' block is at the origin. -/
theorem index0_2 : ∀ t : Fin cfg0.N, win0_2.index t = ![0, 0, 0] := (by decide +kernel : ∀ t : Fin grid0.N, _)
/-- The convolution taps' block is at the origin. -/
theorem index0_3 : ∀ t : Fin cfg0.N, win0_3.index t = ![0, 0, 0] := (by decide +kernel : ∀ t : Fin grid0.N, _)
/-- The coefficient projections' block is at the origin. -/
theorem index0_4 : ∀ t : Fin cfg0.N, win0_4.index t = ![0, 0, 0] := (by decide +kernel : ∀ t : Fin grid0.N, _)
/-- The step-size projections' block is at the origin. -/
theorem index0_5 : ∀ t : Fin cfg0.N, win0_5.index t = ![0, 0, 0] := (by decide +kernel : ∀ t : Fin grid0.N, _)
/-- The output projections' block is at the origin. -/
theorem index0_6 : ∀ t : Fin cfg0.N, win0_6.index t = ![0, 0, 0] := (by decide +kernel : ∀ t : Fin grid0.N, _)
/-- The classifier's block is at the origin. -/
theorem index0_7 : ∀ t : Fin cfg0.N, win0_7.index t = ![0, 0] := (by decide +kernel : ∀ t : Fin grid0.N, _)
/-- The result's block of a point starts at row 2048 times the point. -/
theorem index0_8 : ∀ t : Fin cfg0.N, win0_8.index t = ![t.val, 0] := (by decide +kernel : ∀ t : Fin grid0.N, _)

/-- The row of the batch that row `l` of point `t` is. -/
def rowOf (t : Fin cfg0.N) (l : Fin 2048) : Fin 4096 := ⟨t.val * 2048 + l.val, by
  have h : t.val < 2 := t.isLt
  omega⟩

/-- A point's rows of the batch. -/
theorem iblk0_apply (c : Dev nD) (t : Fin cfg0.N) (l : Fin 2048) (k : Fin 480) :
    iblk m c 0 t (ix2 l k) = m ((c.tc : Thread nD τ).loc main_arg0) (ix2 (rowOf t l) k) := by
  rw [← V_main_arg0 m c]
  blk_simp [iblk]
  refine congrArg _ ?_
  blk_ext [index0_0, rowOf]

/-- The input projections as a point reads them. -/
theorem iblk2_eq (c : Dev nD) (t : Fin cfg0.N) : iblk m c 2 t = m ((c.tc : Thread nD τ).loc main_arg3) := by
  funext j
  rw [← V_main_arg3 m c]
  blk_simp [iblk]
  refine congrArg _ ?_
  blk_ext [index0_2]

/-- The coefficient projections as a point reads them. -/
theorem iblk4_eq (c : Dev nD) (t : Fin cfg0.N) : iblk m c 4 t = m ((c.tc : Thread nD τ).loc main_arg6) := by
  funext j
  rw [← V_main_arg6 m c]
  blk_simp [iblk]
  refine congrArg _ ?_
  blk_ext [index0_4]

/-- The step-size projections as a point reads them. -/
theorem iblk5_eq (c : Dev nD) (t : Fin cfg0.N) : iblk m c 5 t = m ((c.tc : Thread nD τ).loc main_arg7) := by
  funext j
  rw [← V_main_arg7 m c]
  blk_simp [iblk]
  refine congrArg _ ?_
  blk_ext [index0_5]

/-- The output projections as a point reads them. -/
theorem iblk6_eq (c : Dev nD) (t : Fin cfg0.N) : iblk m c 6 t = m ((c.tc : Thread nD τ).loc main_arg11) := by
  funext j
  rw [← V_main_arg11 m c]
  blk_simp [iblk]
  refine congrArg _ ?_
  blk_ext [index0_6]

/-- The convolution weights as the launch finds them: the argument without its unit axis. -/
theorem V_main_v0 (c : Dev nD) (i : Fin 5) (e : Fin 512) (k : Fin 4) :
    (V m c main_v0 : FVec Ideal S5x512x4 .f32) (ix3 i e k) = m ((c.tc : Thread nD τ).loc main_arg4) (ix4 i e 0 k) := by
  have h : (V m c main_v0 : FVec Ideal S5x512x4 .f32)
      = shapeCast S5x512x4 (m ((c.tc : Thread nD τ).loc main_arg4) : FVec Ideal S5x512x1x4 .f32) shapeCasts_S5x512x1x4_S5x512x4 := rfl
  rw [h]
  pointwise

/-- The convolution weights as a point reads them. -/
theorem iblk3_apply (c : Dev nD) (t : Fin cfg0.N) (i : Fin 5) (e : Fin 512) (k : Fin 4) :
    iblk m c 3 t (ix3 i e k) = m ((c.tc : Thread nD τ).loc main_arg4) (ix4 i e 0 k) := by
  rw [← V_main_v0 m c]
  blk_simp [iblk]
  refine congrArg _ ?_
  blk_ext [index0_3]

/-- The pre-projection's buffer inside the array. -/
theorem pad1_apply (c : Dev nD) (t : Fin cfg0.N) (d : Fin 256) (k : Fin 480) :
    pad1 m c t (ix2 d ⟨k.val, by omega⟩) = m ((c.tc : Thread nD τ).loc main_arg1) (ix2 d k) := by
  have hm : win0_1.moved (grid0.coords t) (ix2 d ⟨k.val, by omega⟩) = true := (win0_1.moved_iff _ _).mpr fun a => by
    match a with
    | ⟨0, _⟩ => exact d.isLt
    | ⟨1, _⟩ => exact k.isLt
  rw [← V_main_arg1 m c]
  unfold pad1 Pipeline.Window.fill
  rw [dif_pos hm]
  blk_simp [iblk]
  refine congrArg _ ?_
  blk_ext [index0_1]

/-- The classifier's buffer inside the array. -/
theorem pad7_apply (c : Dev nD) (t : Fin cfg0.N) (n : Fin 8) (d : Fin 256) :
    pad7 m c t (ix2 ⟨n.val, by omega⟩ d) = m ((c.tc : Thread nD τ).loc main_arg14) (ix2 n d) := by
  have hm : win0_7.moved (grid0.coords t) (ix2 ⟨n.val, by omega⟩ d) = true := (win0_7.moved_iff _ _).mpr fun a => by
    match a with
    | ⟨0, _⟩ => exact n.isLt
    | ⟨1, _⟩ => exact d.isLt
  rw [← V_main_arg14 m c]
  unfold pad7 Pipeline.Window.fill
  rw [dif_pos hm]
  blk_simp [iblk]
  refine congrArg _ ?_
  blk_ext [index0_7]

/-- The prepared pre-projection's rows. -/
theorem rows480_apply (x : Vec Ideal S256x512 .f32) (k : Fin 480) (d : Fin 256) :
    rows480 (S14 x) (ix2 k d) = x (ix2 d ⟨k.val, by omega⟩) := by
  unfold rows480
  rw [View.ld_unit_apply_of _ _ _ _ _ (ix2 (⟨k.val, by omega⟩ : Fin 512) d) (fun a => by
    match a with
    | ⟨0, _⟩ => exact (Nat.zero_add _).symm
    | ⟨1, _⟩ => exact (Nat.zero_add _).symm)]
  rw [S14_apply x _ (ix2 d ⟨k.val, by omega⟩) rfl rfl]
  rfl

variable {A : Row.Args}

/-- The prepared input projections of a block. -/
theorem weights_coe {x3 : Vec Ideal S5x1024x256 .f32} {x4 : Vec Ideal S5x512x4 .f32}
    (h3 : ∀ i e d, x3 (ix3 i e d) = (A.inp i e d : EReal)) (h4 : ∀ i e, x4 (ix3 i e 3) = (A.tap i e : EReal))
    (i : Fin 5) (e : Fin 1024) (d : Fin 256) : scaled x3 x4 (ix3 i e d) = ((A.weights i).W e d : EReal) := by
  show (if h : e.val < 512 then x3 (ix3 i e d) * x4 (ix3 i ⟨e.val, h⟩ 3) else x3 (ix3 i e d) : EReal)
    = ((if h : e.val < 512 then A.inp i e d * A.tap i ⟨e.val, h⟩ else A.inp i e d : ℝ) : EReal)
  split_ifs with h
  · rw [h3, h4, EReal.coe_mul]
  · rw [h3]

/-- One block on a row, from the stacks of prepared weights. -/
theorem slice_block {a : Vec Ideal S5x1024x256 .bf16} {b : Vec Ideal S5x48x512 .bf16} {d : Vec Ideal S5x512x16 .bf16}
    {e : Vec Ideal S5x256x512 .bf16} (ha : ∀ i x y, a (ix3 i x y) = ((A.weights i).W x y : EReal))
    (hb : ∀ i x y, b (ix3 i x y) = (A.co i x y : EReal)) (hd : ∀ i x y, d (ix3 i x y) = (A.st i x y : EReal))
    (he : ∀ i x y, e (ix3 i x y) = (A.out i x y : EReal)) (i : Fin 5) (hi hx ht ho) {h : FVec Ideal S256x2048 .f32}
    {H : Fin 256 → ℝ} {l : Fin 2048} (hh : ∀ k, h (ix2 k l) = (H k : EReal))
    (hv : ∀ k, Row.args (A.weights i) H k ≤ 30) (k : Fin 256) :
    block (View.ld a (Rect.unit (s := S5x1024x256) ![i.val, 0, 0] S1x1024x256.size hi))
      (View.ld b (Rect.unit (s := S5x48x512) ![i.val, 0, 0] S1x48x512.size hx))
      (View.ld d (Rect.unit (s := S5x512x16) ![i.val, 0, 0] S1x512x16.size ht))
      (View.ld e (Rect.unit (s := S5x256x512) ![i.val, 0, 0] S1x256x512.size ho)) h (ix2 k l)
      = (Row.next (A.weights i) H k : EReal) :=
  block_coe (fun x y => (ld_slice _ i hi x y).trans (ha i x y)) (fun x y => (ld_slice _ i hx x y).trans (hb i x y))
    (fun x y => (ld_slice _ i ht x y).trans (hd i x y)) (fun x y => (ld_slice _ i ho x y).trans (he i x y)) hh hv k

/-- The arguments as the kernel finds them hold the reals `A`. -/
abbrev Holds (c : Dev nD) (A : Row.Args) : Prop :=
  A.Reads (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg6))
    (m ((c.tc : Thread nD τ).loc main_arg7)) (m ((c.tc : Thread nD τ).loc main_arg11)) (m ((c.tc : Thread nD τ).loc main_arg14))

/-- What a point stores at an entry, over the reals. -/
theorem outAt_apply (c : Dev nD) (hR : Holds m c A) (hS : A.Small) (t : Fin cfg0.N) (l : Fin 2048) (n : Fin 8) :
    outAt m c t (ix2 l n) = (A.result (rowOf t l) n : EReal) := by
  have step := @slice_block A (scaled (iblk m c 2 t0) (iblk m c 3 t0)) (m ((c.tc : Thread nD τ).loc main_arg6))
    (m ((c.tc : Thread nD τ).loc main_arg7)) (m ((c.tc : Thread nD τ).loc main_arg11))
    (weights_coe (fun i e d => by rw [iblk2_eq]; exact hR.inp i e d) (fun i e => (iblk3_apply m c t0 i e 3).trans (hR.tap i e)))
    hR.co hR.st hR.out
  have h0 := first_coe (x := iblk m c 0 t) (p := rows480 (S14 (pad1 m c t0))) (l := l)
    (fun k => (iblk0_apply m c t l k).trans (hR.x _ k))
    (fun d k => (rows480_apply _ k d).trans ((pad1_apply m c t0 d k).trans (hR.pre d k)))
  unfold outAt bodyOut
  rw [S10_eq, S11_eq, S12_eq, S13_eq, iblk4_eq, iblk5_eq, iblk6_eq]
  refine logits_coe (H := A.feat5 (rowOf t l)) (step 4 _ _ _ _ (step 3 _ _ _ _ (step 2 _ _ _ _ (step 1 _ _ _ _ (step 0 _ _ _ _ h0 (hS.s0 (rowOf t l)))
    (hS.s1 (rowOf t l))) (hS.s2 (rowOf t l))) (hS.s3 (rowOf t l))) (hS.s4 (rowOf t l))) (fun n d => ?_) n
  rw [S15_low _ _ (ix2 ⟨n.val, by omega⟩ d) rfl rfl n.isLt]
  exact (pad7_apply m c t0 n d).trans (hR.cls n d)

/-- The result array ends at the real scores. -/
theorem final_o (c : Dev nD) (hR : Holds m c A) (hS : A.Small) : (dats m 0 c).arrAt 8 cfg0.N = A.scores := by
  refine (dats m 0 c).arrAt_eq_of_covers 8 _ (by decide +kernel) fun t hf y => ?_
  blk_simp
  rw [after0_8]
  obtain ⟨l, n, rfl⟩ : ∃ (l : Fin 2048) (n : Fin 8), y = ix2 l n := ⟨y 0, y 1, eq_ix2 y⟩
  refine (outAt_apply m c hR hS t l n).trans ?_
  have e : ((win0_8.blk t).view.emb (ix2 l n) : S4096x8.Idx) = ix2 (rowOf t l) n := by blk_ext [index0_8, rowOf]
  show _ = A.scores ((win0_8.blk t).view.emb (ix2 l n))
  rw [e]
  rfl

/-- The run ends with the result at the real scores. -/
theorem run_scores :
    θ_run defs (onTc (τ := τ) (main (F := Ideal))) ⟨m, fun _ => 0, ρ⟩ fun r => ∀ (c : Dev nD) (A : Row.Args),
      Holds m c A → A.Small → r.2.mem ((c.tc : Thread nD τ).loc main_v1) = A.scores :=
  (θ_run defs _ _).mono (fun _ h c A hA hS => ((h c).1 8).trans (final_o m c hA hS)) (run_main m ρ)

end Cert.KernelIdeal.Own
-- ==== Proof.ReferenceIdealRow.lean ====
/- The reference's operations over the reals, one row of the batch at a time. -/
module

public import proofs.«01_k».proof.Proof.Gen.ReferenceIdeal
public import proofs.«01_k».proof.Proof.Row
@[expose] public section

set_option maxRecDepth 16384

noncomputable section

namespace Cert.ReferenceIdeal.Own

open Idealize.ShloMosaic
open Cert.ReferenceIdeal Cert.ReferenceIdeal.Gen

/-- A vector of 512 channels on every row. -/
def wide (v : FVec Ideal S512 .f32) : FVec Ideal S4096x1x512 .f32 :=
  broadcastInDim S4096x1x512 ![0, 1, 2] bcast_S1x1x512_S4096x1x512_0_1_2
    (broadcastInDim S1x1x512 ![2] bcast_S512_S1x1x512_2 v)

/-- A constant on every channel of every row. -/
def const (w : BitVec 32) : FVec Ideal S4096x1x512 .f32 :=
  broadcastInDim S4096x1x512 ![] bcast_S_S4096x1x512 (constant S_ .f32 w)

/-- `x · 1 / (1 + exp (-x))`. -/
def silu (x : FVec Ideal S4096x1x512 .f32) : FVec Ideal S4096x1x512 .f32 :=
  mulf x (Host.divf (const 0x3F800000#32) (addf (const 0x3F800000#32) (Host.exp (Host.negf x))))

/-- The input projection. -/
def project (h : FVec Ideal S4096x1x256 .f32) (W : FVec Ideal S1024x256 .f32) : FVec Ideal S4096x1x1024 .f32 :=
  Host.dotGeneral dot_S4096x1x256_S1024x256_S4096x1x1024_2_1_01_0_n_n none h W

/-- The first 512 channels after three rows of zeros. -/
def padded (p : FVec Ideal S4096x1x1024 .f32) : FVec Ideal S4096x4x512 .f32 :=
  pad S4096x4x512 ![0, 3, 0] ![0, 0, 0] ![0, 0, 0]
    (extractStridedSlice S4096x1x512 ![0, 0, 0] p slices_S4096x1x1024_S4096x1x512_0_0_0)
    (sitofp .f32 (constantI S_ 32 0#32)) pads_S4096x1x512_S4096x4x512_000_300_000 h_S_

/-- The other 512 channels. -/
def gates (p : FVec Ideal S4096x1x1024 .f32) : FVec Ideal S4096x1x512 .f32 :=
  extractStridedSlice S4096x1x512 ![0, 0, 512] p slices_S4096x1x1024_S4096x1x512_0_0_512

/-- The causal convolution of four taps and its bias. -/
def conv (u : FVec Ideal S4096x4x512 .f32) (C : FVec Ideal S512x1x4 .f32) (bias : FVec Ideal S512 .f32) :
    FVec Ideal S4096x1x512 .f32 :=
  addf
    (addf
      (addf
        (addf
          (addf (const 0x00000000#32)
            (mulf (extractStridedSlice S4096x1x512 ![0, 0, 0] u slices_S4096x4x512_S4096x1x512_0_0_0)
              (wide (shapeCast _ (extractStridedSlice S512x1x1 ![0, 0, 0] C slices_S512x1x4_S512x1x1_0_0_0) shapeCasts_S512x1x1_S512))))
          (mulf (extractStridedSlice S4096x1x512 ![0, 1, 0] u slices_S4096x4x512_S4096x1x512_0_1_0)
            (wide (shapeCast _ (extractStridedSlice S512x1x1 ![0, 0, 1] C slices_S512x1x4_S512x1x1_0_0_1) shapeCasts_S512x1x1_S512))))
        (mulf (extractStridedSlice S4096x1x512 ![0, 2, 0] u slices_S4096x4x512_S4096x1x512_0_2_0)
          (wide (shapeCast _ (extractStridedSlice S512x1x1 ![0, 0, 2] C slices_S512x1x4_S512x1x1_0_0_2) shapeCasts_S512x1x1_S512))))
      (mulf (extractStridedSlice S4096x1x512 ![0, 3, 0] u slices_S4096x4x512_S4096x1x512_0_3_0)
        (wide (shapeCast _ (extractStridedSlice S512x1x1 ![0, 0, 3] C slices_S512x1x4_S512x1x1_0_0_3) shapeCasts_S512x1x1_S512))))
    (wide bias)

/-- The coefficient projection. -/
def coefs (s : FVec Ideal S4096x1x512 .f32) (X : FVec Ideal S48x512 .f32) : FVec Ideal S4096x1x48 .f32 :=
  Host.dotGeneral dot_S4096x1x512_S48x512_S4096x1x48_2_1_01_0_n_n none s X

/-- The softplus argument: the step-size projection and its bias. -/
def arg (q : FVec Ideal S4096x1x48 .f32) (T : FVec Ideal S512x16 .f32) (bias : FVec Ideal S512 .f32) :
    FVec Ideal S4096x1x512 .f32 :=
  addf
    (Host.dotGeneral dot_S4096x1x16_S512x16_S4096x1x512_2_1_01_0_n_n none
      (extractStridedSlice S4096x1x16 ![0, 0, 0] q slices_S4096x1x48_S4096x1x16_0_0_0) T)
    (wide bias)

/-- The stable softplus `max v 0 + log1p (exp (-|v|))`, `v` itself where it is not a number. -/
def soft (v : FVec Ideal S4096x1x512 .f32) : FVec Ideal S4096x1x512 .f32 :=
  select (cmpf .une (subf v (const 0x00000000#32)) (subf v (const 0x00000000#32))) (addf v (const 0x00000000#32))
    (addf (maximumf v (const 0x00000000#32)) (Host.log1p (Host.exp (Host.negf (Host.absf (subf v (const 0x00000000#32)))))))

/-- A value per channel on every state. -/
def spread (g : FVec Ideal S4096x1x512 .f32) : FVec Ideal S4096x1x512x16 .f32 :=
  broadcastInDim S4096x1x512x16 ![0, 1, 2, 3] bcast_S4096x1x512x1_S4096x1x512x16_0_1_2_3
    (broadcastInDim S4096x1x512x1 ![0, 1, 2] bcast_S4096x1x512_S4096x1x512x1_0_1_2 g)

/-- The scan of one step from the zero state, contracted with the output coefficients. -/
def scan (g s : FVec Ideal S4096x1x512 .f32) (q : FVec Ideal S4096x1x48 .f32) (AL : FVec Ideal S512x16 .f32) :
    FVec Ideal S4096x512 .f32 :=
  Host.dotGeneral dot_S4096x512x16_S4096x16_S4096x512_2_1_1_n_0_0 none
    (addf
      (mulf
        (shapeCast _ (Host.exp (mulf (spread g)
          (broadcastInDim S4096x1x512x16 ![0, 1, 2, 3] bcast_S1x1x512x16_S4096x1x512x16_0_1_2_3
            (broadcastInDim S1x1x512x16 ![2, 3] bcast_S512x16_S1x1x512x16_2_3 (Host.negf (Host.exp AL))))))
          shapeCasts_S4096x1x512x16_S4096x512x16)
        (broadcastInDim S4096x512x16 ![] bcast_S_S4096x512x16 (constant S_ .f32 0x00000000#32)))
      (shapeCast _ (mulf (mulf (spread g)
          (broadcastInDim S4096x1x512x16 ![0, 1, 2, 3] bcast_S4096x1x1x16_S4096x1x512x16_0_1_2_3
            (broadcastInDim S4096x1x1x16 ![0, 1, 3] bcast_S4096x1x16_S4096x1x1x16_0_1_3
              (extractStridedSlice S4096x1x16 ![0, 0, 16] q slices_S4096x1x48_S4096x1x16_0_0_16))))
          (spread s)) shapeCasts_S4096x1x512x16_S4096x512x16))
    (shapeCast _ (extractStridedSlice S4096x1x16 ![0, 0, 32] q slices_S4096x1x48_S4096x1x16_0_0_32) shapeCasts_S4096x1x16_S4096x16)

/-- The output projection of the gated scan, added to the block's input. -/
def resid (h : FVec Ideal S4096x1x256 .f32) (y : FVec Ideal S4096x512 .f32) (s z : FVec Ideal S4096x1x512 .f32)
    (D : FVec Ideal S512 .f32) (O : FVec Ideal S256x512 .f32) : FVec Ideal S4096x1x256 .f32 :=
  addf h (Host.dotGeneral dot_S4096x1x512_S256x512_S4096x1x256_2_1_01_0_n_n none
    (mulf (addf (broadcastInDim S4096x1x512 ![0, 2] bcast_S4096x512_S4096x1x512_0_2 y) (mulf (wide D) s)) (silu z)) O)

/-- The gated input of the scan. -/
def gated (h : FVec Ideal S4096x1x256 .f32) (W : FVec Ideal S1024x256 .f32) (C : FVec Ideal S512x1x4 .f32)
    (cb : FVec Ideal S512 .f32) : FVec Ideal S4096x1x512 .f32 :=
  silu (conv (padded (project h W)) C cb)

/-- One block: the features to the next features. -/
def block (h : FVec Ideal S4096x1x256 .f32) (W : FVec Ideal S1024x256 .f32) (C : FVec Ideal S512x1x4 .f32)
    (cb : FVec Ideal S512 .f32) (X : FVec Ideal S48x512 .f32) (T : FVec Ideal S512x16 .f32) (tb : FVec Ideal S512 .f32)
    (AL : FVec Ideal S512x16 .f32) (D : FVec Ideal S512 .f32) (O : FVec Ideal S256x512 .f32) : FVec Ideal S4096x1x256 .f32 :=
  resid h
    (scan (soft (arg (coefs (gated h W C cb) X) T tb)) (gated h W C cb) (coefs (gated h W C cb) X) AL)
    (gated h W C cb) (gates (project h W)) D O

/-- The gate of a real. -/
theorem silu_coe {v : FVec Ideal S4096x1x512 .f32} {x : ℝ} {b : Fin 4096} {e : Fin 512}
    (hv : v (ix3 b 0 e) = (x : EReal)) : silu v (ix3 b 0 e) = (Row.silu x : EReal) := by
  pointwise [silu, const]
  rw [hv, ← EReal.coe_neg, Ideal.exp_coe, Row.one_add_coe, ← EReal.coe_one, Row.div_coe_coe _ (by positivity),
    ← EReal.coe_mul, Row.silu, one_div]

/-- The projected channels of a row. -/
theorem project_coe {h : FVec Ideal S4096x1x256 .f32} {W : FVec Ideal S1024x256 .f32} {H : Fin 256 → ℝ}
    {P : Fin 1024 → Fin 256 → ℝ} {b : Fin 4096} (hh : ∀ d, h (ix3 b 0 d) = (H d : EReal))
    (hW : ∀ e d, W (ix2 e d) = (P e d : EReal)) (e : Fin 1024) : project h W (ix3 b 0 e) = (Row.chan P H e : EReal) := by
  pointwise [project]
  rw [Row.dot_coe hh (hW e), Row.chan]
  simp only [mul_comm]

/-- The gate channels of a row. -/
theorem gates_apply (p : FVec Ideal S4096x1x1024 .f32) (b : Fin 4096) (e : Fin 512) :
    gates p (ix3 b 0 e) = p (ix3 b 0 (Row.hi e)) := by
  pointwise [gates]
  rfl

/-- The integer zero as a number. -/
theorem sitofp_zero : (FloatOps.sitofp (F := Ideal) .f32 0#32 : EReal) = 0 := by
  show (((0#32 : BitVec 32).toInt : ℝ) : EReal) = 0
  simp

/-- The padded channels, row 0. -/
theorem padded0_apply (p : FVec Ideal S4096x1x1024 .f32) (b : Fin 4096) (e : Fin 512) :
    padded p (ix3 b 0 e) = 0 := by
  pointwise [padded]
  exact sitofp_zero

/-- The padded channels, row 1. -/
theorem padded1_apply (p : FVec Ideal S4096x1x1024 .f32) (b : Fin 4096) (e : Fin 512) :
    padded p (ix3 b 1 e) = 0 := by
  pointwise [padded]
  exact sitofp_zero

/-- The padded channels, row 2. -/
theorem padded2_apply (p : FVec Ideal S4096x1x1024 .f32) (b : Fin 4096) (e : Fin 512) :
    padded p (ix3 b 2 e) = 0 := by
  pointwise [padded]
  exact sitofp_zero

/-- The padded channels, row 3. -/
theorem padded3_apply (p : FVec Ideal S4096x1x1024 .f32) (b : Fin 4096) (e : Fin 512) :
    padded p (ix3 b 3 e) = p (ix3 b 0 (Row.lo e)) := by
  pointwise [padded]
  rfl

/-- The convolution. -/
theorem conv_coe {u : FVec Ideal S4096x4x512 .f32} {C : FVec Ideal S512x1x4 .f32} {cb : FVec Ideal S512 .f32} {x t : ℝ}
    {b : Fin 4096} {e : Fin 512} (h0 : u (ix3 b 0 e) = 0) (h1 : u (ix3 b 1 e) = 0) (h2 : u (ix3 b 2 e) = 0)
    (h3 : u (ix3 b 3 e) = (x : EReal)) (hC : C (ix3 e 0 3) = (t : EReal)) (hb : cb (ix1 e) = 0) :
    conv u C cb (ix3 b 0 e) = ((x * t : ℝ) : EReal) := by
  pointwise [conv, wide, const]
  rw [h0, h1, h2, h3, hC, hb, zero_mul, zero_mul, zero_mul, zero_add, zero_add, zero_add, add_zero, EReal.coe_mul]

/-- The coefficients of a row. -/
theorem coefs_coe {s : FVec Ideal S4096x1x512 .f32} {X : FVec Ideal S48x512 .f32} {S : Fin 512 → ℝ} {P : Fin 48 → Fin 512 → ℝ}
    {b : Fin 4096} (hs : ∀ e, s (ix3 b 0 e) = (S e : EReal)) (hX : ∀ f e, X (ix2 f e) = (P f e : EReal)) (f : Fin 48) :
    coefs s X (ix3 b 0 f) = (Row.coeff P S f : EReal) := by
  pointwise [coefs]
  rw [Row.dot_coe hs (hX f), Row.coeff]
  simp only [mul_comm]

/-- The softplus argument of a row. -/
theorem arg_coe {q : FVec Ideal S4096x1x48 .f32} {T : FVec Ideal S512x16 .f32} {tb : FVec Ideal S512 .f32} {Q : Fin 48 → ℝ}
    {P : Fin 512 → Fin 16 → ℝ} {b : Fin 4096} (hq : ∀ f, q (ix3 b 0 f) = (Q f : EReal))
    (hT : ∀ e r, T (ix2 e r) = (P e r : EReal)) (hb : ∀ e, tb (ix1 e) = ((-Row.kappa : ℝ) : EReal)) (e : Fin 512) :
    arg q T tb (ix3 b 0 e) = (Row.stepArg P Q e : EReal) := by
  pointwise [arg, wide]
  refine (congrArg₂ (· + ·) (Row.dot_coe (fun r => hq (Row.stepIx r)) (hT e)) (hb e)).trans ?_
  rw [← EReal.coe_add, Row.stepArg, ← sub_eq_add_neg]
  simp only [mul_comm]

/-- The softplus of a real. -/
theorem soft_coe {v : FVec Ideal S4096x1x512 .f32} {x : ℝ} {b : Fin 4096} {e : Fin 512}
    (hv : v (ix3 b 0 e) = (x : EReal)) : soft v (ix3 b 0 e) = (Row.softplus x : EReal) := by
  pointwise [soft, const]
  have ha : FloatOps.absf (F := Ideal) (φ := .f32) (x : EReal) = ((|x| : ℝ) : EReal) := rfl
  rw [if_neg (fun h => h rfl), hv, ha, ← EReal.coe_neg, Ideal.exp_coe, Ideal.log1p, Row.log_one_add_exp, ← EReal.coe_zero,
    ← EReal.coe_strictMono.monotone.map_max, ← EReal.coe_add, Row.softplus_stable]

/-- The scan of a row: the state decays from zero. -/
theorem scan_coe {g s : FVec Ideal S4096x1x512 .f32} {q : FVec Ideal S4096x1x48 .f32} (AL : FVec Ideal S512x16 .f32) {x y : ℝ} {Q : Fin 48 → ℝ}
    {b : Fin 4096} {e : Fin 512} (hg : g (ix3 b 0 e) = (x : EReal)) (hs : s (ix3 b 0 e) = (y : EReal))
    (hq : ∀ f, q (ix3 b 0 f) = (Q f : EReal)) : scan g s q AL (ix2 b e) = ((y * (x * Row.inner Q) : ℝ) : EReal) := by
  pointwise [scan, spread]
  rw [Row.inner, Finset.mul_sum, Finset.mul_sum, ← Row.sum_coe]
  refine Finset.sum_congr rfl fun n _ => ?_
  have h16 : q (ix3 b 0 ⟨16 + n.val, by omega⟩) = (Q (Row.inIx n) : EReal) := hq (Row.inIx n)
  have h32 : q (ix3 b 0 ⟨32 + n.val, by omega⟩) = (Q (Row.outIx n) : EReal) := hq (Row.outIx n)
  rw [mul_zero, zero_add, hg, hs, h16, h32, ← EReal.coe_mul, ← EReal.coe_mul, ← EReal.coe_mul]
  exact congrArg _ (by ring)

/-- The residual of a row. -/
theorem resid_coe {h : FVec Ideal S4096x1x256 .f32} {y : FVec Ideal S4096x512 .f32} {s z : FVec Ideal S4096x1x512 .f32} {D : FVec Ideal S512 .f32}
    {O : FVec Ideal S256x512 .f32} {H : Fin 256 → ℝ} {Y S Z : Fin 512 → ℝ} {P : Fin 256 → Fin 512 → ℝ} {b : Fin 4096}
    (hh : ∀ d, h (ix3 b 0 d) = (H d : EReal)) (hy : ∀ e, y (ix2 b e) = (Y e : EReal)) (hs : ∀ e, s (ix3 b 0 e) = (S e : EReal))
    (hz : ∀ e, silu z (ix3 b 0 e) = (Z e : EReal)) (hD : ∀ e, D (ix1 e) = 1) (hO : ∀ d e, O (ix2 d e) = (P d e : EReal)) (d : Fin 256) :
    resid h y s z D O (ix3 b 0 d) = ((H d + ∑ e, P d e * ((Y e + S e) * Z e) : ℝ) : EReal) := by
  pointwise [resid, wide]
  rw [hh, EReal.coe_add, ← Row.sum_coe]
  refine congrArg (_ + ·) (Finset.sum_congr rfl fun e _ => ?_)
  rw [hy, hs, hz, hD, hO, one_mul, ← EReal.coe_add, ← EReal.coe_mul, ← EReal.coe_mul, mul_comm]

/-- One block of the reference is the real block on a row. -/
theorem block_coe {A : Row.Args} {i : Fin 5} {h : FVec Ideal S4096x1x256 .f32} {W : FVec Ideal S1024x256 .f32} {C : FVec Ideal S512x1x4 .f32}
    {cb : FVec Ideal S512 .f32} {X : FVec Ideal S48x512 .f32} {T : FVec Ideal S512x16 .f32} {tb : FVec Ideal S512 .f32}
    (AL : FVec Ideal S512x16 .f32) {D : FVec Ideal S512 .f32} {O : FVec Ideal S256x512 .f32} {H : Fin 256 → ℝ} {b : Fin 4096}
    (hW : ∀ e d, W (ix2 e d) = (A.inp i e d : EReal)) (hC : ∀ e, C (ix3 e 0 3) = (A.tap i e : EReal))
    (hcb : ∀ e, cb (ix1 e) = 0) (hX : ∀ f e, X (ix2 f e) = (A.co i f e : EReal))
    (hT : ∀ e r, T (ix2 e r) = (A.st i e r : EReal)) (htb : ∀ e, tb (ix1 e) = ((-Row.kappa : ℝ) : EReal))
    (hD : ∀ e, D (ix1 e) = 1) (hO : ∀ d e, O (ix2 d e) = (A.out i d e : EReal))
    (hh : ∀ d, h (ix3 b 0 d) = (H d : EReal)) (d : Fin 256) :
    block h W C cb X T tb AL D O (ix3 b 0 d) = (Row.next (A.weights i) H d : EReal) := by
  have hp := project_coe hh hW
  have hs (e : Fin 512) : gated h W C cb (ix3 b 0 e) = (Row.gated (A.weights i).W H e : EReal) := by
    rw [Row.gated, A.chan_lo i H e]
    exact silu_coe (conv_coe (padded0_apply _ b e) (padded1_apply _ b e) (padded2_apply _ b e)
      ((padded3_apply _ b e).trans (hp (Row.lo e))) (hC e) (hcb e))
  have hz (e : Fin 512) : silu (gates (project h W)) (ix3 b 0 e) = (Row.silu (Row.chan (A.weights i).W H (Row.hi e)) : EReal) := by
    rw [A.chan_hi i H e]
    exact silu_coe ((gates_apply _ b e).trans (hp (Row.hi e)))
  have hq := coefs_coe hs hX
  refine (resid_coe hh (fun e => scan_coe AL (soft_coe (arg_coe hq hT htb e)) (hs e) hq) hs hz hD hO d).trans (congrArg _ ?_)
  unfold Row.next Row.mixed
  refine congrArg (_ + ·) (Finset.sum_congr rfl fun e _ => congrArg (_ * ·) (congrArg (· * _) ?_))
  show _ * (Row.softplus (Row.stepArg (A.weights i).T (Row.coeffs (A.weights i) H) e) * Row.inner (Row.coeffs (A.weights i) H)) + _ = _
  rw [mul_add, mul_one]

end Cert.ReferenceIdeal.Own
-- ==== Proof.ReferenceIdealValue.lean ====
/- The reference's result array over the reals. -/
module

public import proofs.«01_k».proof.Proof.ReferenceIdealRow
public import proofs.«01_k».proof.Proof.Gen.ReferenceIdeal.Run
@[expose] public section

set_option maxRecDepth 16384

noncomputable section

namespace Cert.ReferenceIdeal.Own

open Idealize.ShloMosaic
open Cert.ReferenceIdeal Cert.ReferenceIdeal.Gen Cert.ReferenceIdeal.Value Idealize.ShloMosaic.StableHlo Idealize.SL.Sem

/-- The input projection of block `i`. -/
def inpOf (X : FVec Ideal S5x1024x256 .f32) (i : Fin 5) : FVec Ideal S1024x256 .f32 :=
  shapeCast _ (extractStridedSlice S1x1024x256 ![i.val, 0, 0] X ((by decide +kernel : ∀ i : Fin 5, S5x1024x256.Slices ![i.val, 0, 0] S1x1024x256) i)) shapeCasts_S1x1024x256_S1024x256

/-- The input projection of block `i`, entry by entry. -/
theorem inpOf_apply (X : FVec Ideal S5x1024x256 .f32) (i : Fin 5) (x : Fin 1024) (y : Fin 256) : inpOf X i (ix2 x y) = X (ix3 i x y) := by
  pointwise [inpOf]

/-- The convolution taps of block `i`. -/
def tapsOf (X : FVec Ideal S5x512x1x4 .f32) (i : Fin 5) : FVec Ideal S512x1x4 .f32 :=
  shapeCast _ (extractStridedSlice S1x512x1x4 ![i.val, 0, 0, 0] X ((by decide +kernel : ∀ i : Fin 5, S5x512x1x4.Slices ![i.val, 0, 0, 0] S1x512x1x4) i)) shapeCasts_S1x512x1x4_S512x1x4

/-- The convolution taps of block `i`, entry by entry. -/
theorem tapsOf_apply (X : FVec Ideal S5x512x1x4 .f32) (i : Fin 5) (x : Fin 512) (y : Fin 4) : tapsOf X i (ix3 x 0 y) = X (ix4 i x 0 y) := by
  pointwise [tapsOf]

/-- The vector of 512 channels of block `i`. -/
def vecOf (X : FVec Ideal S5x512 .f32) (i : Fin 5) : FVec Ideal S512 .f32 :=
  shapeCast _ (extractStridedSlice S1x512 ![i.val, 0] X ((by decide +kernel : ∀ i : Fin 5, S5x512.Slices ![i.val, 0] S1x512) i)) shapeCasts_S1x512_S512

/-- The vector of 512 channels of block `i`, entry by entry. -/
theorem vecOf_apply (X : FVec Ideal S5x512 .f32) (i : Fin 5) (x : Fin 512) : vecOf X i (ix1 x) = X (ix2 i x) := by
  pointwise [vecOf]

/-- The coefficient projection of block `i`. -/
def coOf (X : FVec Ideal S5x48x512 .f32) (i : Fin 5) : FVec Ideal S48x512 .f32 :=
  shapeCast _ (extractStridedSlice S1x48x512 ![i.val, 0, 0] X ((by decide +kernel : ∀ i : Fin 5, S5x48x512.Slices ![i.val, 0, 0] S1x48x512) i)) shapeCasts_S1x48x512_S48x512

/-- The coefficient projection of block `i`, entry by entry. -/
theorem coOf_apply (X : FVec Ideal S5x48x512 .f32) (i : Fin 5) (x : Fin 48) (y : Fin 512) : coOf X i (ix2 x y) = X (ix3 i x y) := by
  pointwise [coOf]

/-- The step-size projection or the state matrix of block `i`. -/
def stOf (X : FVec Ideal S5x512x16 .f32) (i : Fin 5) : FVec Ideal S512x16 .f32 :=
  shapeCast _ (extractStridedSlice S1x512x16 ![i.val, 0, 0] X ((by decide +kernel : ∀ i : Fin 5, S5x512x16.Slices ![i.val, 0, 0] S1x512x16) i)) shapeCasts_S1x512x16_S512x16

/-- The step-size projection or the state matrix of block `i`, entry by entry. -/
theorem stOf_apply (X : FVec Ideal S5x512x16 .f32) (i : Fin 5) (x : Fin 512) (y : Fin 16) : stOf X i (ix2 x y) = X (ix3 i x y) := by
  pointwise [stOf]

/-- The output projection of block `i`. -/
def outOf (X : FVec Ideal S5x256x512 .f32) (i : Fin 5) : FVec Ideal S256x512 .f32 :=
  shapeCast _ (extractStridedSlice S1x256x512 ![i.val, 0, 0] X ((by decide +kernel : ∀ i : Fin 5, S5x256x512.Slices ![i.val, 0, 0] S1x256x512) i)) shapeCasts_S1x256x512_S256x512

/-- The output projection of block `i`, entry by entry. -/
theorem outOf_apply (X : FVec Ideal S5x256x512 .f32) (i : Fin 5) (x : Fin 256) (y : Fin 512) : outOf X i (ix2 x y) = X (ix3 i x y) := by
  pointwise [outOf]

/-- Block `i` on the argument arrays. -/
def blockAt (V : Valuation τ sig (Elt Ideal)) (i : Fin 5) (h : FVec Ideal S4096x1x256 .f32) : FVec Ideal S4096x1x256 .f32 :=
  block h (inpOf (V (Proc.devRef .tc main_arg3)) i) (tapsOf (V (Proc.devRef .tc main_arg4)) i) (vecOf (V (Proc.devRef .tc main_arg5)) i)
    (coOf (V (Proc.devRef .tc main_arg6)) i) (stOf (V (Proc.devRef .tc main_arg7)) i) (vecOf (V (Proc.devRef .tc main_arg8)) i)
    (stOf (V (Proc.devRef .tc main_arg9)) i) (vecOf (V (Proc.devRef .tc main_arg10)) i) (outOf (V (Proc.devRef .tc main_arg11)) i)

/-- The features before block 0. -/
def features (x : FVec Ideal S4096x480 .f32) (p : FVec Ideal S256x480 .f32) (c : FVec Ideal S256 .f32) : FVec Ideal S4096x1x256 .f32 :=
  broadcastInDim S4096x1x256 ![0, 2] bcast_S4096x256_S4096x1x256_0_2
    (addf (Host.dotGeneral dot_S4096x480_S480x256_S4096x256_1_0_0_1_n_n none x (transpose S480x256 [1, 0] p transposes_S256x480_S480x256_1_0))
      (broadcastInDim S4096x256 ![0, 1] bcast_S1x256_S4096x256_0_1 (broadcastInDim S1x256 ![1] bcast_S256_S1x256_1 c)))

/-- A row's mean over its 256 features. -/
def mean (h : FVec Ideal S4096x1x256 .f32) : FVec Ideal S4096x1x1 .f32 :=
  Host.divf (broadcastInDim S4096x1x1 ![0, 1] bcast_S4096x1_S4096x1x1_0_1
      (Host.reduceAdd h (constant S_ .f32 0x00000000#32) reducesTo_S4096x1x256_S4096x1_d2 h_S_))
    (broadcastInDim S4096x1x1 ![] bcast_S_S4096x1x1 (constant S_ .f32 0x43800000#32))

/-- One value per row on its 256 features. -/
def across (v : FVec Ideal S4096x1x1 .f32) : FVec Ideal S4096x1x256 .f32 :=
  broadcastInDim S4096x1x256 ![0, 1, 2] bcast_S4096x1x1_S4096x1x256_0_1_2 v

/-- The features less their mean. -/
def centre (h : FVec Ideal S4096x1x256 .f32) : FVec Ideal S4096x1x256 .f32 := subf h (across (mean h))

/-- A vector of 256 features on every row. -/
def down (v : FVec Ideal S256 .f32) : FVec Ideal S4096x1x256 .f32 :=
  broadcastInDim S4096x1x256 ![0, 1, 2] bcast_S1x1x256_S4096x1x256_0_1_2 (broadcastInDim S1x1x256 ![2] bcast_S256_S1x1x256_2 v)

/-- The normalisation and the classifier. -/
def classify (h : FVec Ideal S4096x1x256 .f32) (g n : FVec Ideal S256 .f32) (w : FVec Ideal S8x256 .f32) (k : FVec Ideal S8 .f32) :
    FVec Ideal S4096x8 .f32 :=
  addf
    (Host.dotGeneral dot_S4096x256_S256x8_S4096x8_1_0_0_1_n_n none
      (shapeCast _
        (addf (mulf (mulf (centre h)
            (across (Host.rsqrt (addf (mean (mulf (centre h) (centre h)))
              (broadcastInDim S4096x1x1 ![] bcast_S_S4096x1x1 (constant S_ .f32 0x3727C5AC#32))))))
          (down g)) (down n)) shapeCasts_S4096x1x256_S4096x256)
      (transpose S256x8 [1, 0] w transposes_S8x256_S256x8_1_0))
    (broadcastInDim S4096x8 ![0, 1] bcast_S1x8_S4096x8_0_1 (broadcastInDim S1x8 ![1] bcast_S8_S1x8_1 k))

variable (V : Valuation τ sig (Elt Ideal))

/-- The features before block 0, in the run. -/
theorem run_features : res_main_v5 V = features (V (Proc.devRef .tc main_arg0)) (V (Proc.devRef .tc main_arg1)) (V (Proc.devRef .tc main_arg2)) := rfl
/-- Block 0 in the run. -/
theorem run_block0 : res_main_v113 V = blockAt V 0 (res_main_v5 V) := rfl
/-- Block 1 in the run. -/
theorem run_block1 : res_main_v221 V = blockAt V 1 (res_main_v113 V) := rfl
/-- Block 2 in the run. -/
theorem run_block2 : res_main_v329 V = blockAt V 2 (res_main_v221 V) := rfl
/-- Block 3 in the run. -/
theorem run_block3 : res_main_v437 V = blockAt V 3 (res_main_v329 V) := rfl
/-- Block 4 in the run. -/
theorem run_block4 : res_main_v545 V = blockAt V 4 (res_main_v437 V) := rfl

/-- The features before block 0 of a row. -/
theorem features_coe {x : FVec Ideal S4096x480 .f32} {p : FVec Ideal S256x480 .f32} {c : FVec Ideal S256 .f32} {A : Row.Args}
    (hx : ∀ b k, x (ix2 b k) = (A.x b k : EReal)) (hp : ∀ d k, p (ix2 d k) = (A.pre d k : EReal)) (hc : ∀ d, c (ix1 d) = 0)
    (b : Fin 4096) (d : Fin 256) : features x p c (ix3 b 0 d) = (A.feat0 b d : EReal) := by
  pointwise [features]
  rw [hc, add_zero]
  exact Row.dot_coe (hx b) (hp d)

/-- The mean of a row. -/
theorem mean_coe {h : FVec Ideal S4096x1x256 .f32} {H : Fin 256 → ℝ} {b : Fin 4096} (hh : ∀ d, h (ix3 b 0 d) = (H d : EReal)) :
    mean h (ix3 b 0 0) = (((∑ d, H d) / 256 : ℝ) : EReal) := by
  pointwise [mean]
  simp only [hh]
  rw [Row.sum_coe, Row.ofBits_256, Row.div_coe_coe _ (by norm_num)]

/-- The centred features of a row. -/
theorem centre_coe {h : FVec Ideal S4096x1x256 .f32} {H : Fin 256 → ℝ} {b : Fin 4096} (hh : ∀ d, h (ix3 b 0 d) = (H d : EReal))
    (d : Fin 256) : centre h (ix3 b 0 d) = (Row.centered H d : EReal) := by
  pointwise [centre, across]
  rw [mean_coe hh, hh, ← EReal.coe_sub, Row.centered]

/-- The scores of a row. -/
theorem classify_coe {h : FVec Ideal S4096x1x256 .f32} {g n : FVec Ideal S256 .f32} {w : FVec Ideal S8x256 .f32} {k : FVec Ideal S8 .f32}
    {H : Fin 256 → ℝ} {C : Fin 8 → Fin 256 → ℝ} {b : Fin 4096} (hh : ∀ d, h (ix3 b 0 d) = (H d : EReal)) (hg : ∀ d, g (ix1 d) = 1)
    (hn : ∀ d, n (ix1 d) = 0) (hw : ∀ o d, w (ix2 o d) = (C o d : EReal)) (hk : ∀ o, k (ix1 o) = 0) (o : Fin 8) :
    classify h g n w k (ix2 b o) = (Row.score (C o) H : EReal) := by
  have hc := centre_coe hh
  have hs : mean (mulf (centre h) (centre h)) (ix3 b 0 0) = _ :=
    mean_coe (H := fun d => Row.centered H d * Row.centered H d) fun d => by
      rw [mulf_apply, Ideal.mulf_def, hc, ← EReal.coe_mul]
  pointwise [classify, across, down]
  rw [hk, add_zero]
  refine Row.dot_coe (fun d => ?_) (hw o)
  rw [hg, hn, mul_one, add_zero, hc, hs, Row.ofBits_eps, ← EReal.coe_add, Row.rsqrt_pos (Row.var_pos H), ← EReal.coe_mul]
  rfl

/-- What the reference's arguments hold. -/
structure Holds (A : Row.Args) : Prop where
  /-- The arguments that the kernel reads. -/
  reads : A.Reads (V (Proc.devRef .tc main_arg0)) (V (Proc.devRef .tc main_arg1)) (V (Proc.devRef .tc main_arg3)) (V (Proc.devRef .tc main_arg4))
    (V (Proc.devRef .tc main_arg6)) (V (Proc.devRef .tc main_arg7)) (V (Proc.devRef .tc main_arg11)) (V (Proc.devRef .tc main_arg14))
  /-- The others. -/
  fixed : Row.Fixed (V (Proc.devRef .tc main_arg2)) (V (Proc.devRef .tc main_arg5)) (V (Proc.devRef .tc main_arg8)) (V (Proc.devRef .tc main_arg10))
    (V (Proc.devRef .tc main_arg12)) (V (Proc.devRef .tc main_arg13)) (V (Proc.devRef .tc main_arg15))

variable {V} {A : Row.Args}

/-- One block of the run on a row. -/
theorem blockAt_coe (hA : Holds V A) (i : Fin 5) {h : FVec Ideal S4096x1x256 .f32} {H : Fin 256 → ℝ} {b : Fin 4096}
    (hh : ∀ d, h (ix3 b 0 d) = (H d : EReal)) (d : Fin 256) : blockAt V i h (ix3 b 0 d) = (Row.next (A.weights i) H d : EReal) :=
  block_coe _ (fun x y => (inpOf_apply _ i x y).trans (hA.reads.inp i x y)) (fun x => (tapsOf_apply _ i x 3).trans (hA.reads.tap i x))
    (fun x => (vecOf_apply _ i x).trans (hA.fixed.cb i x)) (fun x y => (coOf_apply _ i x y).trans (hA.reads.co i x y))
    (fun x y => (stOf_apply _ i x y).trans (hA.reads.st i x y)) (fun x => (vecOf_apply _ i x).trans (hA.fixed.tb i x))
    (fun x => (vecOf_apply _ i x).trans (hA.fixed.D i x)) (fun x y => (outOf_apply _ i x y).trans (hA.reads.out i x y)) hh d

/-- The result's term is the real scores. -/
theorem scores_eq (hA : Holds V A) :
    classify (res_main_v545 V) (V (Proc.devRef .tc main_arg12)) (V (Proc.devRef .tc main_arg13)) (V (Proc.devRef .tc main_arg14))
      (V (Proc.devRef .tc main_arg15)) = A.scores := by
  funext j
  obtain ⟨b, o, rfl⟩ : ∃ (b : Fin 4096) (o : Fin 8), j = ix2 b o := ⟨j 0, j 1, eq_ix2 j⟩
  rw [run_block4, run_block3, run_block2, run_block1, run_block0, run_features]
  exact classify_coe (blockAt_coe hA 4 (blockAt_coe hA 3 (blockAt_coe hA 2 (blockAt_coe hA 1 (blockAt_coe hA 0
    (features_coe hA.reads.x hA.reads.pre hA.fixed.pb b)))))) hA.fixed.g hA.fixed.n hA.reads.cls hA.fixed.k o

end Cert.ReferenceIdeal.Own
-- ==== Proof.Setup.lean ====
/- What the precondition says of the argument arrays: the arrays that the kernel reads hold reals, the arrays that it leaves out are fixed, and no softplus has an argument above 30. -/
module

public import proofs.«01_k».proof.Proof.Row
public import proofs.«01_k».proof.Proof.Gen.Pre_as_set_up
@[expose] public section

set_option maxRecDepth 16384

noncomputable section

namespace Cert.Pre_as_set_up.Own

open Idealize.ShloMosaic
open Cert.Pre_as_set_up Cert.Pre_as_set_up.Gen Idealize.ShloMosaic.StableHlo

/-- A constant on an array. -/
def fill (S : Shape) (h : S_.BroadcastsInDim S (![] : Fin 0 → Fin S.rank)) (w : BitVec 32) : FVec Ideal S .f32 :=
  broadcastInDim S ![] h (constant S_ .f32 w)

/-- Where an array is finite. -/
def finite {S : Shape} (h : S_.BroadcastsInDim S (![] : Fin 0 → Fin S.rank)) (a : FVec Ideal S .f32) : IVec S 1 :=
  cmpf .olt (Host.absf a) (fill S h 0x7F800000#32)

/-- Where an array is a constant. -/
def fixedAt {S : Shape} (h : S_.BroadcastsInDim S (![] : Fin 0 → Fin S.rank)) (w : BitVec 32) (a : FVec Ideal S .f32) : IVec S 1 :=
  cmpf .oeq a (fill S h w)

/-- Where the softplus arguments are at most 30. -/
def small (v : FVec Ideal S4096x512 .f32) : IVec S4096x512 1 := cmpf .ole v (fill S4096x512 bcast_S_S4096x512 0x41F00000#32)

/-- A constant of an array, entry by entry. -/
theorem fill_apply {S : Shape} (h : S_.BroadcastsInDim S (![] : Fin 0 → Fin S.rank)) (w : BitVec 32) (j : S.Idx) :
    fill S h w j = Ideal.ofBits .f32 w :=
  ValueIdx.broadcastInDim_scalar_apply h _ j

/-- An extended real of finite absolute value is a real. -/
theorem eq_coe_of_abs_lt {a : EReal} (h : max a (-a) < ⊤) : a = (a.toReal : EReal) := by
  refine (EReal.coe_toReal (fun ht => ?_) (fun hb => ?_)).symm
  · exact absurd (lt_of_le_of_lt (le_max_left _ _) h) (by simp [ht])
  · exact absurd (lt_of_le_of_lt (le_max_right _ _) h) (by simp [hb])

/-- A finite array holds reals. -/
theorem eq_coe_of_finite {S : Shape} {h : S_.BroadcastsInDim S (![] : Fin 0 → Fin S.rank)} {a : FVec Ideal S .f32}
    (hf : finite h a = fun _ => 1#1) (j : S.Idx) : a j = ((a j : EReal).toReal : EReal) := by
  have hj : FloatOps.cmpf (F := Ideal) (φ := .f32) .olt (FloatOps.absf (F := Ideal) (φ := .f32) (a j)) (fill S h 0x7F800000#32 j) = 1#1 :=
    congrFun hf j
  rw [fill_apply, Row.ofBits_top] at hj
  exact eq_coe_of_abs_lt ((Ideal.cmp_olt_eq_one _ _).1 hj)

/-- A fixed array holds its constant. -/
theorem eq_of_fixedAt {S : Shape} {h : S_.BroadcastsInDim S (![] : Fin 0 → Fin S.rank)} {w : BitVec 32} {a : FVec Ideal S .f32}
    (hf : fixedAt h w a = fun _ => 1#1) (j : S.Idx) : a j = Ideal.ofBits .f32 w := by
  have hj : FloatOps.cmpf (F := Ideal) (φ := .f32) .oeq (a j) (fill S h w j) = 1#1 := congrFun hf j
  rw [fill_apply] at hj
  exact (Ideal.cmp_oeq_eq_one _ _).1 hj

/-- A real that is small is at most 30. -/
theorem le_of_small {v : FVec Ideal S4096x512 .f32} (hs : small v = fun _ => 1#1) {x : ℝ} {b : Fin 4096} {e : Fin 512}
    (hv : v (ix2 b e) = (x : EReal)) : x ≤ 30 := by
  have hj : FloatOps.cmpf (F := Ideal) (φ := .f32) .ole (v (ix2 b e)) (fill S4096x512 bcast_S_S4096x512 0x41F00000#32 (ix2 b e)) = 1#1 :=
    congrFun hs (ix2 b e)
  rw [fill_apply, hv, Row.ofBits_thirty] at hj
  exact EReal.coe_le_coe_iff.1 ((Ideal.cmp_ole_eq_one _ _).1 hj)

/-- The input projection of block `i`. -/
def inpOf (X : FVec Ideal S5x1024x256 .f32) (i : Fin 5) : FVec Ideal S1024x256 .f32 :=
  shapeCast S1024x256 (extractStridedSlice S1x1024x256 ![i.val, 0, 0] X ((by decide +kernel : ∀ i : Fin 5, S5x1024x256.Slices ![i.val, 0, 0] S1x1024x256) i)) shapeCasts_S1x1024x256_S1024x256

/-- The input projection of block `i`, entry by entry. -/
theorem inpOf_apply (X : FVec Ideal S5x1024x256 .f32) (i : Fin 5) (x : Fin 1024) (y : Fin 256) : inpOf X i (ix2 x y) = X (ix3 i x y) := by
  pointwise [inpOf]

/-- The last convolution taps of block `i`. -/
def tapOf (X : FVec Ideal S5x512x1x4 .f32) (i : Fin 5) : FVec Ideal S512 .f32 :=
  shapeCast S512 (extractStridedSlice S1x512x1x1 ![i.val, 0, 0, 3] X ((by decide +kernel : ∀ i : Fin 5, S5x512x1x4.Slices ![i.val, 0, 0, 3] S1x512x1x1) i)) shapeCasts_S1x512x1x1_S512

/-- The last convolution taps of block `i`, entry by entry. -/
theorem tapOf_apply (X : FVec Ideal S5x512x1x4 .f32) (i : Fin 5) (x : Fin 512) : tapOf X i (ix1 x) = X (ix4 i x 0 3) := by
  pointwise [tapOf]

/-- The vector of 512 channels of block `i`. -/
def vecOf (X : FVec Ideal S5x512 .f32) (i : Fin 5) : FVec Ideal S512 .f32 :=
  shapeCast S512 (extractStridedSlice S1x512 ![i.val, 0] X ((by decide +kernel : ∀ i : Fin 5, S5x512.Slices ![i.val, 0] S1x512) i)) shapeCasts_S1x512_S512

/-- The vector of 512 channels of block `i`, entry by entry. -/
theorem vecOf_apply (X : FVec Ideal S5x512 .f32) (i : Fin 5) (x : Fin 512) : vecOf X i (ix1 x) = X (ix2 i x) := by
  pointwise [vecOf]

/-- The coefficient projection of block `i`. -/
def coOf (X : FVec Ideal S5x48x512 .f32) (i : Fin 5) : FVec Ideal S48x512 .f32 :=
  shapeCast S48x512 (extractStridedSlice S1x48x512 ![i.val, 0, 0] X ((by decide +kernel : ∀ i : Fin 5, S5x48x512.Slices ![i.val, 0, 0] S1x48x512) i)) shapeCasts_S1x48x512_S48x512

/-- The coefficient projection of block `i`, entry by entry. -/
theorem coOf_apply (X : FVec Ideal S5x48x512 .f32) (i : Fin 5) (x : Fin 48) (y : Fin 512) : coOf X i (ix2 x y) = X (ix3 i x y) := by
  pointwise [coOf]

/-- The step-size projection of block `i`. -/
def stOf (X : FVec Ideal S5x512x16 .f32) (i : Fin 5) : FVec Ideal S512x16 .f32 :=
  shapeCast S512x16 (extractStridedSlice S1x512x16 ![i.val, 0, 0] X ((by decide +kernel : ∀ i : Fin 5, S5x512x16.Slices ![i.val, 0, 0] S1x512x16) i)) shapeCasts_S1x512x16_S512x16

/-- The step-size projection of block `i`, entry by entry. -/
theorem stOf_apply (X : FVec Ideal S5x512x16 .f32) (i : Fin 5) (x : Fin 512) (y : Fin 16) : stOf X i (ix2 x y) = X (ix3 i x y) := by
  pointwise [stOf]

/-- The output projection of block `i`. -/
def outOf (X : FVec Ideal S5x256x512 .f32) (i : Fin 5) : FVec Ideal S256x512 .f32 :=
  shapeCast S256x512 (extractStridedSlice S1x256x512 ![i.val, 0, 0] X ((by decide +kernel : ∀ i : Fin 5, S5x256x512.Slices ![i.val, 0, 0] S1x256x512) i)) shapeCasts_S1x256x512_S256x512

/-- The output projection of block `i`, entry by entry. -/
theorem outOf_apply (X : FVec Ideal S5x256x512 .f32) (i : Fin 5) (x : Fin 256) (y : Fin 512) : outOf X i (ix2 x y) = X (ix3 i x y) := by
  pointwise [outOf]

/-- A vector of 512 channels on every row. -/
def wide (v : FVec Ideal S512 .f32) : FVec Ideal S4096x512 .f32 :=
  broadcastInDim S4096x512 ![0, 1] bcast_S1x512_S4096x512_0_1 (broadcastInDim S1x512 ![1] bcast_S512_S1x512_1 v)

/-- `x · 1 / (1 + exp (-x))`. -/
def silu (u : FVec Ideal S4096x512 .f32) : FVec Ideal S4096x512 .f32 :=
  mulf u (Host.divf (fill S4096x512 bcast_S_S4096x512 0x3F800000#32)
    (addf (fill S4096x512 bcast_S_S4096x512 0x3F800000#32) (Host.exp (Host.negf u))))

/-- The input projection. -/
def project (h : FVec Ideal S4096x256 .f32) (W : FVec Ideal S1024x256 .f32) : FVec Ideal S4096x1024 .f32 :=
  Host.dotGeneral dot_S4096x256_S1024x256_S4096x1024_1_1_0_0_n_n none h W

/-- The gated input of the scan. -/
def gated (p : FVec Ideal S4096x1024 .f32) (C cb : FVec Ideal S512 .f32) : FVec Ideal S4096x512 .f32 :=
  silu (addf (mulf (extractStridedSlice S4096x512 ![0, 0] p slices_S4096x1024_S4096x512_0_0) (wide C)) (wide cb))

/-- The gate channels. -/
def gates (p : FVec Ideal S4096x1024 .f32) : FVec Ideal S4096x512 .f32 :=
  extractStridedSlice S4096x512 ![0, 512] p slices_S4096x1024_S4096x512_0_512

/-- The coefficient projection. -/
def coefs (s : FVec Ideal S4096x512 .f32) (X : FVec Ideal S48x512 .f32) : FVec Ideal S4096x48 .f32 :=
  Host.dotGeneral dot_S4096x512_S48x512_S4096x48_1_1_0_0_n_n none s X

/-- The softplus argument. -/
def arg (q : FVec Ideal S4096x48 .f32) (T : FVec Ideal S512x16 .f32) (tb : FVec Ideal S512 .f32) : FVec Ideal S4096x512 .f32 :=
  addf (Host.dotGeneral dot_S4096x16_S512x16_S4096x512_1_1_0_0_n_n none
    (extractStridedSlice S4096x16 ![0, 0] q slices_S4096x48_S4096x16_0_0) T) (wide tb)

/-- The inner product of the input and output coefficients, on every channel. -/
def inner (q : FVec Ideal S4096x48 .f32) : FVec Ideal S4096x512 .f32 :=
  broadcastInDim S4096x512 ![0, 1] bcast_S4096x1_S4096x512_0_1 (broadcastInDim S4096x1 ![0] bcast_S4096_S4096x1_0
    (Host.reduceAdd (mulf (extractStridedSlice S4096x16 ![0, 16] q slices_S4096x48_S4096x16_0_16)
      (extractStridedSlice S4096x16 ![0, 32] q slices_S4096x48_S4096x16_0_32)) (constant S_ .f32 0x00000000#32)
      reducesTo_S4096x16_S4096_d1 h_S_))

/-- The output projection of the gated scan, added to the block's input. -/
def resid (h : FVec Ideal S4096x256 .f32) (s v n z : FVec Ideal S4096x512 .f32) (D : FVec Ideal S512 .f32) (O : FVec Ideal S256x512 .f32) :
    FVec Ideal S4096x256 .f32 :=
  addf h (Host.dotGeneral dot_S4096x512_S256x512_S4096x256_1_1_0_0_n_n none
    (mulf (mulf s (addf (mulf (Host.log1p (Host.exp v)) n) (wide D))) (silu z)) O)

/-- The gate of a real. -/
theorem silu_coe {v : FVec Ideal S4096x512 .f32} {x : ℝ} {b : Fin 4096} {e : Fin 512}
    (hv : v (ix2 b e) = (x : EReal)) : silu v (ix2 b e) = (Row.silu x : EReal) := by
  pointwise [silu, fill]
  rw [hv, ← EReal.coe_neg, Ideal.exp_coe, Row.one_add_coe, ← EReal.coe_one, Row.div_coe_coe _ (by positivity),
    ← EReal.coe_mul, Row.silu, one_div]

/-- The projected channels of a row. -/
theorem project_coe {h : FVec Ideal S4096x256 .f32} {W : FVec Ideal S1024x256 .f32} {H : Fin 256 → ℝ}
    {P : Fin 1024 → Fin 256 → ℝ} {b : Fin 4096} (hh : ∀ d, h (ix2 b d) = (H d : EReal))
    (hW : ∀ e d, W (ix2 e d) = (P e d : EReal)) (e : Fin 1024) : project h W (ix2 b e) = (Row.chan P H e : EReal) := by
  pointwise [project]
  rw [Row.dot_coe hh (hW e), Row.chan]
  simp only [mul_comm]

/-- The gated input of a row. -/
theorem gated_coe {p : FVec Ideal S4096x1024 .f32} {C cb : FVec Ideal S512 .f32} {x t : ℝ} {b : Fin 4096} {e : Fin 512}
    (hp : p (ix2 b (Row.lo e)) = (x : EReal)) (hC : C (ix1 e) = (t : EReal)) (hb : cb (ix1 e) = 0) :
    gated p C cb (ix2 b e) = (Row.silu (x * t) : EReal) := by
  refine silu_coe ?_
  pointwise [wide]
  rw [hC, hb, add_zero, EReal.coe_mul]
  exact congrArg (· * _) hp

/-- The gate channels of a row. -/
theorem gates_apply (p : FVec Ideal S4096x1024 .f32) (b : Fin 4096) (e : Fin 512) : gates p (ix2 b e) = p (ix2 b (Row.hi e)) := by
  pointwise [gates]
  rfl

/-- The coefficients of a row. -/
theorem coefs_coe {s : FVec Ideal S4096x512 .f32} {X : FVec Ideal S48x512 .f32} {S : Fin 512 → ℝ} {P : Fin 48 → Fin 512 → ℝ}
    {b : Fin 4096} (hs : ∀ e, s (ix2 b e) = (S e : EReal)) (hX : ∀ f e, X (ix2 f e) = (P f e : EReal)) (f : Fin 48) :
    coefs s X (ix2 b f) = (Row.coeff P S f : EReal) := by
  pointwise [coefs]
  rw [Row.dot_coe hs (hX f), Row.coeff]
  simp only [mul_comm]

/-- The softplus argument of a row. -/
theorem arg_coe {q : FVec Ideal S4096x48 .f32} {T : FVec Ideal S512x16 .f32} {tb : FVec Ideal S512 .f32} {Q : Fin 48 → ℝ}
    {P : Fin 512 → Fin 16 → ℝ} {b : Fin 4096} (hq : ∀ f, q (ix2 b f) = (Q f : EReal))
    (hT : ∀ e r, T (ix2 e r) = (P e r : EReal)) (hb : ∀ e, tb (ix1 e) = ((-Row.kappa : ℝ) : EReal)) (e : Fin 512) :
    arg q T tb (ix2 b e) = (Row.stepArg P Q e : EReal) := by
  pointwise [arg, wide]
  refine (congrArg₂ (· + ·) (Row.dot_coe (fun r => hq (Row.stepIx r)) (hT e)) (hb e)).trans ?_
  rw [← EReal.coe_add, Row.stepArg, ← sub_eq_add_neg]
  simp only [mul_comm]

/-- The inner product of a row's coefficients. -/
theorem inner_coe {q : FVec Ideal S4096x48 .f32} {Q : Fin 48 → ℝ} {b : Fin 4096} (hq : ∀ f, q (ix2 b f) = (Q f : EReal)) (e : Fin 512) :
    inner q (ix2 b e) = (Row.inner Q : EReal) := by
  pointwise [inner]
  exact Row.dot_coe (fun n => hq (Row.inIx n)) (fun n => hq (Row.outIx n))

/-- The residual of a row. -/
theorem resid_coe {h : FVec Ideal S4096x256 .f32} {s v n z : FVec Ideal S4096x512 .f32} {D : FVec Ideal S512 .f32} {O : FVec Ideal S256x512 .f32}
    {H : Fin 256 → ℝ} {S X Z : Fin 512 → ℝ} {N : ℝ} {P : Fin 256 → Fin 512 → ℝ} {b : Fin 4096} (hh : ∀ d, h (ix2 b d) = (H d : EReal))
    (hs : ∀ e, s (ix2 b e) = (S e : EReal)) (hv : ∀ e, v (ix2 b e) = (X e : EReal)) (hn : ∀ e, n (ix2 b e) = (N : EReal))
    (hz : ∀ e, silu z (ix2 b e) = (Z e : EReal)) (hD : ∀ e, D (ix1 e) = 1) (hO : ∀ d e, O (ix2 d e) = (P d e : EReal)) (d : Fin 256) :
    resid h s v n z D O (ix2 b d) = ((H d + ∑ e, P d e * (S e * (Row.softplus (X e) * N + 1) * Z e) : ℝ) : EReal) := by
  pointwise [resid, wide]
  rw [hh, EReal.coe_add, ← Row.sum_coe]
  refine congrArg (_ + ·) (Finset.sum_congr rfl fun e _ => ?_)
  rw [hs, hv, hn, hz, hD, hO, Ideal.exp_coe, Ideal.log1p, Row.log_one_add_exp, ← EReal.coe_one, ← EReal.coe_mul, ← EReal.coe_add,
    ← EReal.coe_mul, ← EReal.coe_mul, ← EReal.coe_mul, mul_comm, Row.softplus]

variable (x : FVec Ideal S4096x480 .f32) (p : FVec Ideal S256x480 .f32) (pb : FVec Ideal S256 .f32) (W : FVec Ideal S5x1024x256 .f32)
  (C : FVec Ideal S5x512x1x4 .f32) (cb : FVec Ideal S5x512 .f32) (X : FVec Ideal S5x48x512 .f32) (T : FVec Ideal S5x512x16 .f32)
  (tb : FVec Ideal S5x512 .f32) (AL : FVec Ideal S5x512x16 .f32) (D : FVec Ideal S5x512 .f32) (O : FVec Ideal S5x256x512 .f32)
  (g n : FVec Ideal S256 .f32) (w : FVec Ideal S8x256 .f32) (k : FVec Ideal S8 .f32)

/-- The features before block 0. -/
def features : FVec Ideal S4096x256 .f32 :=
  addf (Host.dotGeneral dot_S4096x480_S256x480_S4096x256_1_1_0_0_n_n none x p)
    (broadcastInDim S4096x256 ![0, 1] bcast_S1x256_S4096x256_0_1 (broadcastInDim S1x256 ![1] bcast_S256_S1x256_1 pb))

/-- The coefficients of block `i`. -/
def coefsAt (i : Fin 5) (h : FVec Ideal S4096x256 .f32) : FVec Ideal S4096x48 .f32 :=
  coefs (gated (project h (inpOf W i)) (tapOf C i) (vecOf cb i)) (coOf X i)

/-- The softplus arguments of block `i`. -/
def argAt (i : Fin 5) (h : FVec Ideal S4096x256 .f32) : FVec Ideal S4096x512 .f32 :=
  arg (coefsAt W C cb X i h) (stOf T i) (vecOf tb i)

/-- Block `i`. -/
def nextAt (i : Fin 5) (h : FVec Ideal S4096x256 .f32) : FVec Ideal S4096x256 .f32 :=
  resid h (gated (project h (inpOf W i)) (tapOf C i) (vecOf cb i)) (argAt W C cb X T tb i h) (inner (coefsAt W C cb X i h))
    (gates (project h (inpOf W i))) (vecOf D i) (outOf O i)

/-- The features after block 0. -/
def features1 : FVec Ideal S4096x256 .f32 := nextAt W C cb X T tb D O 0 (features x p pb)
/-- The features after block 1. -/
def features2 : FVec Ideal S4096x256 .f32 := nextAt W C cb X T tb D O 1 (features1 x p pb W C cb X T tb D O)
/-- The features after block 2. -/
def features3 : FVec Ideal S4096x256 .f32 := nextAt W C cb X T tb D O 2 (features2 x p pb W C cb X T tb D O)
/-- The features after block 3. -/
def features4 : FVec Ideal S4096x256 .f32 := nextAt W C cb X T tb D O 3 (features3 x p pb W C cb X T tb D O)

set_option maxHeartbeats 4000000 in
/-- The precondition's tests. -/
theorem fn_eq : fn x p pb W C cb X T tb AL D O g n w k =
    (finite bcast_S_S4096x480 x, finite bcast_S_S256x480 p, finite bcast_S_S5x1024x256 W, finite bcast_S_S5x512x1x4 C,
      finite bcast_S_S5x48x512 X, finite bcast_S_S5x512x16 T, finite bcast_S_S5x256x512 O, finite bcast_S_S8x256 w,
      fixedAt bcast_S_S256 0x00000000#32 pb, fixedAt bcast_S_S5x512 0x00000000#32 cb, fixedAt bcast_S_S5x512 0xC0933333#32 tb,
      fixedAt bcast_S_S5x512 0x3F800000#32 D, fixedAt bcast_S_S256 0x3F800000#32 g, fixedAt bcast_S_S256 0x00000000#32 n,
      fixedAt bcast_S_S8 0x00000000#32 k, small (argAt W C cb X T tb 0 (features x p pb)),
      small (argAt W C cb X T tb 1 (features1 x p pb W C cb X T tb D O)), small (argAt W C cb X T tb 2 (features2 x p pb W C cb X T tb D O)),
      small (argAt W C cb X T tb 3 (features3 x p pb W C cb X T tb D O)), small (argAt W C cb X T tb 4 (features4 x p pb W C cb X T tb D O))) := rfl

/-- Every test of the precondition is all ones. -/
def Passes
    (t : IVec S4096x480 1 × IVec S256x480 1 × IVec S5x1024x256 1 × IVec S5x512x1x4 1 × IVec S5x48x512 1 × IVec S5x512x16 1 × IVec S5x256x512 1 × IVec S8x256 1 × IVec S256 1 × IVec S5x512 1 × IVec S5x512 1 × IVec S5x512 1 × IVec S256 1 × IVec S256 1 × IVec S8 1 × IVec S4096x512 1 × IVec S4096x512 1 × IVec S4096x512 1 × IVec S4096x512 1 × IVec S4096x512 1) :
    Prop :=
  t.1 = (fun _ => 1#1)
    ∧ t.2.1 = (fun _ => 1#1)
    ∧ t.2.2.1 = (fun _ => 1#1)
    ∧ t.2.2.2.1 = (fun _ => 1#1)
    ∧ t.2.2.2.2.1 = (fun _ => 1#1)
    ∧ t.2.2.2.2.2.1 = (fun _ => 1#1)
    ∧ t.2.2.2.2.2.2.1 = (fun _ => 1#1)
    ∧ t.2.2.2.2.2.2.2.1 = (fun _ => 1#1)
    ∧ t.2.2.2.2.2.2.2.2.1 = (fun _ => 1#1)
    ∧ t.2.2.2.2.2.2.2.2.2.1 = (fun _ => 1#1)
    ∧ t.2.2.2.2.2.2.2.2.2.2.1 = (fun _ => 1#1)
    ∧ t.2.2.2.2.2.2.2.2.2.2.2.1 = (fun _ => 1#1)
    ∧ t.2.2.2.2.2.2.2.2.2.2.2.2.1 = (fun _ => 1#1)
    ∧ t.2.2.2.2.2.2.2.2.2.2.2.2.2.1 = (fun _ => 1#1)
    ∧ t.2.2.2.2.2.2.2.2.2.2.2.2.2.2.1 = (fun _ => 1#1)
    ∧ t.2.2.2.2.2.2.2.2.2.2.2.2.2.2.2.1 = (fun _ => 1#1)
    ∧ t.2.2.2.2.2.2.2.2.2.2.2.2.2.2.2.2.1 = (fun _ => 1#1)
    ∧ t.2.2.2.2.2.2.2.2.2.2.2.2.2.2.2.2.2.1 = (fun _ => 1#1)
    ∧ t.2.2.2.2.2.2.2.2.2.2.2.2.2.2.2.2.2.2.1 = (fun _ => 1#1)
    ∧ t.2.2.2.2.2.2.2.2.2.2.2.2.2.2.2.2.2.2.2 = (fun _ => 1#1)

/-- The reals that the arrays hold. -/
def reals : Row.Args where
  x b k := (x (ix2 b k) : EReal).toReal
  pre d k := (p (ix2 d k) : EReal).toReal
  inp i e d := (W (ix3 i e d) : EReal).toReal
  tap i e := (C (ix4 i e 0 3) : EReal).toReal
  co i f e := (X (ix3 i f e) : EReal).toReal
  st i e r := (T (ix3 i e r) : EReal).toReal
  out i d e := (O (ix3 i d e) : EReal).toReal
  cls o d := (w (ix2 o d) : EReal).toReal

variable {x p pb W C cb X T tb AL D O g n w k} {A : Row.Args}

/-- The features before block 0 of a row. -/
theorem features_coe (hR : A.Reads x p W C X T O w) (hF : Row.Fixed pb cb tb D g n k) (b : Fin 4096) (d : Fin 256) :
    features x p pb (ix2 b d) = (A.feat0 b d : EReal) := by
  pointwise [features]
  rw [hF.pb, add_zero]
  exact Row.dot_coe (hR.x b) (hR.pre d)

/-- The gated input of a block's row. -/
theorem gatedAt_coe (hR : A.Reads x p W C X T O w) (hF : Row.Fixed pb cb tb D g n k) (i : Fin 5) {h : FVec Ideal S4096x256 .f32}
    {H : Fin 256 → ℝ} {b : Fin 4096} (hh : ∀ d, h (ix2 b d) = (H d : EReal)) (e : Fin 512) :
    gated (project h (inpOf W i)) (tapOf C i) (vecOf cb i) (ix2 b e) = (Row.gated (A.weights i).W H e : EReal) := by
  rw [Row.gated, A.chan_lo i H e]
  exact gated_coe (project_coe hh (fun e d => (inpOf_apply W i e d).trans (hR.inp i e d)) (Row.lo e))
    ((tapOf_apply C i e).trans (hR.tap i e)) ((vecOf_apply cb i e).trans (hF.cb i e))

/-- The coefficients of a block's row. -/
theorem coefsAt_coe (hR : A.Reads x p W C X T O w) (hF : Row.Fixed pb cb tb D g n k) (i : Fin 5) {h : FVec Ideal S4096x256 .f32}
    {H : Fin 256 → ℝ} {b : Fin 4096} (hh : ∀ d, h (ix2 b d) = (H d : EReal)) (f : Fin 48) :
    coefsAt W C cb X i h (ix2 b f) = (Row.coeffs (A.weights i) H f : EReal) :=
  coefs_coe (gatedAt_coe hR hF i hh) (fun f e => (coOf_apply X i f e).trans (hR.co i f e)) f

/-- The softplus arguments of a block's row. -/
theorem argAt_coe (hR : A.Reads x p W C X T O w) (hF : Row.Fixed pb cb tb D g n k) (i : Fin 5) {h : FVec Ideal S4096x256 .f32}
    {H : Fin 256 → ℝ} {b : Fin 4096} (hh : ∀ d, h (ix2 b d) = (H d : EReal)) (e : Fin 512) :
    argAt W C cb X T tb i h (ix2 b e) = (Row.args (A.weights i) H e : EReal) :=
  arg_coe (coefsAt_coe hR hF i hh) (fun e r => (stOf_apply T i e r).trans (hR.st i e r))
    (fun e => (vecOf_apply tb i e).trans (hF.tb i e)) e

/-- A block's row. -/
theorem nextAt_coe (hR : A.Reads x p W C X T O w) (hF : Row.Fixed pb cb tb D g n k) (i : Fin 5) {h : FVec Ideal S4096x256 .f32}
    {H : Fin 256 → ℝ} {b : Fin 4096} (hh : ∀ d, h (ix2 b d) = (H d : EReal)) (d : Fin 256) :
    nextAt W C cb X T tb D O i h (ix2 b d) = (Row.next (A.weights i) H d : EReal) := by
  have hz (e : Fin 512) : silu (gates (project h (inpOf W i))) (ix2 b e) = (Row.silu (Row.chan (A.weights i).W H (Row.hi e)) : EReal) := by
    rw [A.chan_hi i H e]
    exact silu_coe ((gates_apply _ b e).trans (project_coe hh (fun e d => (inpOf_apply W i e d).trans (hR.inp i e d)) (Row.hi e)))
  exact resid_coe hh (gatedAt_coe hR hF i hh) (argAt_coe hR hF i hh) (inner_coe (coefsAt_coe hR hF i hh)) hz
    (fun e => (vecOf_apply D i e).trans (hF.D i e)) (fun d e => (outOf_apply O i d e).trans (hR.out i d e)) d

/-- What the precondition says. -/
theorem read (h : Passes (fn x p pb W C cb X T tb AL D O g n w k)) :
    ∃ A : Row.Args, A.Reads x p W C X T O w ∧ Row.Fixed pb cb tb D g n k ∧ A.Small := by
  rw [fn_eq] at h
  obtain ⟨hx, hp, hW, hC, hX, hT, hO, hw, hpb, hcb, htb, hD, hg, hn, hk, h0, h1, h2, h3, h4⟩ := h
  have hR : (reals x p W C X T O w).Reads x p W C X T O w :=
    ⟨fun _ _ => eq_coe_of_finite hx _, fun _ _ => eq_coe_of_finite hp _, fun _ _ _ => eq_coe_of_finite hW _,
      fun _ _ => eq_coe_of_finite hC _, fun _ _ _ => eq_coe_of_finite hX _, fun _ _ _ => eq_coe_of_finite hT _,
      fun _ _ _ => eq_coe_of_finite hO _, fun _ _ => eq_coe_of_finite hw _⟩
  have zero : Ideal.ofBits .f32 0x00000000#32 = 0 := by pointwise
  have one : Ideal.ofBits .f32 0x3F800000#32 = 1 := by pointwise
  have hF : Row.Fixed pb cb tb D g n k :=
    ⟨fun _ => (eq_of_fixedAt hpb _).trans zero, fun _ _ => (eq_of_fixedAt hcb _).trans zero,
      fun _ _ => (eq_of_fixedAt htb _).trans Row.ofBits_neg_kappa, fun _ _ => (eq_of_fixedAt hD _).trans one,
      fun _ => (eq_of_fixedAt hg _).trans one, fun _ => (eq_of_fixedAt hn _).trans zero, fun _ => (eq_of_fixedAt hk _).trans zero⟩
  have f0 := features_coe hR hF
  have f1 := fun b => nextAt_coe hR hF 0 (f0 b)
  have f2 := fun b => nextAt_coe hR hF 1 (f1 b)
  have f3 := fun b => nextAt_coe hR hF 2 (f2 b)
  have f4 := fun b => nextAt_coe hR hF 3 (f3 b)
  exact ⟨_, hR, hF, fun b e => le_of_small h0 (argAt_coe hR hF 0 (f0 b) e), fun b e => le_of_small h1 (argAt_coe hR hF 1 (f1 b) e),
    fun b e => le_of_small h2 (argAt_coe hR hF 2 (f2 b) e), fun b e => le_of_small h3 (argAt_coe hR hF 3 (f3 b) e),
    fun b e => le_of_small h4 (argAt_coe hR hF 4 (f4 b) e)⟩

end Cert.Pre_as_set_up.Own
-- ==== Proof.lean ====
/- The proof of the claims. -/
module

public import proofs.«01_k».proof.Defs
public import proofs.«01_k».proof.Proof.KernelLaunch
public import proofs.«01_k».proof.Proof.KernelIdealValue
public import proofs.«01_k».proof.Proof.ReferenceIdealValue
public import proofs.«01_k».proof.Proof.Setup

@[expose] public section

noncomputable section

namespace Cert.Proof

open Idealize.ShloMosaic Idealize.SL.Sem

/-- The reference ends with its arguments unchanged; it has no semaphore. -/
theorem frameR : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments as the problem sets them up, the kernel and the reference both end at the real scores. -/
theorem algebraic : Cert.algebraic_KernelIdeal_ReferenceIdeal_pre_as_set_up (hKernelIdeal := Cert.KernelIdeal.Gen.facts)
    (hReferenceIdeal := Cert.ReferenceIdeal.Gen.facts) (hPre_as_set_up := Cert.Pre_as_set_up.Gen.facts) := by
  intro m g m' g' hpre hag
  choose A hR hF hS using fun c => Cert.Pre_as_set_up.Own.read (hpre c)
  have hH (c : Dev Cert.ReferenceIdeal.nD) : Cert.ReferenceIdeal.Own.Holds (StableHlo.launchContents m' c) (A c) := by
    obtain ⟨h0, h1, h2, h3, h4, h5, h6, h7, h8, _, h10, h11, h12, h13, h14, h15⟩ := hag c
    exact ⟨⟨fun b k => (congrFun h0 _).trans ((hR c).x b k), fun d k => (congrFun h1 _).trans ((hR c).pre d k),
        fun i e d => (congrFun h3 _).trans ((hR c).inp i e d), fun i e => (congrFun h4 _).trans ((hR c).tap i e),
        fun i f e => (congrFun h6 _).trans ((hR c).co i f e), fun i e r => (congrFun h7 _).trans ((hR c).st i e r),
        fun i d e => (congrFun h11 _).trans ((hR c).out i d e), fun o d => (congrFun h14 _).trans ((hR c).cls o d)⟩,
      ⟨fun d => (congrFun h2 _).trans ((hF c).pb d), fun i e => (congrFun h5 _).trans ((hF c).cb i e),
        fun i e => (congrFun h8 _).trans ((hF c).tb i e), fun i e => (congrFun h10 _).trans ((hF c).D i e),
        fun d => (congrFun h12 _).trans ((hF c).g d), fun d => (congrFun h13 _).trans ((hF c).n d),
        fun o => (congrFun h15 _).trans ((hF c).k o)⟩⟩
  refine ⟨fun c => (A c).scores, ?_, ?_⟩
  · exact (θ_run Cert.KernelIdeal.defs _ _).mono (fun r h c => ⟨h.2 c (A c) (hR c) (hS c), h.1.1 c⟩)
      (θ_run_and (Cert.KernelIdeal.Own.frame m g) (Cert.KernelIdeal.Own.run_scores m g))
  · exact (θ_run Cert.ReferenceIdeal.defs _ _).mono
      (fun r h c => ⟨(h c).1.trans (Cert.ReferenceIdeal.Own.scores_eq (hH c)), (h c).2⟩) (Cert.ReferenceIdeal.Value.run (F := Ideal) m' g')

/-- All the claims. -/
theorem claim : Cert.Claim := ⟨Cert.Kernel.Gen.facts, Cert.KernelIdeal.Gen.facts, Cert.ReferenceIdeal.Gen.facts, Cert.Pre_as_set_up.Gen.facts,
  fun m ρ _ => Cert.Kernel.Own.frame m ρ, fun m ρ _ => Cert.KernelIdeal.Own.frame m ρ, fun m ρ _ => Cert.KernelIdeal.Own.frame m ρ,
  frameR, fun m ρ _ => frameR m ρ trivial, trivial, algebraic⟩

end Cert.Proof

end
